-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x128 : Shape := ⟨2, ![16384, 128]⟩
abbrev S16384 : Shape := ⟨1, ![16384]⟩
abbrev S100000x128 : Shape := ⟨2, ![100000, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x128 .f32) (main_arg1 : IVec S16384 32) (main_arg2 : FVec F S100000x128 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 100000#32
  let main_v3 : IVec S16384 32 := broadcastInDim S16384 ![] bcast_S_S16384 main_c_1
  let main_v4 : IVec S16384 1 := cmpi .slt main_arg1 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  main_v6
-- ==== Kernel.lean ====
abbrev S16384x128 : Shape := ⟨2, ![16384, 128]⟩
abbrev S16384 : Shape := ⟨1, ![16384]⟩
abbrev S100000x128 : Shape := ⟨2, ![100000, 128]⟩
abbrev S4x128 : Shape := ⟨2, ![4, 128]⟩
abbrev S128x128 : Shape := ⟨2, ![128, 128]⟩
abbrev S512 : Shape := ⟨1, ![512]⟩
abbrev S_ : Shape := ⟨0, ![]⟩
abbrev S1x128 : Shape := ⟨2, ![1, 128]⟩
abbrev S128 : Shape := ⟨1, ![128]⟩
abbrev S16 : Shape := ⟨1, ![16]⟩
abbrev S1x1 : Shape := ⟨2, ![1, 1]⟩
abbrev S1x128x128 : Shape := ⟨3, ![1, 128, 128]⟩
abbrev S1 : Shape := ⟨1, ![1]⟩
abbrev S1x1x1 : Shape := ⟨3, ![1, 1, 1]⟩

abbrev nBuf : Table → Nat
  | .hbm => 7
  | .local .tc .vmem => 2
  | .local .scVector .vmem => 4
  | _ => 0

abbrev bufTy : (tb : Table) → Fin (nBuf tb) → BufTy
  | .hbm, ⟨0, _⟩ => ⟨S16384x128, .f32⟩
  | .hbm, ⟨1, _⟩ => ⟨S16384, .i32⟩
  | .hbm, ⟨2, _⟩ => ⟨S100000x128, .f32⟩
  | .hbm, ⟨3, _⟩ => ⟨S16384, .f32⟩
  | .hbm, ⟨4, _⟩ => ⟨S128x128, .f32⟩
  | .hbm, ⟨5, _⟩ => ⟨S1x1, .f32⟩
  | .hbm, ⟨6, _⟩ => ⟨S_, .f32⟩
  | .local .tc .vmem, ⟨0, _⟩ => ⟨S128x128, .f32⟩
  | .local .tc .vmem, ⟨1, _⟩ => ⟨S1x1, .f32⟩
  | .local .scVector .vmem, ⟨0, _⟩ => ⟨S4x128, .i32⟩
  | .local .scVector .vmem, ⟨1, _⟩ => ⟨S128x128, .f32⟩
  | .local .scVector .vmem, ⟨2, _⟩ => ⟨S128x128, .f32⟩
  | .local .scVector .vmem, ⟨3, _⟩ => ⟨S512, .f32⟩
  | _, _ => ⟨S16384x128, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 10
abbrev cc1_sem1_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![v3.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_6 : BitVec 32 := 0#32
  let v10 : BitVec 32 := Scalar.addi v2 c0_i32_6
  let c0_i32_222_r4 : BitVec 32 := 0#32
  ![v10.toNat, 0]
@[reducible] def k0_t1_loop : Scf.Loop 32 :=
  let c0_i32_12 : BitVec 32 := 0#32
  let c16_i32 : BitVec 32 := 16#32
  let v18 : BitVec 32 := Scalar.addi c0_i32_12 c16_i32
  let c1_i32_13 : BitVec 32 := 1#32
  ⟨c0_i32_12, v18, c1_i32_13⟩

def k0_chk1 (v16 : IVec S16 32) (v261 : IVec S16 32) : Prop :=
  (∀ a x, ((![v16, v261] : Fin 2 → IVec S16 32) a x).toNat < S128x128.size a) ∧
  (∀ a x, ((![v16, v261] : Fin 2 → IVec S16 32) a x).toNat < S128x128.size a)
theorem k0_idx1_inb : ∀ (v16 : IVec S16 32) (v261 : IVec S16 32) (k0_hw1 : k0_chk1 v16 v261), ∀ a x, ((![v16, v261] : Fin 2 → IVec S16 32) a x).toNat < S128x128.size a := fun v16 v261 k0_hw1 => k0_hw1.1
theorem k0_idx2_inb : ∀ (v16 : IVec S16 32) (v261 : IVec S16 32) (k0_hw1 : k0_chk1 v16 v261), ∀ a x, ((![v16, v261] : Fin 2 → IVec S16 32) a x).toNat < S128x128.size a := fun v16 v261 k0_hw1 => k0_hw1.2

def k0_chk2 (v16 : IVec S16 32) (v269 : IVec S16 32) : Prop :=
  (∀ a x, ((![v16, v269] : Fin 2 → IVec S16 32) a x).toNat < S128x128.size a) ∧
  (∀ a x, ((![v16, v269] : Fin 2 → IVec S16 32) a x).toNat < S128x128.size a)
theorem k0_idx3_inb : ∀ (v16 : IVec S16 32) (v269 : IVec S16 32) (k0_hw2 : k0_chk2 v16 v269), ∀ a x, ((![v16, v269] : Fin 2 → IVec S16 32) a x).toNat < S128x128.size a := fun v16 v269 k0_hw2 => k0_hw2.1
theorem k0_idx4_inb : ∀ (v16 : IVec S16 32) (v269 : IVec S16 32) (k0_hw2 : k0_chk2 v16 v269), ∀ a x, ((![v16, v269] : Fin 2 → IVec S16 32) a x).toNat < S128x128.size a := fun v16 v269 k0_hw2 => k0_hw2.2

def k0_chk3 (v16 : IVec S16 32) (v277 : IVec S16 32) : Prop :=
  (∀ a x, ((![v16, v277] : Fin 2 → IVec S16 32) a x).toNat < S128x128.size a) ∧
  (∀ a x, ((![v16, v277] : Fin 2 → IVec S16 32) a x).toNat < S128x128.size a)
theorem k0_idx5_inb : ∀ (v16 : IVec S16 32) (v277 : IVec S16 32) (k0_hw3 : k0_chk3 v16 v277), ∀ a x, ((![v16, v277] : Fin 2 → IVec S16 32) a x).toNat < S128x128.size a := fun v16 v277 k0_hw3 => k0_hw3.1
theorem k0_idx6_inb : ∀ (v16 : IVec S16 32) (v277 : IVec S16 32) (k0_hw3 : k0_chk3 v16 v277), ∀ a x, ((![v16, v277] : Fin 2 → IVec S16 32) a x).toNat < S128x128.size a := fun v16 v277 k0_hw3 => k0_hw3.2

def k0_chk4 (v16 : IVec S16 32) (v285 : IVec S16 32) : Prop :=
  (∀ a x, ((![v16, v285] : Fin 2 → IVec S16 32) a x).toNat < S128x128.size a) ∧
  (∀ a x, ((![v16, v285] : Fin 2 → IVec S16 32) a x).toNat < S128x128.size a)
theorem k0_idx7_inb : ∀ (v16 : IVec S16 32) (v285 : IVec S16 32) (k0_hw4 : k0_chk4 v16 v285), ∀ a x, ((![v16, v285] : Fin 2 → IVec S16 32) a x).toNat < S128x128.size a := fun v16 v285 k0_hw4 => k0_hw4.1
theorem k0_idx8_inb : ∀ (v16 : IVec S16 32) (v285 : IVec S16 32) (k0_hw4 : k0_chk4 v16 v285), ∀ a x, ((![v16, v285] : Fin 2 → IVec S16 32) a x).toNat < S128x128.size a := fun v16 v285 k0_hw4 => k0_hw4.2

def k0_chk5 (v16 : IVec S16 32) (v293 : IVec S16 32) : Prop :=
  (∀ a x, ((![v16, v293] : Fin 2 → IVec S16 32) a x).toNat < S128x128.size a) ∧
  (∀ a x, ((![v16, v293] : Fin 2 → IVec S16 32) a x).toNat < S128x128.size a)
theorem k0_idx9_inb : ∀ (v16 : IVec S16 32) (v293 : IVec S16 32) (k0_hw5 : k0_chk5 v16 v293), ∀ a x, ((![v16, v293] : Fin 2 → IVec S16 32) a x).toNat < S128x128.size a := fun v16 v293 k0_hw5 => k0_hw5.1
theorem k0_idx10_inb : ∀ (v16 : IVec S16 32) (v293 : IVec S16 32) (k0_hw5 : k0_chk5 v16 v293), ∀ a x, ((![v16, v293] : Fin 2 → IVec S16 32) a x).toNat < S128x128.size a := fun v16 v293 k0_hw5 => k0_hw5.2

def k0_chk6 (v16 : IVec S16 32) (v301 : IVec S16 32) : Prop :=
  (∀ a x, ((![v16, v301] : Fin 2 → IVec S16 32) a x).toNat < S128x128.size a) ∧
  (∀ a x, ((![v16, v301] : Fin 2 → IVec S16 32) a x).toNat < S128x128.size a)
theorem k0_idx11_inb : ∀ (v16 : IVec S16 32) (v301 : IVec S16 32) (k0_hw6 : k0_chk6 v16 v301), ∀ a x, ((![v16, v301] : Fin 2 → IVec S16 32) a x).toNat < S128x128.size a := fun v16 v301 k0_hw6 => k0_hw6.1
theorem k0_idx12_inb : ∀ (v16 : IVec S16 32) (v301 : IVec S16 32) (k0_hw6 : k0_chk6 v16 v301), ∀ a x, ((![v16, v301] : Fin 2 → IVec S16 32) a x).toNat < S128x128.size a := fun v16 v301 k0_hw6 => k0_hw6.2

def k0_chk7 (v16 : IVec S16 32) (v309 : IVec S16 32) : Prop :=
  (∀ a x, ((![v16, v309] : Fin 2 → IVec S16 32) a x).toNat < S128x128.size a) ∧
  (∀ a x, ((![v16, v309] : Fin 2 → IVec S16 32) a x).toNat < S128x128.size a)
theorem k0_idx13_inb : ∀ (v16 : IVec S16 32) (v309 : IVec S16 32) (k0_hw7 : k0_chk7 v16 v309), ∀ a x, ((![v16, v309] : Fin 2 → IVec S16 32) a x).toNat < S128x128.size a := fun v16 v309 k0_hw7 => k0_hw7.1
theorem k0_idx14_inb : ∀ (v16 : IVec S16 32) (v309 : IVec S16 32) (k0_hw7 : k0_chk7 v16 v309), ∀ a x, ((![v16, v309] : Fin 2 → IVec S16 32) a x).toNat < S128x128.size a := fun v16 v309 k0_hw7 => k0_hw7.2

def k0_chk8 (v16 : IVec S16 32) (v317 : IVec S16 32) : Prop :=
  (∀ a x, ((![v16, v317] : Fin 2 → IVec S16 32) a x).toNat < S128x128.size a) ∧
  (∀ a x, ((![v16, v317] : Fin 2 → IVec S16 32) a x).toNat < S128x128.size a)
theorem k0_idx15_inb : ∀ (v16 : IVec S16 32) (v317 : IVec S16 32) (k0_hw8 : k0_chk8 v16 v317), ∀ a x, ((![v16, v317] : Fin 2 → IVec S16 32) a x).toNat < S128x128.size a := fun v16 v317 k0_hw8 => k0_hw8.1
theorem k0_idx16_inb : ∀ (v16 : IVec S16 32) (v317 : IVec S16 32) (k0_hw8 : k0_chk8 v16 v317), ∀ a x, ((![v16, v317] : Fin 2 → IVec S16 32) a x).toNat < S128x128.size a := fun v16 v317 k0_hw8 => k0_hw8.2
@[reducible] def k0_t2_loop : Scf.Loop 32 :=
  let c0_i32_17 : BitVec 32 := 0#32
  let c16_i32_18 : BitVec 32 := 16#32
  let v25 : BitVec 32 := Scalar.addi c0_i32_17 c16_i32_18
  let c1_i32_19 : BitVec 32 := 1#32
  ⟨c0_i32_17, v25, c1_i32_19⟩

def k0_chk9 (v23 : IVec S16 32) (v261 : IVec S16 32) : Prop :=
  (∀ a x, ((![v23, v261] : Fin 2 → IVec S16 32) a x).toNat < S128x128.size a) ∧
  (∀ a x, ((![v23, v261] : Fin 2 → IVec S16 32) a x).toNat < S128x128.size a)
theorem k0_idx17_inb : ∀ (v23 : IVec S16 32) (v261 : IVec S16 32) (k0_hw9 : k0_chk9 v23 v261), ∀ a x, ((![v23, v261] : Fin 2 → IVec S16 32) a x).toNat < S128x128.size a := fun v23 v261 k0_hw9 => k0_hw9.1
theorem k0_idx18_inb : ∀ (v23 : IVec S16 32) (v261 : IVec S16 32) (k0_hw9 : k0_chk9 v23 v261), ∀ a x, ((![v23, v261] : Fin 2 → IVec S16 32) a x).toNat < S128x128.size a := fun v23 v261 k0_hw9 => k0_hw9.2

def k0_chk10 (v23 : IVec S16 32) (v269 : IVec S16 32) : Prop :=
  (∀ a x, ((![v23, v269] : Fin 2 → IVec S16 32) a x).toNat < S128x128.size a) ∧
  (∀ a x, ((![v23, v269] : Fin 2 → IVec S16 32) a x).toNat < S128x128.size a)
theorem k0_idx19_inb : ∀ (v23 : IVec S16 32) (v269 : IVec S16 32) (k0_hw10 : k0_chk10 v23 v269), ∀ a x, ((![v23, v269] : Fin 2 → IVec S16 32) a x).toNat < S128x128.size a := fun v23 v269 k0_hw10 => k0_hw10.1
theorem k0_idx20_inb : ∀ (v23 : IVec S16 32) (v269 : IVec S16 32) (k0_hw10 : k0_chk10 v23 v269), ∀ a x, ((![v23, v269] : Fin 2 → IVec S16 32) a x).toNat < S128x128.size a := fun v23 v269 k0_hw10 => k0_hw10.2

def k0_chk11 (v23 : IVec S16 32) (v277 : IVec S16 32) : Prop :=
  (∀ a x, ((![v23, v277] : Fin 2 → IVec S16 32) a x).toNat < S128x128.size a) ∧
  (∀ a x, ((![v23, v277] : Fin 2 → IVec S16 32) a x).toNat < S128x128.size a)
theorem k0_idx21_inb : ∀ (v23 : IVec S16 32) (v277 : IVec S16 32) (k0_hw11 : k0_chk11 v23 v277), ∀ a x, ((![v23, v277] : Fin 2 → IVec S16 32) a x).toNat < S128x128.size a := fun v23 v277 k0_hw11 => k0_hw11.1
theorem k0_idx22_inb : ∀ (v23 : IVec S16 32) (v277 : IVec S16 32) (k0_hw11 : k0_chk11 v23 v277), ∀ a x, ((![v23, v277] : Fin 2 → IVec S16 32) a x).toNat < S128x128.size a := fun v23 v277 k0_hw11 => k0_hw11.2

def k0_chk12 (v23 : IVec S16 32) (v285 : IVec S16 32) : Prop :=
  (∀ a x, ((![v23, v285] : Fin 2 → IVec S16 32) a x).toNat < S128x128.size a) ∧
  (∀ a x, ((![v23, v285] : Fin 2 → IVec S16 32) a x).toNat < S128x128.size a)
theorem k0_idx23_inb : ∀ (v23 : IVec S16 32) (v285 : IVec S16 32) (k0_hw12 : k0_chk12 v23 v285), ∀ a x, ((![v23, v285] : Fin 2 → IVec S16 32) a x).toNat < S128x128.size a := fun v23 v285 k0_hw12 => k0_hw12.1
theorem k0_idx24_inb : ∀ (v23 : IVec S16 32) (v285 : IVec S16 32) (k0_hw12 : k0_chk12 v23 v285), ∀ a x, ((![v23, v285] : Fin 2 → IVec S16 32) a x).toNat < S128x128.size a := fun v23 v285 k0_hw12 => k0_hw12.2

def k0_chk13 (v23 : IVec S16 32) (v293 : IVec S16 32) : Prop :=
  (∀ a x, ((![v23, v293] : Fin 2 → IVec S16 32) a x).toNat < S128x128.size a) ∧
  (∀ a x, ((![v23, v293] : Fin 2 → IVec S16 32) a x).toNat < S128x128.size a)
theorem k0_idx25_inb : ∀ (v23 : IVec S16 32) (v293 : IVec S16 32) (k0_hw13 : k0_chk13 v23 v293), ∀ a x, ((![v23, v293] : Fin 2 → IVec S16 32) a x).toNat < S128x128.size a := fun v23 v293 k0_hw13 => k0_hw13.1
theorem k0_idx26_inb : ∀ (v23 : IVec S16 32) (v293 : IVec S16 32) (k0_hw13 : k0_chk13 v23 v293), ∀ a x, ((![v23, v293] : Fin 2 → IVec S16 32) a x).toNat < S128x128.size a := fun v23 v293 k0_hw13 => k0_hw13.2

def k0_chk14 (v23 : IVec S16 32) (v301 : IVec S16 32) : Prop :=
  (∀ a x, ((![v23, v301] : Fin 2 → IVec S16 32) a x).toNat < S128x128.size a) ∧
  (∀ a x, ((![v23, v301] : Fin 2 → IVec S16 32) a x).toNat < S128x128.size a)
theorem k0_idx27_inb : ∀ (v23 : IVec S16 32) (v301 : IVec S16 32) (k0_hw14 : k0_chk14 v23 v301), ∀ a x, ((![v23, v301] : Fin 2 → IVec S16 32) a x).toNat < S128x128.size a := fun v23 v301 k0_hw14 => k0_hw14.1
theorem k0_idx28_inb : ∀ (v23 : IVec S16 32) (v301 : IVec S16 32) (k0_hw14 : k0_chk14 v23 v301), ∀ a x, ((![v23, v301] : Fin 2 → IVec S16 32) a x).toNat < S128x128.size a := fun v23 v301 k0_hw14 => k0_hw14.2

def k0_chk15 (v23 : IVec S16 32) (v309 : IVec S16 32) : Prop :=
  (∀ a x, ((![v23, v309] : Fin 2 → IVec S16 32) a x).toNat < S128x128.size a) ∧
  (∀ a x, ((![v23, v309] : Fin 2 → IVec S16 32) a x).toNat < S128x128.size a)
theorem k0_idx29_inb : ∀ (v23 : IVec S16 32) (v309 : IVec S16 32) (k0_hw15 : k0_chk15 v23 v309), ∀ a x, ((![v23, v309] : Fin 2 → IVec S16 32) a x).toNat < S128x128.size a := fun v23 v309 k0_hw15 => k0_hw15.1
theorem k0_idx30_inb : ∀ (v23 : IVec S16 32) (v309 : IVec S16 32) (k0_hw15 : k0_chk15 v23 v309), ∀ a x, ((![v23, v309] : Fin 2 → IVec S16 32) a x).toNat < S128x128.size a := fun v23 v309 k0_hw15 => k0_hw15.2

def k0_chk16 (v23 : IVec S16 32) (v317 : IVec S16 32) : Prop :=
  (∀ a x, ((![v23, v317] : Fin 2 → IVec S16 32) a x).toNat < S128x128.size a) ∧
  (∀ a x, ((![v23, v317] : Fin 2 → IVec S16 32) a x).toNat < S128x128.size a)
theorem k0_idx31_inb : ∀ (v23 : IVec S16 32) (v317 : IVec S16 32) (k0_hw16 : k0_chk16 v23 v317), ∀ a x, ((![v23, v317] : Fin 2 → IVec S16 32) a x).toNat < S128x128.size a := fun v23 v317 k0_hw16 => k0_hw16.1
theorem k0_idx32_inb : ∀ (v23 : IVec S16 32) (v317 : IVec S16 32) (k0_hw16 : k0_chk16 v23 v317), ∀ a x, ((![v23, v317] : Fin 2 → IVec S16 32) a x).toNat < S128x128.size a := fun v23 v317 k0_hw16 => k0_hw16.2
@[reducible] def k0_t3_loop : Scf.Loop 32 :=
  let c0_i32_22 : BitVec 32 := 0#32
  let c16_i32_23 : BitVec 32 := 16#32
  let v32 : BitVec 32 := Scalar.addi c0_i32_22 c16_i32_23
  let c1_i32_24 : BitVec 32 := 1#32
  ⟨c0_i32_22, v32, c1_i32_24⟩

def k0_chk17 (v30 : IVec S16 32) (v261 : IVec S16 32) : Prop :=
  (∀ a x, ((![v30, v261] : Fin 2 → IVec S16 32) a x).toNat < S128x128.size a) ∧
  (∀ a x, ((![v30, v261] : Fin 2 → IVec S16 32) a x).toNat < S128x128.size a)
theorem k0_idx33_inb : ∀ (v30 : IVec S16 32) (v261 : IVec S16 32) (k0_hw17 : k0_chk17 v30 v261), ∀ a x, ((![v30, v261] : Fin 2 → IVec S16 32) a x).toNat < S128x128.size a := fun v30 v261 k0_hw17 => k0_hw17.1
theorem k0_idx34_inb : ∀ (v30 : IVec S16 32) (v261 : IVec S16 32) (k0_hw17 : k0_chk17 v30 v261), ∀ a x, ((![v30, v261] : Fin 2 → IVec S16 32) a x).toNat < S128x128.size a := fun v30 v261 k0_hw17 => k0_hw17.2

def k0_chk18 (v30 : IVec S16 32) (v269 : IVec S16 32) : Prop :=
  (∀ a x, ((![v30, v269] : Fin 2 → IVec S16 32) a x).toNat < S128x128.size a) ∧
  (∀ a x, ((![v30, v269] : Fin 2 → IVec S16 32) a x).toNat < S128x128.size a)
theorem k0_idx35_inb : ∀ (v30 : IVec S16 32) (v269 : IVec S16 32) (k0_hw18 : k0_chk18 v30 v269), ∀ a x, ((![v30, v269] : Fin 2 → IVec S16 32) a x).toNat < S128x128.size a := fun v30 v269 k0_hw18 => k0_hw18.1
theorem k0_idx36_inb : ∀ (v30 : IVec S16 32) (v269 : IVec S16 32) (k0_hw18 : k0_chk18 v30 v269), ∀ a x, ((![v30, v269] : Fin 2 → IVec S16 32) a x).toNat < S128x128.size a := fun v30 v269 k0_hw18 => k0_hw18.2

def k0_chk19 (v30 : IVec S16 32) (v277 : IVec S16 32) : Prop :=
  (∀ a x, ((![v30, v277] : Fin 2 → IVec S16 32) a x).toNat < S128x128.size a) ∧
  (∀ a x, ((![v30, v277] : Fin 2 → IVec S16 32) a x).toNat < S128x128.size a)
theorem k0_idx37_inb : ∀ (v30 : IVec S16 32) (v277 : IVec S16 32) (k0_hw19 : k0_chk19 v30 v277), ∀ a x, ((![v30, v277] : Fin 2 → IVec S16 32) a x).toNat < S128x128.size a := fun v30 v277 k0_hw19 => k0_hw19.1
theorem k0_idx38_inb : ∀ (v30 : IVec S16 32) (v277 : IVec S16 32) (k0_hw19 : k0_chk19 v30 v277), ∀ a x, ((![v30, v277] : Fin 2 → IVec S16 32) a x).toNat < S128x128.size a := fun v30 v277 k0_hw19 => k0_hw19.2

def k0_chk20 (v30 : IVec S16 32) (v285 : IVec S16 32) : Prop :=
  (∀ a x, ((![v30, v285] : Fin 2 → IVec S16 32) a x).toNat < S128x128.size a) ∧
  (∀ a x, ((![v30, v285] : Fin 2 → IVec S16 32) a x).toNat < S128x128.size a)
theorem k0_idx39_inb : ∀ (v30 : IVec S16 32) (v285 : IVec S16 32) (k0_hw20 : k0_chk20 v30 v285), ∀ a x, ((![v30, v285] : Fin 2 → IVec S16 32) a x).toNat < S128x128.size a := fun v30 v285 k0_hw20 => k0_hw20.1
theorem k0_idx40_inb : ∀ (v30 : IVec S16 32) (v285 : IVec S16 32) (k0_hw20 : k0_chk20 v30 v285), ∀ a x, ((![v30, v285] : Fin 2 → IVec S16 32) a x).toNat < S128x128.size a := fun v30 v285 k0_hw20 => k0_hw20.2

def k0_chk21 (v30 : IVec S16 32) (v293 : IVec S16 32) : Prop :=
  (∀ a x, ((![v30, v293] : Fin 2 → IVec S16 32) a x).toNat < S128x128.size a) ∧
  (∀ a x, ((![v30, v293] : Fin 2 → IVec S16 32) a x).toNat < S128x128.size a)
theorem k0_idx41_inb : ∀ (v30 : IVec S16 32) (v293 : IVec S16 32) (k0_hw21 : k0_chk21 v30 v293), ∀ a x, ((![v30, v293] : Fin 2 → IVec S16 32) a x).toNat < S128x128.size a := fun v30 v293 k0_hw21 => k0_hw21.1
theorem k0_idx42_inb : ∀ (v30 : IVec S16 32) (v293 : IVec S16 32) (k0_hw21 : k0_chk21 v30 v293), ∀ a x, ((![v30, v293] : Fin 2 → IVec S16 32) a x).toNat < S128x128.size a := fun v30 v293 k0_hw21 => k0_hw21.2

def k0_chk22 (v30 : IVec S16 32) (v301 : IVec S16 32) : Prop :=
  (∀ a x, ((![v30, v301] : Fin 2 → IVec S16 32) a x).toNat < S128x128.size a) ∧
  (∀ a x, ((![v30, v301] : Fin 2 → IVec S16 32) a x).toNat < S128x128.size a)
theorem k0_idx43_inb : ∀ (v30 : IVec S16 32) (v301 : IVec S16 32) (k0_hw22 : k0_chk22 v30 v301), ∀ a x, ((![v30, v301] : Fin 2 → IVec S16 32) a x).toNat < S128x128.size a := fun v30 v301 k0_hw22 => k0_hw22.1
theorem k0_idx44_inb : ∀ (v30 : IVec S16 32) (v301 : IVec S16 32) (k0_hw22 : k0_chk22 v30 v301), ∀ a x, ((![v30, v301] : Fin 2 → IVec S16 32) a x).toNat < S128x128.size a := fun v30 v301 k0_hw22 => k0_hw22.2

def k0_chk23 (v30 : IVec S16 32) (v309 : IVec S16 32) : Prop :=
  (∀ a x, ((![v30, v309] : Fin 2 → IVec S16 32) a x).toNat < S128x128.size a) ∧
  (∀ a x, ((![v30, v309] : Fin 2 → IVec S16 32) a x).toNat < S128x128.size a)
theorem k0_idx45_inb : ∀ (v30 : IVec S16 32) (v309 : IVec S16 32) (k0_hw23 : k0_chk23 v30 v309), ∀ a x, ((![v30, v309] : Fin 2 → IVec S16 32) a x).toNat < S128x128.size a := fun v30 v309 k0_hw23 => k0_hw23.1
theorem k0_idx46_inb : ∀ (v30 : IVec S16 32) (v309 : IVec S16 32) (k0_hw23 : k0_chk23 v30 v309), ∀ a x, ((![v30, v309] : Fin 2 → IVec S16 32) a x).toNat < S128x128.size a := fun v30 v309 k0_hw23 => k0_hw23.2

def k0_chk24 (v30 : IVec S16 32) (v317 : IVec S16 32) : Prop :=
  (∀ a x, ((![v30, v317] : Fin 2 → IVec S16 32) a x).toNat < S128x128.size a) ∧
  (∀ a x, ((![v30, v317] : Fin 2 → IVec S16 32) a x).toNat < S128x128.size a)
theorem k0_idx47_inb : ∀ (v30 : IVec S16 32) (v317 : IVec S16 32) (k0_hw24 : k0_chk24 v30 v317), ∀ a x, ((![v30, v317] : Fin 2 → IVec S16 32) a x).toNat < S128x128.size a := fun v30 v317 k0_hw24 => k0_hw24.1
theorem k0_idx48_inb : ∀ (v30 : IVec S16 32) (v317 : IVec S16 32) (k0_hw24 : k0_chk24 v30 v317), ∀ a x, ((![v30, v317] : Fin 2 → IVec S16 32) a x).toNat < S128x128.size a := fun v30 v317 k0_hw24 => k0_hw24.2
@[reducible] def k0_t4_loop : Scf.Loop 32 :=
  let c0_i32_27 : BitVec 32 := 0#32
  let c16_i32_28 : BitVec 32 := 16#32
  let v39 : BitVec 32 := Scalar.addi c0_i32_27 c16_i32_28
  let c1_i32_29 : BitVec 32 := 1#32
  ⟨c0_i32_27, v39, c1_i32_29⟩

def k0_chk25 (v37 : IVec S16 32) (v261 : IVec S16 32) : Prop :=
  (∀ a x, ((![v37, v261] : Fin 2 → IVec S16 32) a x).toNat < S128x128.size a) ∧
  (∀ a x, ((![v37, v261] : Fin 2 → IVec S16 32) a x).toNat < S128x128.size a)
theorem k0_idx49_inb : ∀ (v37 : IVec S16 32) (v261 : IVec S16 32) (k0_hw25 : k0_chk25 v37 v261), ∀ a x, ((![v37, v261] : Fin 2 → IVec S16 32) a x).toNat < S128x128.size a := fun v37 v261 k0_hw25 => k0_hw25.1
theorem k0_idx50_inb : ∀ (v37 : IVec S16 32) (v261 : IVec S16 32) (k0_hw25 : k0_chk25 v37 v261), ∀ a x, ((![v37, v261] : Fin 2 → IVec S16 32) a x).toNat < S128x128.size a := fun v37 v261 k0_hw25 => k0_hw25.2

def k0_chk26 (v37 : IVec S16 32) (v269 : IVec S16 32) : Prop :=
  (∀ a x, ((![v37, v269] : Fin 2 → IVec S16 32) a x).toNat < S128x128.size a) ∧
  (∀ a x, ((![v37, v269] : Fin 2 → IVec S16 32) a x).toNat < S128x128.size a)
theorem k0_idx51_inb : ∀ (v37 : IVec S16 32) (v269 : IVec S16 32) (k0_hw26 : k0_chk26 v37 v269), ∀ a x, ((![v37, v269] : Fin 2 → IVec S16 32) a x).toNat < S128x128.size a := fun v37 v269 k0_hw26 => k0_hw26.1
theorem k0_idx52_inb : ∀ (v37 : IVec S16 32) (v269 : IVec S16 32) (k0_hw26 : k0_chk26 v37 v269), ∀ a x, ((![v37, v269] : Fin 2 → IVec S16 32) a x).toNat < S128x128.size a := fun v37 v269 k0_hw26 => k0_hw26.2

def k0_chk27 (v37 : IVec S16 32) (v277 : IVec S16 32) : Prop :=
  (∀ a x, ((![v37, v277] : Fin 2 → IVec S16 32) a x).toNat < S128x128.size a) ∧
  (∀ a x, ((![v37, v277] : Fin 2 → IVec S16 32) a x).toNat < S128x128.size a)
theorem k0_idx53_inb : ∀ (v37 : IVec S16 32) (v277 : IVec S16 32) (k0_hw27 : k0_chk27 v37 v277), ∀ a x, ((![v37, v277] : Fin 2 → IVec S16 32) a x).toNat < S128x128.size a := fun v37 v277 k0_hw27 => k0_hw27.1
theorem k0_idx54_inb : ∀ (v37 : IVec S16 32) (v277 : IVec S16 32) (k0_hw27 : k0_chk27 v37 v277), ∀ a x, ((![v37, v277] : Fin 2 → IVec S16 32) a x).toNat < S128x128.size a := fun v37 v277 k0_hw27 => k0_hw27.2

def k0_chk28 (v37 : IVec S16 32) (v285 : IVec S16 32) : Prop :=
  (∀ a x, ((![v37, v285] : Fin 2 → IVec S16 32) a x).toNat < S128x128.size a) ∧
  (∀ a x, ((![v37, v285] : Fin 2 → IVec S16 32) a x).toNat < S128x128.size a)
theorem k0_idx55_inb : ∀ (v37 : IVec S16 32) (v285 : IVec S16 32) (k0_hw28 : k0_chk28 v37 v285), ∀ a x, ((![v37, v285] : Fin 2 → IVec S16 32) a x).toNat < S128x128.size a := fun v37 v285 k0_hw28 => k0_hw28.1
theorem k0_idx56_inb : ∀ (v37 : IVec S16 32) (v285 : IVec S16 32) (k0_hw28 : k0_chk28 v37 v285), ∀ a x, ((![v37, v285] : Fin 2 → IVec S16 32) a x).toNat < S128x128.size a := fun v37 v285 k0_hw28 => k0_hw28.2

def k0_chk29 (v37 : IVec S16 32) (v293 : IVec S16 32) : Prop :=
  (∀ a x, ((![v37, v293] : Fin 2 → IVec S16 32) a x).toNat < S128x128.size a) ∧
  (∀ a x, ((![v37, v293] : Fin 2 → IVec S16 32) a x).toNat < S128x128.size a)
theorem k0_idx57_inb : ∀ (v37 : IVec S16 32) (v293 : IVec S16 32) (k0_hw29 : k0_chk29 v37 v293), ∀ a x, ((![v37, v293] : Fin 2 → IVec S16 32) a x).toNat < S128x128.size a := fun v37 v293 k0_hw29 => k0_hw29.1
theorem k0_idx58_inb : ∀ (v37 : IVec S16 32) (v293 : IVec S16 32) (k0_hw29 : k0_chk29 v37 v293), ∀ a x, ((![v37, v293] : Fin 2 → IVec S16 32) a x).toNat < S128x128.size a := fun v37 v293 k0_hw29 => k0_hw29.2

def k0_chk30 (v37 : IVec S16 32) (v301 : IVec S16 32) : Prop :=
  (∀ a x, ((![v37, v301] : Fin 2 → IVec S16 32) a x).toNat < S128x128.size a) ∧
  (∀ a x, ((![v37, v301] : Fin 2 → IVec S16 32) a x).toNat < S128x128.size a)
theorem k0_idx59_inb : ∀ (v37 : IVec S16 32) (v301 : IVec S16 32) (k0_hw30 : k0_chk30 v37 v301), ∀ a x, ((![v37, v301] : Fin 2 → IVec S16 32) a x).toNat < S128x128.size a := fun v37 v301 k0_hw30 => k0_hw30.1
theorem k0_idx60_inb : ∀ (v37 : IVec S16 32) (v301 : IVec S16 32) (k0_hw30 : k0_chk30 v37 v301), ∀ a x, ((![v37, v301] : Fin 2 → IVec S16 32) a x).toNat < S128x128.size a := fun v37 v301 k0_hw30 => k0_hw30.2

def k0_chk31 (v37 : IVec S16 32) (v309 : IVec S16 32) : Prop :=
  (∀ a x, ((![v37, v309] : Fin 2 → IVec S16 32) a x).toNat < S128x128.size a) ∧
  (∀ a x, ((![v37, v309] : Fin 2 → IVec S16 32) a x).toNat < S128x128.size a)
theorem k0_idx61_inb : ∀ (v37 : IVec S16 32) (v309 : IVec S16 32) (k0_hw31 : k0_chk31 v37 v309), ∀ a x, ((![v37, v309] : Fin 2 → IVec S16 32) a x).toNat < S128x128.size a := fun v37 v309 k0_hw31 => k0_hw31.1
theorem k0_idx62_inb : ∀ (v37 : IVec S16 32) (v309 : IVec S16 32) (k0_hw31 : k0_chk31 v37 v309), ∀ a x, ((![v37, v309] : Fin 2 → IVec S16 32) a x).toNat < S128x128.size a := fun v37 v309 k0_hw31 => k0_hw31.2

def k0_chk32 (v37 : IVec S16 32) (v317 : IVec S16 32) : Prop :=
  (∀ a x, ((![v37, v317] : Fin 2 → IVec S16 32) a x).toNat < S128x128.size a) ∧
  (∀ a x, ((![v37, v317] : Fin 2 → IVec S16 32) a x).toNat < S128x128.size a)
theorem k0_idx63_inb : ∀ (v37 : IVec S16 32) (v317 : IVec S16 32) (k0_hw32 : k0_chk32 v37 v317), ∀ a x, ((![v37, v317] : Fin 2 → IVec S16 32) a x).toNat < S128x128.size a := fun v37 v317 k0_hw32 => k0_hw32.1
theorem k0_idx64_inb : ∀ (v37 : IVec S16 32) (v317 : IVec S16 32) (k0_hw32 : k0_chk32 v37 v317), ∀ a x, ((![v37, v317] : Fin 2 → IVec S16 32) a x).toNat < S128x128.size a := fun v37 v317 k0_hw32 => k0_hw32.2
@[reducible] def k0_t5_loop : Scf.Loop 32 :=
  let c0_i32_32 : BitVec 32 := 0#32
  let c16_i32_33 : BitVec 32 := 16#32
  let v46 : BitVec 32 := Scalar.addi c0_i32_32 c16_i32_33
  let c1_i32_34 : BitVec 32 := 1#32
  ⟨c0_i32_32, v46, c1_i32_34⟩

def k0_chk33 (v44 : IVec S16 32) (v261 : IVec S16 32) : Prop :=
  (∀ a x, ((![v44, v261] : Fin 2 → IVec S16 32) a x).toNat < S128x128.size a) ∧
  (∀ a x, ((![v44, v261] : Fin 2 → IVec S16 32) a x).toNat < S128x128.size a)
theorem k0_idx65_inb : ∀ (v44 : IVec S16 32) (v261 : IVec S16 32) (k0_hw33 : k0_chk33 v44 v261), ∀ a x, ((![v44, v261] : Fin 2 → IVec S16 32) a x).toNat < S128x128.size a := fun v44 v261 k0_hw33 => k0_hw33.1
theorem k0_idx66_inb : ∀ (v44 : IVec S16 32) (v261 : IVec S16 32) (k0_hw33 : k0_chk33 v44 v261), ∀ a x, ((![v44, v261] : Fin 2 → IVec S16 32) a x).toNat < S128x128.size a := fun v44 v261 k0_hw33 => k0_hw33.2

def k0_chk34 (v44 : IVec S16 32) (v269 : IVec S16 32) : Prop :=
  (∀ a x, ((![v44, v269] : Fin 2 → IVec S16 32) a x).toNat < S128x128.size a) ∧
  (∀ a x, ((![v44, v269] : Fin 2 → IVec S16 32) a x).toNat < S128x128.size a)
theorem k0_idx67_inb : ∀ (v44 : IVec S16 32) (v269 : IVec S16 32) (k0_hw34 : k0_chk34 v44 v269), ∀ a x, ((![v44, v269] : Fin 2 → IVec S16 32) a x).toNat < S128x128.size a := fun v44 v269 k0_hw34 => k0_hw34.1
theorem k0_idx68_inb : ∀ (v44 : IVec S16 32) (v269 : IVec S16 32) (k0_hw34 : k0_chk34 v44 v269), ∀ a x, ((![v44, v269] : Fin 2 → IVec S16 32) a x).toNat < S128x128.size a := fun v44 v269 k0_hw34 => k0_hw34.2

def k0_chk35 (v44 : IVec S16 32) (v277 : IVec S16 32) : Prop :=
  (∀ a x, ((![v44, v277] : Fin 2 → IVec S16 32) a x).toNat < S128x128.size a) ∧
  (∀ a x, ((![v44, v277] : Fin 2 → IVec S16 32) a x).toNat < S128x128.size a)
theorem k0_idx69_inb : ∀ (v44 : IVec S16 32) (v277 : IVec S16 32) (k0_hw35 : k0_chk35 v44 v277), ∀ a x, ((![v44, v277] : Fin 2 → IVec S16 32) a x).toNat < S128x128.size a := fun v44 v277 k0_hw35 => k0_hw35.1
theorem k0_idx70_inb : ∀ (v44 : IVec S16 32) (v277 : IVec S16 32) (k0_hw35 : k0_chk35 v44 v277), ∀ a x, ((![v44, v277] : Fin 2 → IVec S16 32) a x).toNat < S128x128.size a := fun v44 v277 k0_hw35 => k0_hw35.2

def k0_chk36 (v44 : IVec S16 32) (v285 : IVec S16 32) : Prop :=
  (∀ a x, ((![v44, v285] : Fin 2 → IVec S16 32) a x).toNat < S128x128.size a) ∧
  (∀ a x, ((![v44, v285] : Fin 2 → IVec S16 32) a x).toNat < S128x128.size a)
theorem k0_idx71_inb : ∀ (v44 : IVec S16 32) (v285 : IVec S16 32) (k0_hw36 : k0_chk36 v44 v285), ∀ a x, ((![v44, v285] : Fin 2 → IVec S16 32) a x).toNat < S128x128.size a := fun v44 v285 k0_hw36 => k0_hw36.1
theorem k0_idx72_inb : ∀ (v44 : IVec S16 32) (v285 : IVec S16 32) (k0_hw36 : k0_chk36 v44 v285), ∀ a x, ((![v44, v285] : Fin 2 → IVec S16 32) a x).toNat < S128x128.size a := fun v44 v285 k0_hw36 => k0_hw36.2

def k0_chk37 (v44 : IVec S16 32) (v293 : IVec S16 32) : Prop :=
  (∀ a x, ((![v44, v293] : Fin 2 → IVec S16 32) a x).toNat < S128x128.size a) ∧
  (∀ a x, ((![v44, v293] : Fin 2 → IVec S16 32) a x).toNat < S128x128.size a)
theorem k0_idx73_inb : ∀ (v44 : IVec S16 32) (v293 : IVec S16 32) (k0_hw37 : k0_chk37 v44 v293), ∀ a x, ((![v44, v293] : Fin 2 → IVec S16 32) a x).toNat < S128x128.size a := fun v44 v293 k0_hw37 => k0_hw37.1
theorem k0_idx74_inb : ∀ (v44 : IVec S16 32) (v293 : IVec S16 32) (k0_hw37 : k0_chk37 v44 v293), ∀ a x, ((![v44, v293] : Fin 2 → IVec S16 32) a x).toNat < S128x128.size a := fun v44 v293 k0_hw37 => k0_hw37.2

def k0_chk38 (v44 : IVec S16 32) (v301 : IVec S16 32) : Prop :=
  (∀ a x, ((![v44, v301] : Fin 2 → IVec S16 32) a x).toNat < S128x128.size a) ∧
  (∀ a x, ((![v44, v301] : Fin 2 → IVec S16 32) a x).toNat < S128x128.size a)
theorem k0_idx75_inb : ∀ (v44 : IVec S16 32) (v301 : IVec S16 32) (k0_hw38 : k0_chk38 v44 v301), ∀ a x, ((![v44, v301] : Fin 2 → IVec S16 32) a x).toNat < S128x128.size a := fun v44 v301 k0_hw38 => k0_hw38.1
theorem k0_idx76_inb : ∀ (v44 : IVec S16 32) (v301 : IVec S16 32) (k0_hw38 : k0_chk38 v44 v301), ∀ a x, ((![v44, v301] : Fin 2 → IVec S16 32) a x).toNat < S128x128.size a := fun v44 v301 k0_hw38 => k0_hw38.2

def k0_chk39 (v44 : IVec S16 32) (v309 : IVec S16 32) : Prop :=
  (∀ a x, ((![v44, v309] : Fin 2 → IVec S16 32) a x).toNat < S128x128.size a) ∧
  (∀ a x, ((![v44, v309] : Fin 2 → IVec S16 32) a x).toNat < S128x128.size a)
theorem k0_idx77_inb : ∀ (v44 : IVec S16 32) (v309 : IVec S16 32) (k0_hw39 : k0_chk39 v44 v309), ∀ a x, ((![v44, v309] : Fin 2 → IVec S16 32) a x).toNat < S128x128.size a := fun v44 v309 k0_hw39 => k0_hw39.1
theorem k0_idx78_inb : ∀ (v44 : IVec S16 32) (v309 : IVec S16 32) (k0_hw39 : k0_chk39 v44 v309), ∀ a x, ((![v44, v309] : Fin 2 → IVec S16 32) a x).toNat < S128x128.size a := fun v44 v309 k0_hw39 => k0_hw39.2

def k0_chk40 (v44 : IVec S16 32) (v317 : IVec S16 32) : Prop :=
  (∀ a x, ((![v44, v317] : Fin 2 → IVec S16 32) a x).toNat < S128x128.size a) ∧
  (∀ a x, ((![v44, v317] : Fin 2 → IVec S16 32) a x).toNat < S128x128.size a)
theorem k0_idx79_inb : ∀ (v44 : IVec S16 32) (v317 : IVec S16 32) (k0_hw40 : k0_chk40 v44 v317), ∀ a x, ((![v44, v317] : Fin 2 → IVec S16 32) a x).toNat < S128x128.size a := fun v44 v317 k0_hw40 => k0_hw40.1
theorem k0_idx80_inb : ∀ (v44 : IVec S16 32) (v317 : IVec S16 32) (k0_hw40 : k0_chk40 v44 v317), ∀ a x, ((![v44, v317] : Fin 2 → IVec S16 32) a x).toNat < S128x128.size a := fun v44 v317 k0_hw40 => k0_hw40.2
@[reducible] def k0_t6_loop : Scf.Loop 32 :=
  let c0_i32_37 : BitVec 32 := 0#32
  let c16_i32_38 : BitVec 32 := 16#32
  let v53 : BitVec 32 := Scalar.addi c0_i32_37 c16_i32_38
  let c1_i32_39 : BitVec 32 := 1#32
  ⟨c0_i32_37, v53, c1_i32_39⟩

def k0_chk41 (v51 : IVec S16 32) (v261 : IVec S16 32) : Prop :=
  (∀ a x, ((![v51, v261] : Fin 2 → IVec S16 32) a x).toNat < S128x128.size a) ∧
  (∀ a x, ((![v51, v261] : Fin 2 → IVec S16 32) a x).toNat < S128x128.size a)
theorem k0_idx81_inb : ∀ (v51 : IVec S16 32) (v261 : IVec S16 32) (k0_hw41 : k0_chk41 v51 v261), ∀ a x, ((![v51, v261] : Fin 2 → IVec S16 32) a x).toNat < S128x128.size a := fun v51 v261 k0_hw41 => k0_hw41.1
theorem k0_idx82_inb : ∀ (v51 : IVec S16 32) (v261 : IVec S16 32) (k0_hw41 : k0_chk41 v51 v261), ∀ a x, ((![v51, v261] : Fin 2 → IVec S16 32) a x).toNat < S128x128.size a := fun v51 v261 k0_hw41 => k0_hw41.2

def k0_chk42 (v51 : IVec S16 32) (v269 : IVec S16 32) : Prop :=
  (∀ a x, ((![v51, v269] : Fin 2 → IVec S16 32) a x).toNat < S128x128.size a) ∧
  (∀ a x, ((![v51, v269] : Fin 2 → IVec S16 32) a x).toNat < S128x128.size a)
theorem k0_idx83_inb : ∀ (v51 : IVec S16 32) (v269 : IVec S16 32) (k0_hw42 : k0_chk42 v51 v269), ∀ a x, ((![v51, v269] : Fin 2 → IVec S16 32) a x).toNat < S128x128.size a := fun v51 v269 k0_hw42 => k0_hw42.1
theorem k0_idx84_inb : ∀ (v51 : IVec S16 32) (v269 : IVec S16 32) (k0_hw42 : k0_chk42 v51 v269), ∀ a x, ((![v51, v269] : Fin 2 → IVec S16 32) a x).toNat < S128x128.size a := fun v51 v269 k0_hw42 => k0_hw42.2

def k0_chk43 (v51 : IVec S16 32) (v277 : IVec S16 32) : Prop :=
  (∀ a x, ((![v51, v277] : Fin 2 → IVec S16 32) a x).toNat < S128x128.size a) ∧
  (∀ a x, ((![v51, v277] : Fin 2 → IVec S16 32) a x).toNat < S128x128.size a)
theorem k0_idx85_inb : ∀ (v51 : IVec S16 32) (v277 : IVec S16 32) (k0_hw43 : k0_chk43 v51 v277), ∀ a x, ((![v51, v277] : Fin 2 → IVec S16 32) a x).toNat < S128x128.size a := fun v51 v277 k0_hw43 => k0_hw43.1
theorem k0_idx86_inb : ∀ (v51 : IVec S16 32) (v277 : IVec S16 32) (k0_hw43 : k0_chk43 v51 v277), ∀ a x, ((![v51, v277] : Fin 2 → IVec S16 32) a x).toNat < S128x128.size a := fun v51 v277 k0_hw43 => k0_hw43.2

def k0_chk44 (v51 : IVec S16 32) (v285 : IVec S16 32) : Prop :=
  (∀ a x, ((![v51, v285] : Fin 2 → IVec S16 32) a x).toNat < S128x128.size a) ∧
  (∀ a x, ((![v51, v285] : Fin 2 → IVec S16 32) a x).toNat < S128x128.size a)
theorem k0_idx87_inb : ∀ (v51 : IVec S16 32) (v285 : IVec S16 32) (k0_hw44 : k0_chk44 v51 v285), ∀ a x, ((![v51, v285] : Fin 2 → IVec S16 32) a x).toNat < S128x128.size a := fun v51 v285 k0_hw44 => k0_hw44.1
theorem k0_idx88_inb : ∀ (v51 : IVec S16 32) (v285 : IVec S16 32) (k0_hw44 : k0_chk44 v51 v285), ∀ a x, ((![v51, v285] : Fin 2 → IVec S16 32) a x).toNat < S128x128.size a := fun v51 v285 k0_hw44 => k0_hw44.2

def k0_chk45 (v51 : IVec S16 32) (v293 : IVec S16 32) : Prop :=
  (∀ a x, ((![v51, v293] : Fin 2 → IVec S16 32) a x).toNat < S128x128.size a) ∧
  (∀ a x, ((![v51, v293] : Fin 2 → IVec S16 32) a x).toNat < S128x128.size a)
theorem k0_idx89_inb : ∀ (v51 : IVec S16 32) (v293 : IVec S16 32) (k0_hw45 : k0_chk45 v51 v293), ∀ a x, ((![v51, v293] : Fin 2 → IVec S16 32) a x).toNat < S128x128.size a := fun v51 v293 k0_hw45 => k0_hw45.1
theorem k0_idx90_inb : ∀ (v51 : IVec S16 32) (v293 : IVec S16 32) (k0_hw45 : k0_chk45 v51 v293), ∀ a x, ((![v51, v293] : Fin 2 → IVec S16 32) a x).toNat < S128x128.size a := fun v51 v293 k0_hw45 => k0_hw45.2

def k0_chk46 (v51 : IVec S16 32) (v301 : IVec S16 32) : Prop :=
  (∀ a x, ((![v51, v301] : Fin 2 → IVec S16 32) a x).toNat < S128x128.size a) ∧
  (∀ a x, ((![v51, v301] : Fin 2 → IVec S16 32) a x).toNat < S128x128.size a)
theorem k0_idx91_inb : ∀ (v51 : IVec S16 32) (v301 : IVec S16 32) (k0_hw46 : k0_chk46 v51 v301), ∀ a x, ((![v51, v301] : Fin 2 → IVec S16 32) a x).toNat < S128x128.size a := fun v51 v301 k0_hw46 => k0_hw46.1
theorem k0_idx92_inb : ∀ (v51 : IVec S16 32) (v301 : IVec S16 32) (k0_hw46 : k0_chk46 v51 v301), ∀ a x, ((![v51, v301] : Fin 2 → IVec S16 32) a x).toNat < S128x128.size a := fun v51 v301 k0_hw46 => k0_hw46.2

def k0_chk47 (v51 : IVec S16 32) (v309 : IVec S16 32) : Prop :=
  (∀ a x, ((![v51, v309] : Fin 2 → IVec S16 32) a x).toNat < S128x128.size a) ∧
  (∀ a x, ((![v51, v309] : Fin 2 → IVec S16 32) a x).toNat < S128x128.size a)
theorem k0_idx93_inb : ∀ (v51 : IVec S16 32) (v309 : IVec S16 32) (k0_hw47 : k0_chk47 v51 v309), ∀ a x, ((![v51, v309] : Fin 2 → IVec S16 32) a x).toNat < S128x128.size a := fun v51 v309 k0_hw47 => k0_hw47.1
theorem k0_idx94_inb : ∀ (v51 : IVec S16 32) (v309 : IVec S16 32) (k0_hw47 : k0_chk47 v51 v309), ∀ a x, ((![v51, v309] : Fin 2 → IVec S16 32) a x).toNat < S128x128.size a := fun v51 v309 k0_hw47 => k0_hw47.2

def k0_chk48 (v51 : IVec S16 32) (v317 : IVec S16 32) : Prop :=
  (∀ a x, ((![v51, v317] : Fin 2 → IVec S16 32) a x).toNat < S128x128.size a) ∧
  (∀ a x, ((![v51, v317] : Fin 2 → IVec S16 32) a x).toNat < S128x128.size a)
theorem k0_idx95_inb : ∀ (v51 : IVec S16 32) (v317 : IVec S16 32) (k0_hw48 : k0_chk48 v51 v317), ∀ a x, ((![v51, v317] : Fin 2 → IVec S16 32) a x).toNat < S128x128.size a := fun v51 v317 k0_hw48 => k0_hw48.1
theorem k0_idx96_inb : ∀ (v51 : IVec S16 32) (v317 : IVec S16 32) (k0_hw48 : k0_chk48 v51 v317), ∀ a x, ((![v51, v317] : Fin 2 → IVec S16 32) a x).toNat < S128x128.size a := fun v51 v317 k0_hw48 => k0_hw48.2
@[reducible] def k0_t7_loop : Scf.Loop 32 :=
  let c0_i32_42 : BitVec 32 := 0#32
  let c16_i32_43 : BitVec 32 := 16#32
  let v60 : BitVec 32 := Scalar.addi c0_i32_42 c16_i32_43
  let c1_i32_44 : BitVec 32 := 1#32
  ⟨c0_i32_42, v60, c1_i32_44⟩

def k0_chk49 (v58 : IVec S16 32) (v261 : IVec S16 32) : Prop :=
  (∀ a x, ((![v58, v261] : Fin 2 → IVec S16 32) a x).toNat < S128x128.size a) ∧
  (∀ a x, ((![v58, v261] : Fin 2 → IVec S16 32) a x).toNat < S128x128.size a)
theorem k0_idx97_inb : ∀ (v58 : IVec S16 32) (v261 : IVec S16 32) (k0_hw49 : k0_chk49 v58 v261), ∀ a x, ((![v58, v261] : Fin 2 → IVec S16 32) a x).toNat < S128x128.size a := fun v58 v261 k0_hw49 => k0_hw49.1
theorem k0_idx98_inb : ∀ (v58 : IVec S16 32) (v261 : IVec S16 32) (k0_hw49 : k0_chk49 v58 v261), ∀ a x, ((![v58, v261] : Fin 2 → IVec S16 32) a x).toNat < S128x128.size a := fun v58 v261 k0_hw49 => k0_hw49.2

def k0_chk50 (v58 : IVec S16 32) (v269 : IVec S16 32) : Prop :=
  (∀ a x, ((![v58, v269] : Fin 2 → IVec S16 32) a x).toNat < S128x128.size a) ∧
  (∀ a x, ((![v58, v269] : Fin 2 → IVec S16 32) a x).toNat < S128x128.size a)
theorem k0_idx99_inb : ∀ (v58 : IVec S16 32) (v269 : IVec S16 32) (k0_hw50 : k0_chk50 v58 v269), ∀ a x, ((![v58, v269] : Fin 2 → IVec S16 32) a x).toNat < S128x128.size a := fun v58 v269 k0_hw50 => k0_hw50.1
theorem k0_idx100_inb : ∀ (v58 : IVec S16 32) (v269 : IVec S16 32) (k0_hw50 : k0_chk50 v58 v269), ∀ a x, ((![v58, v269] : Fin 2 → IVec S16 32) a x).toNat < S128x128.size a := fun v58 v269 k0_hw50 => k0_hw50.2

def k0_chk51 (v58 : IVec S16 32) (v277 : IVec S16 32) : Prop :=
  (∀ a x, ((![v58, v277] : Fin 2 → IVec S16 32) a x).toNat < S128x128.size a) ∧
  (∀ a x, ((![v58, v277] : Fin 2 → IVec S16 32) a x).toNat < S128x128.size a)
theorem k0_idx101_inb : ∀ (v58 : IVec S16 32) (v277 : IVec S16 32) (k0_hw51 : k0_chk51 v58 v277), ∀ a x, ((![v58, v277] : Fin 2 → IVec S16 32) a x).toNat < S128x128.size a := fun v58 v277 k0_hw51 => k0_hw51.1
theorem k0_idx102_inb : ∀ (v58 : IVec S16 32) (v277 : IVec S16 32) (k0_hw51 : k0_chk51 v58 v277), ∀ a x, ((![v58, v277] : Fin 2 → IVec S16 32) a x).toNat < S128x128.size a := fun v58 v277 k0_hw51 => k0_hw51.2

def k0_chk52 (v58 : IVec S16 32) (v285 : IVec S16 32) : Prop :=
  (∀ a x, ((![v58, v285] : Fin 2 → IVec S16 32) a x).toNat < S128x128.size a) ∧
  (∀ a x, ((![v58, v285] : Fin 2 → IVec S16 32) a x).toNat < S128x128.size a)
theorem k0_idx103_inb : ∀ (v58 : IVec S16 32) (v285 : IVec S16 32) (k0_hw52 : k0_chk52 v58 v285), ∀ a x, ((![v58, v285] : Fin 2 → IVec S16 32) a x).toNat < S128x128.size a := fun v58 v285 k0_hw52 => k0_hw52.1
theorem k0_idx104_inb : ∀ (v58 : IVec S16 32) (v285 : IVec S16 32) (k0_hw52 : k0_chk52 v58 v285), ∀ a x, ((![v58, v285] : Fin 2 → IVec S16 32) a x).toNat < S128x128.size a := fun v58 v285 k0_hw52 => k0_hw52.2

def k0_chk53 (v58 : IVec S16 32) (v293 : IVec S16 32) : Prop :=
  (∀ a x, ((![v58, v293] : Fin 2 → IVec S16 32) a x).toNat < S128x128.size a) ∧
  (∀ a x, ((![v58, v293] : Fin 2 → IVec S16 32) a x).toNat < S128x128.size a)
theorem k0_idx105_inb : ∀ (v58 : IVec S16 32) (v293 : IVec S16 32) (k0_hw53 : k0_chk53 v58 v293), ∀ a x, ((![v58, v293] : Fin 2 → IVec S16 32) a x).toNat < S128x128.size a := fun v58 v293 k0_hw53 => k0_hw53.1
theorem k0_idx106_inb : ∀ (v58 : IVec S16 32) (v293 : IVec S16 32) (k0_hw53 : k0_chk53 v58 v293), ∀ a x, ((![v58, v293] : Fin 2 → IVec S16 32) a x).toNat < S128x128.size a := fun v58 v293 k0_hw53 => k0_hw53.2

def k0_chk54 (v58 : IVec S16 32) (v301 : IVec S16 32) : Prop :=
  (∀ a x, ((![v58, v301] : Fin 2 → IVec S16 32) a x).toNat < S128x128.size a) ∧
  (∀ a x, ((![v58, v301] : Fin 2 → IVec S16 32) a x).toNat < S128x128.size a)
theorem k0_idx107_inb : ∀ (v58 : IVec S16 32) (v301 : IVec S16 32) (k0_hw54 : k0_chk54 v58 v301), ∀ a x, ((![v58, v301] : Fin 2 → IVec S16 32) a x).toNat < S128x128.size a := fun v58 v301 k0_hw54 => k0_hw54.1
theorem k0_idx108_inb : ∀ (v58 : IVec S16 32) (v301 : IVec S16 32) (k0_hw54 : k0_chk54 v58 v301), ∀ a x, ((![v58, v301] : Fin 2 → IVec S16 32) a x).toNat < S128x128.size a := fun v58 v301 k0_hw54 => k0_hw54.2

def k0_chk55 (v58 : IVec S16 32) (v309 : IVec S16 32) : Prop :=
  (∀ a x, ((![v58, v309] : Fin 2 → IVec S16 32) a x).toNat < S128x128.size a) ∧
  (∀ a x, ((![v58, v309] : Fin 2 → IVec S16 32) a x).toNat < S128x128.size a)
theorem k0_idx109_inb : ∀ (v58 : IVec S16 32) (v309 : IVec S16 32) (k0_hw55 : k0_chk55 v58 v309), ∀ a x, ((![v58, v309] : Fin 2 → IVec S16 32) a x).toNat < S128x128.size a := fun v58 v309 k0_hw55 => k0_hw55.1
theorem k0_idx110_inb : ∀ (v58 : IVec S16 32) (v309 : IVec S16 32) (k0_hw55 : k0_chk55 v58 v309), ∀ a x, ((![v58, v309] : Fin 2 → IVec S16 32) a x).toNat < S128x128.size a := fun v58 v309 k0_hw55 => k0_hw55.2

def k0_chk56 (v58 : IVec S16 32) (v317 : IVec S16 32) : Prop :=
  (∀ a x, ((![v58, v317] : Fin 2 → IVec S16 32) a x).toNat < S128x128.size a) ∧
  (∀ a x, ((![v58, v317] : Fin 2 → IVec S16 32) a x).toNat < S128x128.size a)
theorem k0_idx111_inb : ∀ (v58 : IVec S16 32) (v317 : IVec S16 32) (k0_hw56 : k0_chk56 v58 v317), ∀ a x, ((![v58, v317] : Fin 2 → IVec S16 32) a x).toNat < S128x128.size a := fun v58 v317 k0_hw56 => k0_hw56.1
theorem k0_idx112_inb : ∀ (v58 : IVec S16 32) (v317 : IVec S16 32) (k0_hw56 : k0_chk56 v58 v317), ∀ a x, ((![v58, v317] : Fin 2 → IVec S16 32) a x).toNat < S128x128.size a := fun v58 v317 k0_hw56 => k0_hw56.2
@[reducible] def k0_t8_loop : Scf.Loop 32 :=
  let c0_i32_47 : BitVec 32 := 0#32
  let c16_i32_48 : BitVec 32 := 16#32
  let v67 : BitVec 32 := Scalar.addi c0_i32_47 c16_i32_48
  let c1_i32_49 : BitVec 32 := 1#32
  ⟨c0_i32_47, v67, c1_i32_49⟩

def k0_chk57 (v65 : IVec S16 32) (v261 : IVec S16 32) : Prop :=
  (∀ a x, ((![v65, v261] : Fin 2 → IVec S16 32) a x).toNat < S128x128.size a) ∧
  (∀ a x, ((![v65, v261] : Fin 2 → IVec S16 32) a x).toNat < S128x128.size a)
theorem k0_idx113_inb : ∀ (v65 : IVec S16 32) (v261 : IVec S16 32) (k0_hw57 : k0_chk57 v65 v261), ∀ a x, ((![v65, v261] : Fin 2 → IVec S16 32) a x).toNat < S128x128.size a := fun v65 v261 k0_hw57 => k0_hw57.1
theorem k0_idx114_inb : ∀ (v65 : IVec S16 32) (v261 : IVec S16 32) (k0_hw57 : k0_chk57 v65 v261), ∀ a x, ((![v65, v261] : Fin 2 → IVec S16 32) a x).toNat < S128x128.size a := fun v65 v261 k0_hw57 => k0_hw57.2

def k0_chk58 (v65 : IVec S16 32) (v269 : IVec S16 32) : Prop :=
  (∀ a x, ((![v65, v269] : Fin 2 → IVec S16 32) a x).toNat < S128x128.size a) ∧
  (∀ a x, ((![v65, v269] : Fin 2 → IVec S16 32) a x).toNat < S128x128.size a)
theorem k0_idx115_inb : ∀ (v65 : IVec S16 32) (v269 : IVec S16 32) (k0_hw58 : k0_chk58 v65 v269), ∀ a x, ((![v65, v269] : Fin 2 → IVec S16 32) a x).toNat < S128x128.size a := fun v65 v269 k0_hw58 => k0_hw58.1
theorem k0_idx116_inb : ∀ (v65 : IVec S16 32) (v269 : IVec S16 32) (k0_hw58 : k0_chk58 v65 v269), ∀ a x, ((![v65, v269] : Fin 2 → IVec S16 32) a x).toNat < S128x128.size a := fun v65 v269 k0_hw58 => k0_hw58.2

def k0_chk59 (v65 : IVec S16 32) (v277 : IVec S16 32) : Prop :=
  (∀ a x, ((![v65, v277] : Fin 2 → IVec S16 32) a x).toNat < S128x128.size a) ∧
  (∀ a x, ((![v65, v277] : Fin 2 → IVec S16 32) a x).toNat < S128x128.size a)
theorem k0_idx117_inb : ∀ (v65 : IVec S16 32) (v277 : IVec S16 32) (k0_hw59 : k0_chk59 v65 v277), ∀ a x, ((![v65, v277] : Fin 2 → IVec S16 32) a x).toNat < S128x128.size a := fun v65 v277 k0_hw59 => k0_hw59.1
theorem k0_idx118_inb : ∀ (v65 : IVec S16 32) (v277 : IVec S16 32) (k0_hw59 : k0_chk59 v65 v277), ∀ a x, ((![v65, v277] : Fin 2 → IVec S16 32) a x).toNat < S128x128.size a := fun v65 v277 k0_hw59 => k0_hw59.2

def k0_chk60 (v65 : IVec S16 32) (v285 : IVec S16 32) : Prop :=
  (∀ a x, ((![v65, v285] : Fin 2 → IVec S16 32) a x).toNat < S128x128.size a) ∧
  (∀ a x, ((![v65, v285] : Fin 2 → IVec S16 32) a x).toNat < S128x128.size a)
theorem k0_idx119_inb : ∀ (v65 : IVec S16 32) (v285 : IVec S16 32) (k0_hw60 : k0_chk60 v65 v285), ∀ a x, ((![v65, v285] : Fin 2 → IVec S16 32) a x).toNat < S128x128.size a := fun v65 v285 k0_hw60 => k0_hw60.1
theorem k0_idx120_inb : ∀ (v65 : IVec S16 32) (v285 : IVec S16 32) (k0_hw60 : k0_chk60 v65 v285), ∀ a x, ((![v65, v285] : Fin 2 → IVec S16 32) a x).toNat < S128x128.size a := fun v65 v285 k0_hw60 => k0_hw60.2

def k0_chk61 (v65 : IVec S16 32) (v293 : IVec S16 32) : Prop :=
  (∀ a x, ((![v65, v293] : Fin 2 → IVec S16 32) a x).toNat < S128x128.size a) ∧
  (∀ a x, ((![v65, v293] : Fin 2 → IVec S16 32) a x).toNat < S128x128.size a)
theorem k0_idx121_inb : ∀ (v65 : IVec S16 32) (v293 : IVec S16 32) (k0_hw61 : k0_chk61 v65 v293), ∀ a x, ((![v65, v293] : Fin 2 → IVec S16 32) a x).toNat < S128x128.size a := fun v65 v293 k0_hw61 => k0_hw61.1
theorem k0_idx122_inb : ∀ (v65 : IVec S16 32) (v293 : IVec S16 32) (k0_hw61 : k0_chk61 v65 v293), ∀ a x, ((![v65, v293] : Fin 2 → IVec S16 32) a x).toNat < S128x128.size a := fun v65 v293 k0_hw61 => k0_hw61.2

def k0_chk62 (v65 : IVec S16 32) (v301 : IVec S16 32) : Prop :=
  (∀ a x, ((![v65, v301] : Fin 2 → IVec S16 32) a x).toNat < S128x128.size a) ∧
  (∀ a x, ((![v65, v301] : Fin 2 → IVec S16 32) a x).toNat < S128x128.size a)
theorem k0_idx123_inb : ∀ (v65 : IVec S16 32) (v301 : IVec S16 32) (k0_hw62 : k0_chk62 v65 v301), ∀ a x, ((![v65, v301] : Fin 2 → IVec S16 32) a x).toNat < S128x128.size a := fun v65 v301 k0_hw62 => k0_hw62.1
theorem k0_idx124_inb : ∀ (v65 : IVec S16 32) (v301 : IVec S16 32) (k0_hw62 : k0_chk62 v65 v301), ∀ a x, ((![v65, v301] : Fin 2 → IVec S16 32) a x).toNat < S128x128.size a := fun v65 v301 k0_hw62 => k0_hw62.2

def k0_chk63 (v65 : IVec S16 32) (v309 : IVec S16 32) : Prop :=
  (∀ a x, ((![v65, v309] : Fin 2 → IVec S16 32) a x).toNat < S128x128.size a) ∧
  (∀ a x, ((![v65, v309] : Fin 2 → IVec S16 32) a x).toNat < S128x128.size a)
theorem k0_idx125_inb : ∀ (v65 : IVec S16 32) (v309 : IVec S16 32) (k0_hw63 : k0_chk63 v65 v309), ∀ a x, ((![v65, v309] : Fin 2 → IVec S16 32) a x).toNat < S128x128.size a := fun v65 v309 k0_hw63 => k0_hw63.1
theorem k0_idx126_inb : ∀ (v65 : IVec S16 32) (v309 : IVec S16 32) (k0_hw63 : k0_chk63 v65 v309), ∀ a x, ((![v65, v309] : Fin 2 → IVec S16 32) a x).toNat < S128x128.size a := fun v65 v309 k0_hw63 => k0_hw63.2

def k0_chk64 (v65 : IVec S16 32) (v317 : IVec S16 32) : Prop :=
  (∀ a x, ((![v65, v317] : Fin 2 → IVec S16 32) a x).toNat < S128x128.size a) ∧
  (∀ a x, ((![v65, v317] : Fin 2 → IVec S16 32) a x).toNat < S128x128.size a)
theorem k0_idx127_inb : ∀ (v65 : IVec S16 32) (v317 : IVec S16 32) (k0_hw64 : k0_chk64 v65 v317), ∀ a x, ((![v65, v317] : Fin 2 → IVec S16 32) a x).toNat < S128x128.size a := fun v65 v317 k0_hw64 => k0_hw64.1
theorem k0_idx128_inb : ∀ (v65 : IVec S16 32) (v317 : IVec S16 32) (k0_hw64 : k0_chk64 v65 v317), ∀ a x, ((![v65, v317] : Fin 2 → IVec S16 32) a x).toNat < S128x128.size a := fun v65 v317 k0_hw64 => k0_hw64.2
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c128_i32_55 : BitVec 32 := 128#32
  let v73 : BitVec 32 := Scalar.addi v2 c128_i32_55
  let c0_i32_222_r5 : BitVec 32 := 0#32
  ![v73.toNat, 0]
@[reducible] def k0_t9_loop : Scf.Loop 32 :=
  let c0_i32_62 : BitVec 32 := 0#32
  let c16_i32_63 : BitVec 32 := 16#32
  let v81 : BitVec 32 := Scalar.addi c0_i32_62 c16_i32_63
  let c1_i32_64 : BitVec 32 := 1#32
  ⟨c0_i32_62, v81, c1_i32_64⟩

def k0_chk65 (v79 : IVec S16 32) (v261 : IVec S16 32) : Prop :=
  (∀ a x, ((![v79, v261] : Fin 2 → IVec S16 32) a x).toNat < S128x128.size a) ∧
  (∀ a x, ((![v79, v261] : Fin 2 → IVec S16 32) a x).toNat < S128x128.size a)
theorem k0_idx129_inb : ∀ (v79 : IVec S16 32) (v261 : IVec S16 32) (k0_hw65 : k0_chk65 v79 v261), ∀ a x, ((![v79, v261] : Fin 2 → IVec S16 32) a x).toNat < S128x128.size a := fun v79 v261 k0_hw65 => k0_hw65.1
theorem k0_idx130_inb : ∀ (v79 : IVec S16 32) (v261 : IVec S16 32) (k0_hw65 : k0_chk65 v79 v261), ∀ a x, ((![v79, v261] : Fin 2 → IVec S16 32) a x).toNat < S128x128.size a := fun v79 v261 k0_hw65 => k0_hw65.2

def k0_chk66 (v79 : IVec S16 32) (v269 : IVec S16 32) : Prop :=
  (∀ a x, ((![v79, v269] : Fin 2 → IVec S16 32) a x).toNat < S128x128.size a) ∧
  (∀ a x, ((![v79, v269] : Fin 2 → IVec S16 32) a x).toNat < S128x128.size a)
theorem k0_idx131_inb : ∀ (v79 : IVec S16 32) (v269 : IVec S16 32) (k0_hw66 : k0_chk66 v79 v269), ∀ a x, ((![v79, v269] : Fin 2 → IVec S16 32) a x).toNat < S128x128.size a := fun v79 v269 k0_hw66 => k0_hw66.1
theorem k0_idx132_inb : ∀ (v79 : IVec S16 32) (v269 : IVec S16 32) (k0_hw66 : k0_chk66 v79 v269), ∀ a x, ((![v79, v269] : Fin 2 → IVec S16 32) a x).toNat < S128x128.size a := fun v79 v269 k0_hw66 => k0_hw66.2

def k0_chk67 (v79 : IVec S16 32) (v277 : IVec S16 32) : Prop :=
  (∀ a x, ((![v79, v277] : Fin 2 → IVec S16 32) a x).toNat < S128x128.size a) ∧
  (∀ a x, ((![v79, v277] : Fin 2 → IVec S16 32) a x).toNat < S128x128.size a)
theorem k0_idx133_inb : ∀ (v79 : IVec S16 32) (v277 : IVec S16 32) (k0_hw67 : k0_chk67 v79 v277), ∀ a x, ((![v79, v277] : Fin 2 → IVec S16 32) a x).toNat < S128x128.size a := fun v79 v277 k0_hw67 => k0_hw67.1
theorem k0_idx134_inb : ∀ (v79 : IVec S16 32) (v277 : IVec S16 32) (k0_hw67 : k0_chk67 v79 v277), ∀ a x, ((![v79, v277] : Fin 2 → IVec S16 32) a x).toNat < S128x128.size a := fun v79 v277 k0_hw67 => k0_hw67.2

def k0_chk68 (v79 : IVec S16 32) (v285 : IVec S16 32) : Prop :=
  (∀ a x, ((![v79, v285] : Fin 2 → IVec S16 32) a x).toNat < S128x128.size a) ∧
  (∀ a x, ((![v79, v285] : Fin 2 → IVec S16 32) a x).toNat < S128x128.size a)
theorem k0_idx135_inb : ∀ (v79 : IVec S16 32) (v285 : IVec S16 32) (k0_hw68 : k0_chk68 v79 v285), ∀ a x, ((![v79, v285] : Fin 2 → IVec S16 32) a x).toNat < S128x128.size a := fun v79 v285 k0_hw68 => k0_hw68.1
theorem k0_idx136_inb : ∀ (v79 : IVec S16 32) (v285 : IVec S16 32) (k0_hw68 : k0_chk68 v79 v285), ∀ a x, ((![v79, v285] : Fin 2 → IVec S16 32) a x).toNat < S128x128.size a := fun v79 v285 k0_hw68 => k0_hw68.2

def k0_chk69 (v79 : IVec S16 32) (v293 : IVec S16 32) : Prop :=
  (∀ a x, ((![v79, v293] : Fin 2 → IVec S16 32) a x).toNat < S128x128.size a) ∧
  (∀ a x, ((![v79, v293] : Fin 2 → IVec S16 32) a x).toNat < S128x128.size a)
theorem k0_idx137_inb : ∀ (v79 : IVec S16 32) (v293 : IVec S16 32) (k0_hw69 : k0_chk69 v79 v293), ∀ a x, ((![v79, v293] : Fin 2 → IVec S16 32) a x).toNat < S128x128.size a := fun v79 v293 k0_hw69 => k0_hw69.1
theorem k0_idx138_inb : ∀ (v79 : IVec S16 32) (v293 : IVec S16 32) (k0_hw69 : k0_chk69 v79 v293), ∀ a x, ((![v79, v293] : Fin 2 → IVec S16 32) a x).toNat < S128x128.size a := fun v79 v293 k0_hw69 => k0_hw69.2

def k0_chk70 (v79 : IVec S16 32) (v301 : IVec S16 32) : Prop :=
  (∀ a x, ((![v79, v301] : Fin 2 → IVec S16 32) a x).toNat < S128x128.size a) ∧
  (∀ a x, ((![v79, v301] : Fin 2 → IVec S16 32) a x).toNat < S128x128.size a)
theorem k0_idx139_inb : ∀ (v79 : IVec S16 32) (v301 : IVec S16 32) (k0_hw70 : k0_chk70 v79 v301), ∀ a x, ((![v79, v301] : Fin 2 → IVec S16 32) a x).toNat < S128x128.size a := fun v79 v301 k0_hw70 => k0_hw70.1
theorem k0_idx140_inb : ∀ (v79 : IVec S16 32) (v301 : IVec S16 32) (k0_hw70 : k0_chk70 v79 v301), ∀ a x, ((![v79, v301] : Fin 2 → IVec S16 32) a x).toNat < S128x128.size a := fun v79 v301 k0_hw70 => k0_hw70.2

def k0_chk71 (v79 : IVec S16 32) (v309 : IVec S16 32) : Prop :=
  (∀ a x, ((![v79, v309] : Fin 2 → IVec S16 32) a x).toNat < S128x128.size a) ∧
  (∀ a x, ((![v79, v309] : Fin 2 → IVec S16 32) a x).toNat < S128x128.size a)
theorem k0_idx141_inb : ∀ (v79 : IVec S16 32) (v309 : IVec S16 32) (k0_hw71 : k0_chk71 v79 v309), ∀ a x, ((![v79, v309] : Fin 2 → IVec S16 32) a x).toNat < S128x128.size a := fun v79 v309 k0_hw71 => k0_hw71.1
theorem k0_idx142_inb : ∀ (v79 : IVec S16 32) (v309 : IVec S16 32) (k0_hw71 : k0_chk71 v79 v309), ∀ a x, ((![v79, v309] : Fin 2 → IVec S16 32) a x).toNat < S128x128.size a := fun v79 v309 k0_hw71 => k0_hw71.2

def k0_chk72 (v79 : IVec S16 32) (v317 : IVec S16 32) : Prop :=
  (∀ a x, ((![v79, v317] : Fin 2 → IVec S16 32) a x).toNat < S128x128.size a) ∧
  (∀ a x, ((![v79, v317] : Fin 2 → IVec S16 32) a x).toNat < S128x128.size a)
theorem k0_idx143_inb : ∀ (v79 : IVec S16 32) (v317 : IVec S16 32) (k0_hw72 : k0_chk72 v79 v317), ∀ a x, ((![v79, v317] : Fin 2 → IVec S16 32) a x).toNat < S128x128.size a := fun v79 v317 k0_hw72 => k0_hw72.1
theorem k0_idx144_inb : ∀ (v79 : IVec S16 32) (v317 : IVec S16 32) (k0_hw72 : k0_chk72 v79 v317), ∀ a x, ((![v79, v317] : Fin 2 → IVec S16 32) a x).toNat < S128x128.size a := fun v79 v317 k0_hw72 => k0_hw72.2
@[reducible] def k0_t10_loop : Scf.Loop 32 :=
  let c0_i32_68 : BitVec 32 := 0#32
  let c16_i32_69 : BitVec 32 := 16#32
  let v88 : BitVec 32 := Scalar.addi c0_i32_68 c16_i32_69
  let c1_i32_70 : BitVec 32 := 1#32
  ⟨c0_i32_68, v88, c1_i32_70⟩

def k0_chk73 (v86 : IVec S16 32) (v261 : IVec S16 32) : Prop :=
  (∀ a x, ((![v86, v261] : Fin 2 → IVec S16 32) a x).toNat < S128x128.size a) ∧
  (∀ a x, ((![v86, v261] : Fin 2 → IVec S16 32) a x).toNat < S128x128.size a)
theorem k0_idx145_inb : ∀ (v86 : IVec S16 32) (v261 : IVec S16 32) (k0_hw73 : k0_chk73 v86 v261), ∀ a x, ((![v86, v261] : Fin 2 → IVec S16 32) a x).toNat < S128x128.size a := fun v86 v261 k0_hw73 => k0_hw73.1
theorem k0_idx146_inb : ∀ (v86 : IVec S16 32) (v261 : IVec S16 32) (k0_hw73 : k0_chk73 v86 v261), ∀ a x, ((![v86, v261] : Fin 2 → IVec S16 32) a x).toNat < S128x128.size a := fun v86 v261 k0_hw73 => k0_hw73.2

def k0_chk74 (v86 : IVec S16 32) (v269 : IVec S16 32) : Prop :=
  (∀ a x, ((![v86, v269] : Fin 2 → IVec S16 32) a x).toNat < S128x128.size a) ∧
  (∀ a x, ((![v86, v269] : Fin 2 → IVec S16 32) a x).toNat < S128x128.size a)
theorem k0_idx147_inb : ∀ (v86 : IVec S16 32) (v269 : IVec S16 32) (k0_hw74 : k0_chk74 v86 v269), ∀ a x, ((![v86, v269] : Fin 2 → IVec S16 32) a x).toNat < S128x128.size a := fun v86 v269 k0_hw74 => k0_hw74.1
theorem k0_idx148_inb : ∀ (v86 : IVec S16 32) (v269 : IVec S16 32) (k0_hw74 : k0_chk74 v86 v269), ∀ a x, ((![v86, v269] : Fin 2 → IVec S16 32) a x).toNat < S128x128.size a := fun v86 v269 k0_hw74 => k0_hw74.2

def k0_chk75 (v86 : IVec S16 32) (v277 : IVec S16 32) : Prop :=
  (∀ a x, ((![v86, v277] : Fin 2 → IVec S16 32) a x).toNat < S128x128.size a) ∧
  (∀ a x, ((![v86, v277] : Fin 2 → IVec S16 32) a x).toNat < S128x128.size a)
theorem k0_idx149_inb : ∀ (v86 : IVec S16 32) (v277 : IVec S16 32) (k0_hw75 : k0_chk75 v86 v277), ∀ a x, ((![v86, v277] : Fin 2 → IVec S16 32) a x).toNat < S128x128.size a := fun v86 v277 k0_hw75 => k0_hw75.1
theorem k0_idx150_inb : ∀ (v86 : IVec S16 32) (v277 : IVec S16 32) (k0_hw75 : k0_chk75 v86 v277), ∀ a x, ((![v86, v277] : Fin 2 → IVec S16 32) a x).toNat < S128x128.size a := fun v86 v277 k0_hw75 => k0_hw75.2

def k0_chk76 (v86 : IVec S16 32) (v285 : IVec S16 32) : Prop :=
  (∀ a x, ((![v86, v285] : Fin 2 → IVec S16 32) a x).toNat < S128x128.size a) ∧
  (∀ a x, ((![v86, v285] : Fin 2 → IVec S16 32) a x).toNat < S128x128.size a)
theorem k0_idx151_inb : ∀ (v86 : IVec S16 32) (v285 : IVec S16 32) (k0_hw76 : k0_chk76 v86 v285), ∀ a x, ((![v86, v285] : Fin 2 → IVec S16 32) a x).toNat < S128x128.size a := fun v86 v285 k0_hw76 => k0_hw76.1
theorem k0_idx152_inb : ∀ (v86 : IVec S16 32) (v285 : IVec S16 32) (k0_hw76 : k0_chk76 v86 v285), ∀ a x, ((![v86, v285] : Fin 2 → IVec S16 32) a x).toNat < S128x128.size a := fun v86 v285 k0_hw76 => k0_hw76.2

def k0_chk77 (v86 : IVec S16 32) (v293 : IVec S16 32) : Prop :=
  (∀ a x, ((![v86, v293] : Fin 2 → IVec S16 32) a x).toNat < S128x128.size a) ∧
  (∀ a x, ((![v86, v293] : Fin 2 → IVec S16 32) a x).toNat < S128x128.size a)
theorem k0_idx153_inb : ∀ (v86 : IVec S16 32) (v293 : IVec S16 32) (k0_hw77 : k0_chk77 v86 v293), ∀ a x, ((![v86, v293] : Fin 2 → IVec S16 32) a x).toNat < S128x128.size a := fun v86 v293 k0_hw77 => k0_hw77.1
theorem k0_idx154_inb : ∀ (v86 : IVec S16 32) (v293 : IVec S16 32) (k0_hw77 : k0_chk77 v86 v293), ∀ a x, ((![v86, v293] : Fin 2 → IVec S16 32) a x).toNat < S128x128.size a := fun v86 v293 k0_hw77 => k0_hw77.2

def k0_chk78 (v86 : IVec S16 32) (v301 : IVec S16 32) : Prop :=
  (∀ a x, ((![v86, v301] : Fin 2 → IVec S16 32) a x).toNat < S128x128.size a) ∧
  (∀ a x, ((![v86, v301] : Fin 2 → IVec S16 32) a x).toNat < S128x128.size a)
theorem k0_idx155_inb : ∀ (v86 : IVec S16 32) (v301 : IVec S16 32) (k0_hw78 : k0_chk78 v86 v301), ∀ a x, ((![v86, v301] : Fin 2 → IVec S16 32) a x).toNat < S128x128.size a := fun v86 v301 k0_hw78 => k0_hw78.1
theorem k0_idx156_inb : ∀ (v86 : IVec S16 32) (v301 : IVec S16 32) (k0_hw78 : k0_chk78 v86 v301), ∀ a x, ((![v86, v301] : Fin 2 → IVec S16 32) a x).toNat < S128x128.size a := fun v86 v301 k0_hw78 => k0_hw78.2

def k0_chk79 (v86 : IVec S16 32) (v309 : IVec S16 32) : Prop :=
  (∀ a x, ((![v86, v309] : Fin 2 → IVec S16 32) a x).toNat < S128x128.size a) ∧
  (∀ a x, ((![v86, v309] : Fin 2 → IVec S16 32) a x).toNat < S128x128.size a)
theorem k0_idx157_inb : ∀ (v86 : IVec S16 32) (v309 : IVec S16 32) (k0_hw79 : k0_chk79 v86 v309), ∀ a x, ((![v86, v309] : Fin 2 → IVec S16 32) a x).toNat < S128x128.size a := fun v86 v309 k0_hw79 => k0_hw79.1
theorem k0_idx158_inb : ∀ (v86 : IVec S16 32) (v309 : IVec S16 32) (k0_hw79 : k0_chk79 v86 v309), ∀ a x, ((![v86, v309] : Fin 2 → IVec S16 32) a x).toNat < S128x128.size a := fun v86 v309 k0_hw79 => k0_hw79.2

def k0_chk80 (v86 : IVec S16 32) (v317 : IVec S16 32) : Prop :=
  (∀ a x, ((![v86, v317] : Fin 2 → IVec S16 32) a x).toNat < S128x128.size a) ∧
  (∀ a x, ((![v86, v317] : Fin 2 → IVec S16 32) a x).toNat < S128x128.size a)
theorem k0_idx159_inb : ∀ (v86 : IVec S16 32) (v317 : IVec S16 32) (k0_hw80 : k0_chk80 v86 v317), ∀ a x, ((![v86, v317] : Fin 2 → IVec S16 32) a x).toNat < S128x128.size a := fun v86 v317 k0_hw80 => k0_hw80.1
theorem k0_idx160_inb : ∀ (v86 : IVec S16 32) (v317 : IVec S16 32) (k0_hw80 : k0_chk80 v86 v317), ∀ a x, ((![v86, v317] : Fin 2 → IVec S16 32) a x).toNat < S128x128.size a := fun v86 v317 k0_hw80 => k0_hw80.2
@[reducible] def k0_t11_loop : Scf.Loop 32 :=
  let c0_i32_74 : BitVec 32 := 0#32
  let c16_i32_75 : BitVec 32 := 16#32
  let v95 : BitVec 32 := Scalar.addi c0_i32_74 c16_i32_75
  let c1_i32_76 : BitVec 32 := 1#32
  ⟨c0_i32_74, v95, c1_i32_76⟩

def k0_chk81 (v93 : IVec S16 32) (v261 : IVec S16 32) : Prop :=
  (∀ a x, ((![v93, v261] : Fin 2 → IVec S16 32) a x).toNat < S128x128.size a) ∧
  (∀ a x, ((![v93, v261] : Fin 2 → IVec S16 32) a x).toNat < S128x128.size a)
theorem k0_idx161_inb : ∀ (v93 : IVec S16 32) (v261 : IVec S16 32) (k0_hw81 : k0_chk81 v93 v261), ∀ a x, ((![v93, v261] : Fin 2 → IVec S16 32) a x).toNat < S128x128.size a := fun v93 v261 k0_hw81 => k0_hw81.1
theorem k0_idx162_inb : ∀ (v93 : IVec S16 32) (v261 : IVec S16 32) (k0_hw81 : k0_chk81 v93 v261), ∀ a x, ((![v93, v261] : Fin 2 → IVec S16 32) a x).toNat < S128x128.size a := fun v93 v261 k0_hw81 => k0_hw81.2

def k0_chk82 (v93 : IVec S16 32) (v269 : IVec S16 32) : Prop :=
  (∀ a x, ((![v93, v269] : Fin 2 → IVec S16 32) a x).toNat < S128x128.size a) ∧
  (∀ a x, ((![v93, v269] : Fin 2 → IVec S16 32) a x).toNat < S128x128.size a)
theorem k0_idx163_inb : ∀ (v93 : IVec S16 32) (v269 : IVec S16 32) (k0_hw82 : k0_chk82 v93 v269), ∀ a x, ((![v93, v269] : Fin 2 → IVec S16 32) a x).toNat < S128x128.size a := fun v93 v269 k0_hw82 => k0_hw82.1
theorem k0_idx164_inb : ∀ (v93 : IVec S16 32) (v269 : IVec S16 32) (k0_hw82 : k0_chk82 v93 v269), ∀ a x, ((![v93, v269] : Fin 2 → IVec S16 32) a x).toNat < S128x128.size a := fun v93 v269 k0_hw82 => k0_hw82.2

def k0_chk83 (v93 : IVec S16 32) (v277 : IVec S16 32) : Prop :=
  (∀ a x, ((![v93, v277] : Fin 2 → IVec S16 32) a x).toNat < S128x128.size a) ∧
  (∀ a x, ((![v93, v277] : Fin 2 → IVec S16 32) a x).toNat < S128x128.size a)
theorem k0_idx165_inb : ∀ (v93 : IVec S16 32) (v277 : IVec S16 32) (k0_hw83 : k0_chk83 v93 v277), ∀ a x, ((![v93, v277] : Fin 2 → IVec S16 32) a x).toNat < S128x128.size a := fun v93 v277 k0_hw83 => k0_hw83.1
theorem k0_idx166_inb : ∀ (v93 : IVec S16 32) (v277 : IVec S16 32) (k0_hw83 : k0_chk83 v93 v277), ∀ a x, ((![v93, v277] : Fin 2 → IVec S16 32) a x).toNat < S128x128.size a := fun v93 v277 k0_hw83 => k0_hw83.2

def k0_chk84 (v93 : IVec S16 32) (v285 : IVec S16 32) : Prop :=
  (∀ a x, ((![v93, v285] : Fin 2 → IVec S16 32) a x).toNat < S128x128.size a) ∧
  (∀ a x, ((![v93, v285] : Fin 2 → IVec S16 32) a x).toNat < S128x128.size a)
theorem k0_idx167_inb : ∀ (v93 : IVec S16 32) (v285 : IVec S16 32) (k0_hw84 : k0_chk84 v93 v285), ∀ a x, ((![v93, v285] : Fin 2 → IVec S16 32) a x).toNat < S128x128.size a := fun v93 v285 k0_hw84 => k0_hw84.1
theorem k0_idx168_inb : ∀ (v93 : IVec S16 32) (v285 : IVec S16 32) (k0_hw84 : k0_chk84 v93 v285), ∀ a x, ((![v93, v285] : Fin 2 → IVec S16 32) a x).toNat < S128x128.size a := fun v93 v285 k0_hw84 => k0_hw84.2

def k0_chk85 (v93 : IVec S16 32) (v293 : IVec S16 32) : Prop :=
  (∀ a x, ((![v93, v293] : Fin 2 → IVec S16 32) a x).toNat < S128x128.size a) ∧
  (∀ a x, ((![v93, v293] : Fin 2 → IVec S16 32) a x).toNat < S128x128.size a)
theorem k0_idx169_inb : ∀ (v93 : IVec S16 32) (v293 : IVec S16 32) (k0_hw85 : k0_chk85 v93 v293), ∀ a x, ((![v93, v293] : Fin 2 → IVec S16 32) a x).toNat < S128x128.size a := fun v93 v293 k0_hw85 => k0_hw85.1
theorem k0_idx170_inb : ∀ (v93 : IVec S16 32) (v293 : IVec S16 32) (k0_hw85 : k0_chk85 v93 v293), ∀ a x, ((![v93, v293] : Fin 2 → IVec S16 32) a x).toNat < S128x128.size a := fun v93 v293 k0_hw85 => k0_hw85.2

def k0_chk86 (v93 : IVec S16 32) (v301 : IVec S16 32) : Prop :=
  (∀ a x, ((![v93, v301] : Fin 2 → IVec S16 32) a x).toNat < S128x128.size a) ∧
  (∀ a x, ((![v93, v301] : Fin 2 → IVec S16 32) a x).toNat < S128x128.size a)
theorem k0_idx171_inb : ∀ (v93 : IVec S16 32) (v301 : IVec S16 32) (k0_hw86 : k0_chk86 v93 v301), ∀ a x, ((![v93, v301] : Fin 2 → IVec S16 32) a x).toNat < S128x128.size a := fun v93 v301 k0_hw86 => k0_hw86.1
theorem k0_idx172_inb : ∀ (v93 : IVec S16 32) (v301 : IVec S16 32) (k0_hw86 : k0_chk86 v93 v301), ∀ a x, ((![v93, v301] : Fin 2 → IVec S16 32) a x).toNat < S128x128.size a := fun v93 v301 k0_hw86 => k0_hw86.2

def k0_chk87 (v93 : IVec S16 32) (v309 : IVec S16 32) : Prop :=
  (∀ a x, ((![v93, v309] : Fin 2 → IVec S16 32) a x).toNat < S128x128.size a) ∧
  (∀ a x, ((![v93, v309] : Fin 2 → IVec S16 32) a x).toNat < S128x128.size a)
theorem k0_idx173_inb : ∀ (v93 : IVec S16 32) (v309 : IVec S16 32) (k0_hw87 : k0_chk87 v93 v309), ∀ a x, ((![v93, v309] : Fin 2 → IVec S16 32) a x).toNat < S128x128.size a := fun v93 v309 k0_hw87 => k0_hw87.1
theorem k0_idx174_inb : ∀ (v93 : IVec S16 32) (v309 : IVec S16 32) (k0_hw87 : k0_chk87 v93 v309), ∀ a x, ((![v93, v309] : Fin 2 → IVec S16 32) a x).toNat < S128x128.size a := fun v93 v309 k0_hw87 => k0_hw87.2

def k0_chk88 (v93 : IVec S16 32) (v317 : IVec S16 32) : Prop :=
  (∀ a x, ((![v93, v317] : Fin 2 → IVec S16 32) a x).toNat < S128x128.size a) ∧
  (∀ a x, ((![v93, v317] : Fin 2 → IVec S16 32) a x).toNat < S128x128.size a)
theorem k0_idx175_inb : ∀ (v93 : IVec S16 32) (v317 : IVec S16 32) (k0_hw88 : k0_chk88 v93 v317), ∀ a x, ((![v93, v317] : Fin 2 → IVec S16 32) a x).toNat < S128x128.size a := fun v93 v317 k0_hw88 => k0_hw88.1
theorem k0_idx176_inb : ∀ (v93 : IVec S16 32) (v317 : IVec S16 32) (k0_hw88 : k0_chk88 v93 v317), ∀ a x, ((![v93, v317] : Fin 2 → IVec S16 32) a x).toNat < S128x128.size a := fun v93 v317 k0_hw88 => k0_hw88.2
@[reducible] def k0_t12_loop : Scf.Loop 32 :=
  let c0_i32_80 : BitVec 32 := 0#32
  let c16_i32_81 : BitVec 32 := 16#32
  let v102 : BitVec 32 := Scalar.addi c0_i32_80 c16_i32_81
  let c1_i32_82 : BitVec 32 := 1#32
  ⟨c0_i32_80, v102, c1_i32_82⟩

def k0_chk89 (v100 : IVec S16 32) (v261 : IVec S16 32) : Prop :=
  (∀ a x, ((![v100, v261] : Fin 2 → IVec S16 32) a x).toNat < S128x128.size a) ∧
  (∀ a x, ((![v100, v261] : Fin 2 → IVec S16 32) a x).toNat < S128x128.size a)
theorem k0_idx177_inb : ∀ (v100 : IVec S16 32) (v261 : IVec S16 32) (k0_hw89 : k0_chk89 v100 v261), ∀ a x, ((![v100, v261] : Fin 2 → IVec S16 32) a x).toNat < S128x128.size a := fun v100 v261 k0_hw89 => k0_hw89.1
theorem k0_idx178_inb : ∀ (v100 : IVec S16 32) (v261 : IVec S16 32) (k0_hw89 : k0_chk89 v100 v261), ∀ a x, ((![v100, v261] : Fin 2 → IVec S16 32) a x).toNat < S128x128.size a := fun v100 v261 k0_hw89 => k0_hw89.2

def k0_chk90 (v100 : IVec S16 32) (v269 : IVec S16 32) : Prop :=
  (∀ a x, ((![v100, v269] : Fin 2 → IVec S16 32) a x).toNat < S128x128.size a) ∧
  (∀ a x, ((![v100, v269] : Fin 2 → IVec S16 32) a x).toNat < S128x128.size a)
theorem k0_idx179_inb : ∀ (v100 : IVec S16 32) (v269 : IVec S16 32) (k0_hw90 : k0_chk90 v100 v269), ∀ a x, ((![v100, v269] : Fin 2 → IVec S16 32) a x).toNat < S128x128.size a := fun v100 v269 k0_hw90 => k0_hw90.1
theorem k0_idx180_inb : ∀ (v100 : IVec S16 32) (v269 : IVec S16 32) (k0_hw90 : k0_chk90 v100 v269), ∀ a x, ((![v100, v269] : Fin 2 → IVec S16 32) a x).toNat < S128x128.size a := fun v100 v269 k0_hw90 => k0_hw90.2

def k0_chk91 (v100 : IVec S16 32) (v277 : IVec S16 32) : Prop :=
  (∀ a x, ((![v100, v277] : Fin 2 → IVec S16 32) a x).toNat < S128x128.size a) ∧
  (∀ a x, ((![v100, v277] : Fin 2 → IVec S16 32) a x).toNat < S128x128.size a)
theorem k0_idx181_inb : ∀ (v100 : IVec S16 32) (v277 : IVec S16 32) (k0_hw91 : k0_chk91 v100 v277), ∀ a x, ((![v100, v277] : Fin 2 → IVec S16 32) a x).toNat < S128x128.size a := fun v100 v277 k0_hw91 => k0_hw91.1
theorem k0_idx182_inb : ∀ (v100 : IVec S16 32) (v277 : IVec S16 32) (k0_hw91 : k0_chk91 v100 v277), ∀ a x, ((![v100, v277] : Fin 2 → IVec S16 32) a x).toNat < S128x128.size a := fun v100 v277 k0_hw91 => k0_hw91.2

def k0_chk92 (v100 : IVec S16 32) (v285 : IVec S16 32) : Prop :=
  (∀ a x, ((![v100, v285] : Fin 2 → IVec S16 32) a x).toNat < S128x128.size a) ∧
  (∀ a x, ((![v100, v285] : Fin 2 → IVec S16 32) a x).toNat < S128x128.size a)
theorem k0_idx183_inb : ∀ (v100 : IVec S16 32) (v285 : IVec S16 32) (k0_hw92 : k0_chk92 v100 v285), ∀ a x, ((![v100, v285] : Fin 2 → IVec S16 32) a x).toNat < S128x128.size a := fun v100 v285 k0_hw92 => k0_hw92.1
theorem k0_idx184_inb : ∀ (v100 : IVec S16 32) (v285 : IVec S16 32) (k0_hw92 : k0_chk92 v100 v285), ∀ a x, ((![v100, v285] : Fin 2 → IVec S16 32) a x).toNat < S128x128.size a := fun v100 v285 k0_hw92 => k0_hw92.2

def k0_chk93 (v100 : IVec S16 32) (v293 : IVec S16 32) : Prop :=
  (∀ a x, ((![v100, v293] : Fin 2 → IVec S16 32) a x).toNat < S128x128.size a) ∧
  (∀ a x, ((![v100, v293] : Fin 2 → IVec S16 32) a x).toNat < S128x128.size a)
theorem k0_idx185_inb : ∀ (v100 : IVec S16 32) (v293 : IVec S16 32) (k0_hw93 : k0_chk93 v100 v293), ∀ a x, ((![v100, v293] : Fin 2 → IVec S16 32) a x).toNat < S128x128.size a := fun v100 v293 k0_hw93 => k0_hw93.1
theorem k0_idx186_inb : ∀ (v100 : IVec S16 32) (v293 : IVec S16 32) (k0_hw93 : k0_chk93 v100 v293), ∀ a x, ((![v100, v293] : Fin 2 → IVec S16 32) a x).toNat < S128x128.size a := fun v100 v293 k0_hw93 => k0_hw93.2

def k0_chk94 (v100 : IVec S16 32) (v301 : IVec S16 32) : Prop :=
  (∀ a x, ((![v100, v301] : Fin 2 → IVec S16 32) a x).toNat < S128x128.size a) ∧
  (∀ a x, ((![v100, v301] : Fin 2 → IVec S16 32) a x).toNat < S128x128.size a)
theorem k0_idx187_inb : ∀ (v100 : IVec S16 32) (v301 : IVec S16 32) (k0_hw94 : k0_chk94 v100 v301), ∀ a x, ((![v100, v301] : Fin 2 → IVec S16 32) a x).toNat < S128x128.size a := fun v100 v301 k0_hw94 => k0_hw94.1
theorem k0_idx188_inb : ∀ (v100 : IVec S16 32) (v301 : IVec S16 32) (k0_hw94 : k0_chk94 v100 v301), ∀ a x, ((![v100, v301] : Fin 2 → IVec S16 32) a x).toNat < S128x128.size a := fun v100 v301 k0_hw94 => k0_hw94.2

def k0_chk95 (v100 : IVec S16 32) (v309 : IVec S16 32) : Prop :=
  (∀ a x, ((![v100, v309] : Fin 2 → IVec S16 32) a x).toNat < S128x128.size a) ∧
  (∀ a x, ((![v100, v309] : Fin 2 → IVec S16 32) a x).toNat < S128x128.size a)
theorem k0_idx189_inb : ∀ (v100 : IVec S16 32) (v309 : IVec S16 32) (k0_hw95 : k0_chk95 v100 v309), ∀ a x, ((![v100, v309] : Fin 2 → IVec S16 32) a x).toNat < S128x128.size a := fun v100 v309 k0_hw95 => k0_hw95.1
theorem k0_idx190_inb : ∀ (v100 : IVec S16 32) (v309 : IVec S16 32) (k0_hw95 : k0_chk95 v100 v309), ∀ a x, ((![v100, v309] : Fin 2 → IVec S16 32) a x).toNat < S128x128.size a := fun v100 v309 k0_hw95 => k0_hw95.2

def k0_chk96 (v100 : IVec S16 32) (v317 : IVec S16 32) : Prop :=
  (∀ a x, ((![v100, v317] : Fin 2 → IVec S16 32) a x).toNat < S128x128.size a) ∧
  (∀ a x, ((![v100, v317] : Fin 2 → IVec S16 32) a x).toNat < S128x128.size a)
theorem k0_idx191_inb : ∀ (v100 : IVec S16 32) (v317 : IVec S16 32) (k0_hw96 : k0_chk96 v100 v317), ∀ a x, ((![v100, v317] : Fin 2 → IVec S16 32) a x).toNat < S128x128.size a := fun v100 v317 k0_hw96 => k0_hw96.1
theorem k0_idx192_inb : ∀ (v100 : IVec S16 32) (v317 : IVec S16 32) (k0_hw96 : k0_chk96 v100 v317), ∀ a x, ((![v100, v317] : Fin 2 → IVec S16 32) a x).toNat < S128x128.size a := fun v100 v317 k0_hw96 => k0_hw96.2
@[reducible] def k0_t13_loop : Scf.Loop 32 :=
  let c0_i32_86 : BitVec 32 := 0#32
  let c16_i32_87 : BitVec 32 := 16#32
  let v109 : BitVec 32 := Scalar.addi c0_i32_86 c16_i32_87
  let c1_i32_88 : BitVec 32 := 1#32
  ⟨c0_i32_86, v109, c1_i32_88⟩

def k0_chk97 (v107 : IVec S16 32) (v261 : IVec S16 32) : Prop :=
  (∀ a x, ((![v107, v261] : Fin 2 → IVec S16 32) a x).toNat < S128x128.size a) ∧
  (∀ a x, ((![v107, v261] : Fin 2 → IVec S16 32) a x).toNat < S128x128.size a)
theorem k0_idx193_inb : ∀ (v107 : IVec S16 32) (v261 : IVec S16 32) (k0_hw97 : k0_chk97 v107 v261), ∀ a x, ((![v107, v261] : Fin 2 → IVec S16 32) a x).toNat < S128x128.size a := fun v107 v261 k0_hw97 => k0_hw97.1
theorem k0_idx194_inb : ∀ (v107 : IVec S16 32) (v261 : IVec S16 32) (k0_hw97 : k0_chk97 v107 v261), ∀ a x, ((![v107, v261] : Fin 2 → IVec S16 32) a x).toNat < S128x128.size a := fun v107 v261 k0_hw97 => k0_hw97.2

def k0_chk98 (v107 : IVec S16 32) (v269 : IVec S16 32) : Prop :=
  (∀ a x, ((![v107, v269] : Fin 2 → IVec S16 32) a x).toNat < S128x128.size a) ∧
  (∀ a x, ((![v107, v269] : Fin 2 → IVec S16 32) a x).toNat < S128x128.size a)
theorem k0_idx195_inb : ∀ (v107 : IVec S16 32) (v269 : IVec S16 32) (k0_hw98 : k0_chk98 v107 v269), ∀ a x, ((![v107, v269] : Fin 2 → IVec S16 32) a x).toNat < S128x128.size a := fun v107 v269 k0_hw98 => k0_hw98.1
theorem k0_idx196_inb : ∀ (v107 : IVec S16 32) (v269 : IVec S16 32) (k0_hw98 : k0_chk98 v107 v269), ∀ a x, ((![v107, v269] : Fin 2 → IVec S16 32) a x).toNat < S128x128.size a := fun v107 v269 k0_hw98 => k0_hw98.2

def k0_chk99 (v107 : IVec S16 32) (v277 : IVec S16 32) : Prop :=
  (∀ a x, ((![v107, v277] : Fin 2 → IVec S16 32) a x).toNat < S128x128.size a) ∧
  (∀ a x, ((![v107, v277] : Fin 2 → IVec S16 32) a x).toNat < S128x128.size a)
theorem k0_idx197_inb : ∀ (v107 : IVec S16 32) (v277 : IVec S16 32) (k0_hw99 : k0_chk99 v107 v277), ∀ a x, ((![v107, v277] : Fin 2 → IVec S16 32) a x).toNat < S128x128.size a := fun v107 v277 k0_hw99 => k0_hw99.1
theorem k0_idx198_inb : ∀ (v107 : IVec S16 32) (v277 : IVec S16 32) (k0_hw99 : k0_chk99 v107 v277), ∀ a x, ((![v107, v277] : Fin 2 → IVec S16 32) a x).toNat < S128x128.size a := fun v107 v277 k0_hw99 => k0_hw99.2

def k0_chk100 (v107 : IVec S16 32) (v285 : IVec S16 32) : Prop :=
  (∀ a x, ((![v107, v285] : Fin 2 → IVec S16 32) a x).toNat < S128x128.size a) ∧
  (∀ a x, ((![v107, v285] : Fin 2 → IVec S16 32) a x).toNat < S128x128.size a)
theorem k0_idx199_inb : ∀ (v107 : IVec S16 32) (v285 : IVec S16 32) (k0_hw100 : k0_chk100 v107 v285), ∀ a x, ((![v107, v285] : Fin 2 → IVec S16 32) a x).toNat < S128x128.size a := fun v107 v285 k0_hw100 => k0_hw100.1
theorem k0_idx200_inb : ∀ (v107 : IVec S16 32) (v285 : IVec S16 32) (k0_hw100 : k0_chk100 v107 v285), ∀ a x, ((![v107, v285] : Fin 2 → IVec S16 32) a x).toNat < S128x128.size a := fun v107 v285 k0_hw100 => k0_hw100.2

def k0_chk101 (v107 : IVec S16 32) (v293 : IVec S16 32) : Prop :=
  (∀ a x, ((![v107, v293] : Fin 2 → IVec S16 32) a x).toNat < S128x128.size a) ∧
  (∀ a x, ((![v107, v293] : Fin 2 → IVec S16 32) a x).toNat < S128x128.size a)
theorem k0_idx201_inb : ∀ (v107 : IVec S16 32) (v293 : IVec S16 32) (k0_hw101 : k0_chk101 v107 v293), ∀ a x, ((![v107, v293] : Fin 2 → IVec S16 32) a x).toNat < S128x128.size a := fun v107 v293 k0_hw101 => k0_hw101.1
theorem k0_idx202_inb : ∀ (v107 : IVec S16 32) (v293 : IVec S16 32) (k0_hw101 : k0_chk101 v107 v293), ∀ a x, ((![v107, v293] : Fin 2 → IVec S16 32) a x).toNat < S128x128.size a := fun v107 v293 k0_hw101 => k0_hw101.2

def k0_chk102 (v107 : IVec S16 32) (v301 : IVec S16 32) : Prop :=
  (∀ a x, ((![v107, v301] : Fin 2 → IVec S16 32) a x).toNat < S128x128.size a) ∧
  (∀ a x, ((![v107, v301] : Fin 2 → IVec S16 32) a x).toNat < S128x128.size a)
theorem k0_idx203_inb : ∀ (v107 : IVec S16 32) (v301 : IVec S16 32) (k0_hw102 : k0_chk102 v107 v301), ∀ a x, ((![v107, v301] : Fin 2 → IVec S16 32) a x).toNat < S128x128.size a := fun v107 v301 k0_hw102 => k0_hw102.1
theorem k0_idx204_inb : ∀ (v107 : IVec S16 32) (v301 : IVec S16 32) (k0_hw102 : k0_chk102 v107 v301), ∀ a x, ((![v107, v301] : Fin 2 → IVec S16 32) a x).toNat < S128x128.size a := fun v107 v301 k0_hw102 => k0_hw102.2

def k0_chk103 (v107 : IVec S16 32) (v309 : IVec S16 32) : Prop :=
  (∀ a x, ((![v107, v309] : Fin 2 → IVec S16 32) a x).toNat < S128x128.size a) ∧
  (∀ a x, ((![v107, v309] : Fin 2 → IVec S16 32) a x).toNat < S128x128.size a)
theorem k0_idx205_inb : ∀ (v107 : IVec S16 32) (v309 : IVec S16 32) (k0_hw103 : k0_chk103 v107 v309), ∀ a x, ((![v107, v309] : Fin 2 → IVec S16 32) a x).toNat < S128x128.size a := fun v107 v309 k0_hw103 => k0_hw103.1
theorem k0_idx206_inb : ∀ (v107 : IVec S16 32) (v309 : IVec S16 32) (k0_hw103 : k0_chk103 v107 v309), ∀ a x, ((![v107, v309] : Fin 2 → IVec S16 32) a x).toNat < S128x128.size a := fun v107 v309 k0_hw103 => k0_hw103.2

def k0_chk104 (v107 : IVec S16 32) (v317 : IVec S16 32) : Prop :=
  (∀ a x, ((![v107, v317] : Fin 2 → IVec S16 32) a x).toNat < S128x128.size a) ∧
  (∀ a x, ((![v107, v317] : Fin 2 → IVec S16 32) a x).toNat < S128x128.size a)
theorem k0_idx207_inb : ∀ (v107 : IVec S16 32) (v317 : IVec S16 32) (k0_hw104 : k0_chk104 v107 v317), ∀ a x, ((![v107, v317] : Fin 2 → IVec S16 32) a x).toNat < S128x128.size a := fun v107 v317 k0_hw104 => k0_hw104.1
theorem k0_idx208_inb : ∀ (v107 : IVec S16 32) (v317 : IVec S16 32) (k0_hw104 : k0_chk104 v107 v317), ∀ a x, ((![v107, v317] : Fin 2 → IVec S16 32) a x).toNat < S128x128.size a := fun v107 v317 k0_hw104 => k0_hw104.2
@[reducible] def k0_t14_loop : Scf.Loop 32 :=
  let c0_i32_92 : BitVec 32 := 0#32
  let c16_i32_93 : BitVec 32 := 16#32
  let v116 : BitVec 32 := Scalar.addi c0_i32_92 c16_i32_93
  let c1_i32_94 : BitVec 32 := 1#32
  ⟨c0_i32_92, v116, c1_i32_94⟩

def k0_chk105 (v114 : IVec S16 32) (v261 : IVec S16 32) : Prop :=
  (∀ a x, ((![v114, v261] : Fin 2 → IVec S16 32) a x).toNat < S128x128.size a) ∧
  (∀ a x, ((![v114, v261] : Fin 2 → IVec S16 32) a x).toNat < S128x128.size a)
theorem k0_idx209_inb : ∀ (v114 : IVec S16 32) (v261 : IVec S16 32) (k0_hw105 : k0_chk105 v114 v261), ∀ a x, ((![v114, v261] : Fin 2 → IVec S16 32) a x).toNat < S128x128.size a := fun v114 v261 k0_hw105 => k0_hw105.1
theorem k0_idx210_inb : ∀ (v114 : IVec S16 32) (v261 : IVec S16 32) (k0_hw105 : k0_chk105 v114 v261), ∀ a x, ((![v114, v261] : Fin 2 → IVec S16 32) a x).toNat < S128x128.size a := fun v114 v261 k0_hw105 => k0_hw105.2

def k0_chk106 (v114 : IVec S16 32) (v269 : IVec S16 32) : Prop :=
  (∀ a x, ((![v114, v269] : Fin 2 → IVec S16 32) a x).toNat < S128x128.size a) ∧
  (∀ a x, ((![v114, v269] : Fin 2 → IVec S16 32) a x).toNat < S128x128.size a)
theorem k0_idx211_inb : ∀ (v114 : IVec S16 32) (v269 : IVec S16 32) (k0_hw106 : k0_chk106 v114 v269), ∀ a x, ((![v114, v269] : Fin 2 → IVec S16 32) a x).toNat < S128x128.size a := fun v114 v269 k0_hw106 => k0_hw106.1
theorem k0_idx212_inb : ∀ (v114 : IVec S16 32) (v269 : IVec S16 32) (k0_hw106 : k0_chk106 v114 v269), ∀ a x, ((![v114, v269] : Fin 2 → IVec S16 32) a x).toNat < S128x128.size a := fun v114 v269 k0_hw106 => k0_hw106.2

def k0_chk107 (v114 : IVec S16 32) (v277 : IVec S16 32) : Prop :=
  (∀ a x, ((![v114, v277] : Fin 2 → IVec S16 32) a x).toNat < S128x128.size a) ∧
  (∀ a x, ((![v114, v277] : Fin 2 → IVec S16 32) a x).toNat < S128x128.size a)
theorem k0_idx213_inb : ∀ (v114 : IVec S16 32) (v277 : IVec S16 32) (k0_hw107 : k0_chk107 v114 v277), ∀ a x, ((![v114, v277] : Fin 2 → IVec S16 32) a x).toNat < S128x128.size a := fun v114 v277 k0_hw107 => k0_hw107.1
theorem k0_idx214_inb : ∀ (v114 : IVec S16 32) (v277 : IVec S16 32) (k0_hw107 : k0_chk107 v114 v277), ∀ a x, ((![v114, v277] : Fin 2 → IVec S16 32) a x).toNat < S128x128.size a := fun v114 v277 k0_hw107 => k0_hw107.2

def k0_chk108 (v114 : IVec S16 32) (v285 : IVec S16 32) : Prop :=
  (∀ a x, ((![v114, v285] : Fin 2 → IVec S16 32) a x).toNat < S128x128.size a) ∧
  (∀ a x, ((![v114, v285] : Fin 2 → IVec S16 32) a x).toNat < S128x128.size a)
theorem k0_idx215_inb : ∀ (v114 : IVec S16 32) (v285 : IVec S16 32) (k0_hw108 : k0_chk108 v114 v285), ∀ a x, ((![v114, v285] : Fin 2 → IVec S16 32) a x).toNat < S128x128.size a := fun v114 v285 k0_hw108 => k0_hw108.1
theorem k0_idx216_inb : ∀ (v114 : IVec S16 32) (v285 : IVec S16 32) (k0_hw108 : k0_chk108 v114 v285), ∀ a x, ((![v114, v285] : Fin 2 → IVec S16 32) a x).toNat < S128x128.size a := fun v114 v285 k0_hw108 => k0_hw108.2

def k0_chk109 (v114 : IVec S16 32) (v293 : IVec S16 32) : Prop :=
  (∀ a x, ((![v114, v293] : Fin 2 → IVec S16 32) a x).toNat < S128x128.size a) ∧
  (∀ a x, ((![v114, v293] : Fin 2 → IVec S16 32) a x).toNat < S128x128.size a)
theorem k0_idx217_inb : ∀ (v114 : IVec S16 32) (v293 : IVec S16 32) (k0_hw109 : k0_chk109 v114 v293), ∀ a x, ((![v114, v293] : Fin 2 → IVec S16 32) a x).toNat < S128x128.size a := fun v114 v293 k0_hw109 => k0_hw109.1
theorem k0_idx218_inb : ∀ (v114 : IVec S16 32) (v293 : IVec S16 32) (k0_hw109 : k0_chk109 v114 v293), ∀ a x, ((![v114, v293] : Fin 2 → IVec S16 32) a x).toNat < S128x128.size a := fun v114 v293 k0_hw109 => k0_hw109.2

def k0_chk110 (v114 : IVec S16 32) (v301 : IVec S16 32) : Prop :=
  (∀ a x, ((![v114, v301] : Fin 2 → IVec S16 32) a x).toNat < S128x128.size a) ∧
  (∀ a x, ((![v114, v301] : Fin 2 → IVec S16 32) a x).toNat < S128x128.size a)
theorem k0_idx219_inb : ∀ (v114 : IVec S16 32) (v301 : IVec S16 32) (k0_hw110 : k0_chk110 v114 v301), ∀ a x, ((![v114, v301] : Fin 2 → IVec S16 32) a x).toNat < S128x128.size a := fun v114 v301 k0_hw110 => k0_hw110.1
theorem k0_idx220_inb : ∀ (v114 : IVec S16 32) (v301 : IVec S16 32) (k0_hw110 : k0_chk110 v114 v301), ∀ a x, ((![v114, v301] : Fin 2 → IVec S16 32) a x).toNat < S128x128.size a := fun v114 v301 k0_hw110 => k0_hw110.2

def k0_chk111 (v114 : IVec S16 32) (v309 : IVec S16 32) : Prop :=
  (∀ a x, ((![v114, v309] : Fin 2 → IVec S16 32) a x).toNat < S128x128.size a) ∧
  (∀ a x, ((![v114, v309] : Fin 2 → IVec S16 32) a x).toNat < S128x128.size a)
theorem k0_idx221_inb : ∀ (v114 : IVec S16 32) (v309 : IVec S16 32) (k0_hw111 : k0_chk111 v114 v309), ∀ a x, ((![v114, v309] : Fin 2 → IVec S16 32) a x).toNat < S128x128.size a := fun v114 v309 k0_hw111 => k0_hw111.1
theorem k0_idx222_inb : ∀ (v114 : IVec S16 32) (v309 : IVec S16 32) (k0_hw111 : k0_chk111 v114 v309), ∀ a x, ((![v114, v309] : Fin 2 → IVec S16 32) a x).toNat < S128x128.size a := fun v114 v309 k0_hw111 => k0_hw111.2

def k0_chk112 (v114 : IVec S16 32) (v317 : IVec S16 32) : Prop :=
  (∀ a x, ((![v114, v317] : Fin 2 → IVec S16 32) a x).toNat < S128x128.size a) ∧
  (∀ a x, ((![v114, v317] : Fin 2 → IVec S16 32) a x).toNat < S128x128.size a)
theorem k0_idx223_inb : ∀ (v114 : IVec S16 32) (v317 : IVec S16 32) (k0_hw112 : k0_chk112 v114 v317), ∀ a x, ((![v114, v317] : Fin 2 → IVec S16 32) a x).toNat < S128x128.size a := fun v114 v317 k0_hw112 => k0_hw112.1
theorem k0_idx224_inb : ∀ (v114 : IVec S16 32) (v317 : IVec S16 32) (k0_hw112 : k0_chk112 v114 v317), ∀ a x, ((![v114, v317] : Fin 2 → IVec S16 32) a x).toNat < S128x128.size a := fun v114 v317 k0_hw112 => k0_hw112.2
@[reducible] def k0_t15_loop : Scf.Loop 32 :=
  let c0_i32_98 : BitVec 32 := 0#32
  let c16_i32_99 : BitVec 32 := 16#32
  let v123 : BitVec 32 := Scalar.addi c0_i32_98 c16_i32_99
  let c1_i32_100 : BitVec 32 := 1#32
  ⟨c0_i32_98, v123, c1_i32_100⟩

def k0_chk113 (v121 : IVec S16 32) (v261 : IVec S16 32) : Prop :=
  (∀ a x, ((![v121, v261] : Fin 2 → IVec S16 32) a x).toNat < S128x128.size a) ∧
  (∀ a x, ((![v121, v261] : Fin 2 → IVec S16 32) a x).toNat < S128x128.size a)
theorem k0_idx225_inb : ∀ (v121 : IVec S16 32) (v261 : IVec S16 32) (k0_hw113 : k0_chk113 v121 v261), ∀ a x, ((![v121, v261] : Fin 2 → IVec S16 32) a x).toNat < S128x128.size a := fun v121 v261 k0_hw113 => k0_hw113.1
theorem k0_idx226_inb : ∀ (v121 : IVec S16 32) (v261 : IVec S16 32) (k0_hw113 : k0_chk113 v121 v261), ∀ a x, ((![v121, v261] : Fin 2 → IVec S16 32) a x).toNat < S128x128.size a := fun v121 v261 k0_hw113 => k0_hw113.2

def k0_chk114 (v121 : IVec S16 32) (v269 : IVec S16 32) : Prop :=
  (∀ a x, ((![v121, v269] : Fin 2 → IVec S16 32) a x).toNat < S128x128.size a) ∧
  (∀ a x, ((![v121, v269] : Fin 2 → IVec S16 32) a x).toNat < S128x128.size a)
theorem k0_idx227_inb : ∀ (v121 : IVec S16 32) (v269 : IVec S16 32) (k0_hw114 : k0_chk114 v121 v269), ∀ a x, ((![v121, v269] : Fin 2 → IVec S16 32) a x).toNat < S128x128.size a := fun v121 v269 k0_hw114 => k0_hw114.1
theorem k0_idx228_inb : ∀ (v121 : IVec S16 32) (v269 : IVec S16 32) (k0_hw114 : k0_chk114 v121 v269), ∀ a x, ((![v121, v269] : Fin 2 → IVec S16 32) a x).toNat < S128x128.size a := fun v121 v269 k0_hw114 => k0_hw114.2

def k0_chk115 (v121 : IVec S16 32) (v277 : IVec S16 32) : Prop :=
  (∀ a x, ((![v121, v277] : Fin 2 → IVec S16 32) a x).toNat < S128x128.size a) ∧
  (∀ a x, ((![v121, v277] : Fin 2 → IVec S16 32) a x).toNat < S128x128.size a)
theorem k0_idx229_inb : ∀ (v121 : IVec S16 32) (v277 : IVec S16 32) (k0_hw115 : k0_chk115 v121 v277), ∀ a x, ((![v121, v277] : Fin 2 → IVec S16 32) a x).toNat < S128x128.size a := fun v121 v277 k0_hw115 => k0_hw115.1
theorem k0_idx230_inb : ∀ (v121 : IVec S16 32) (v277 : IVec S16 32) (k0_hw115 : k0_chk115 v121 v277), ∀ a x, ((![v121, v277] : Fin 2 → IVec S16 32) a x).toNat < S128x128.size a := fun v121 v277 k0_hw115 => k0_hw115.2

def k0_chk116 (v121 : IVec S16 32) (v285 : IVec S16 32) : Prop :=
  (∀ a x, ((![v121, v285] : Fin 2 → IVec S16 32) a x).toNat < S128x128.size a) ∧
  (∀ a x, ((![v121, v285] : Fin 2 → IVec S16 32) a x).toNat < S128x128.size a)
theorem k0_idx231_inb : ∀ (v121 : IVec S16 32) (v285 : IVec S16 32) (k0_hw116 : k0_chk116 v121 v285), ∀ a x, ((![v121, v285] : Fin 2 → IVec S16 32) a x).toNat < S128x128.size a := fun v121 v285 k0_hw116 => k0_hw116.1
theorem k0_idx232_inb : ∀ (v121 : IVec S16 32) (v285 : IVec S16 32) (k0_hw116 : k0_chk116 v121 v285), ∀ a x, ((![v121, v285] : Fin 2 → IVec S16 32) a x).toNat < S128x128.size a := fun v121 v285 k0_hw116 => k0_hw116.2

def k0_chk117 (v121 : IVec S16 32) (v293 : IVec S16 32) : Prop :=
  (∀ a x, ((![v121, v293] : Fin 2 → IVec S16 32) a x).toNat < S128x128.size a) ∧
  (∀ a x, ((![v121, v293] : Fin 2 → IVec S16 32) a x).toNat < S128x128.size a)
theorem k0_idx233_inb : ∀ (v121 : IVec S16 32) (v293 : IVec S16 32) (k0_hw117 : k0_chk117 v121 v293), ∀ a x, ((![v121, v293] : Fin 2 → IVec S16 32) a x).toNat < S128x128.size a := fun v121 v293 k0_hw117 => k0_hw117.1
theorem k0_idx234_inb : ∀ (v121 : IVec S16 32) (v293 : IVec S16 32) (k0_hw117 : k0_chk117 v121 v293), ∀ a x, ((![v121, v293] : Fin 2 → IVec S16 32) a x).toNat < S128x128.size a := fun v121 v293 k0_hw117 => k0_hw117.2

def k0_chk118 (v121 : IVec S16 32) (v301 : IVec S16 32) : Prop :=
  (∀ a x, ((![v121, v301] : Fin 2 → IVec S16 32) a x).toNat < S128x128.size a) ∧
  (∀ a x, ((![v121, v301] : Fin 2 → IVec S16 32) a x).toNat < S128x128.size a)
theorem k0_idx235_inb : ∀ (v121 : IVec S16 32) (v301 : IVec S16 32) (k0_hw118 : k0_chk118 v121 v301), ∀ a x, ((![v121, v301] : Fin 2 → IVec S16 32) a x).toNat < S128x128.size a := fun v121 v301 k0_hw118 => k0_hw118.1
theorem k0_idx236_inb : ∀ (v121 : IVec S16 32) (v301 : IVec S16 32) (k0_hw118 : k0_chk118 v121 v301), ∀ a x, ((![v121, v301] : Fin 2 → IVec S16 32) a x).toNat < S128x128.size a := fun v121 v301 k0_hw118 => k0_hw118.2

def k0_chk119 (v121 : IVec S16 32) (v309 : IVec S16 32) : Prop :=
  (∀ a x, ((![v121, v309] : Fin 2 → IVec S16 32) a x).toNat < S128x128.size a) ∧
  (∀ a x, ((![v121, v309] : Fin 2 → IVec S16 32) a x).toNat < S128x128.size a)
theorem k0_idx237_inb : ∀ (v121 : IVec S16 32) (v309 : IVec S16 32) (k0_hw119 : k0_chk119 v121 v309), ∀ a x, ((![v121, v309] : Fin 2 → IVec S16 32) a x).toNat < S128x128.size a := fun v121 v309 k0_hw119 => k0_hw119.1
theorem k0_idx238_inb : ∀ (v121 : IVec S16 32) (v309 : IVec S16 32) (k0_hw119 : k0_chk119 v121 v309), ∀ a x, ((![v121, v309] : Fin 2 → IVec S16 32) a x).toNat < S128x128.size a := fun v121 v309 k0_hw119 => k0_hw119.2

def k0_chk120 (v121 : IVec S16 32) (v317 : IVec S16 32) : Prop :=
  (∀ a x, ((![v121, v317] : Fin 2 → IVec S16 32) a x).toNat < S128x128.size a) ∧
  (∀ a x, ((![v121, v317] : Fin 2 → IVec S16 32) a x).toNat < S128x128.size a)
theorem k0_idx239_inb : ∀ (v121 : IVec S16 32) (v317 : IVec S16 32) (k0_hw120 : k0_chk120 v121 v317), ∀ a x, ((![v121, v317] : Fin 2 → IVec S16 32) a x).toNat < S128x128.size a := fun v121 v317 k0_hw120 => k0_hw120.1
theorem k0_idx240_inb : ∀ (v121 : IVec S16 32) (v317 : IVec S16 32) (k0_hw120 : k0_chk120 v121 v317), ∀ a x, ((![v121, v317] : Fin 2 → IVec S16 32) a x).toNat < S128x128.size a := fun v121 v317 k0_hw120 => k0_hw120.2
@[reducible] def k0_t16_loop : Scf.Loop 32 :=
  let c0_i32_104 : BitVec 32 := 0#32
  let c16_i32_105 : BitVec 32 := 16#32
  let v130 : BitVec 32 := Scalar.addi c0_i32_104 c16_i32_105
  let c1_i32_106 : BitVec 32 := 1#32
  ⟨c0_i32_104, v130, c1_i32_106⟩

def k0_chk121 (v128 : IVec S16 32) (v261 : IVec S16 32) : Prop :=
  (∀ a x, ((![v128, v261] : Fin 2 → IVec S16 32) a x).toNat < S128x128.size a) ∧
  (∀ a x, ((![v128, v261] : Fin 2 → IVec S16 32) a x).toNat < S128x128.size a)
theorem k0_idx241_inb : ∀ (v128 : IVec S16 32) (v261 : IVec S16 32) (k0_hw121 : k0_chk121 v128 v261), ∀ a x, ((![v128, v261] : Fin 2 → IVec S16 32) a x).toNat < S128x128.size a := fun v128 v261 k0_hw121 => k0_hw121.1
theorem k0_idx242_inb : ∀ (v128 : IVec S16 32) (v261 : IVec S16 32) (k0_hw121 : k0_chk121 v128 v261), ∀ a x, ((![v128, v261] : Fin 2 → IVec S16 32) a x).toNat < S128x128.size a := fun v128 v261 k0_hw121 => k0_hw121.2

def k0_chk122 (v128 : IVec S16 32) (v269 : IVec S16 32) : Prop :=
  (∀ a x, ((![v128, v269] : Fin 2 → IVec S16 32) a x).toNat < S128x128.size a) ∧
  (∀ a x, ((![v128, v269] : Fin 2 → IVec S16 32) a x).toNat < S128x128.size a)
theorem k0_idx243_inb : ∀ (v128 : IVec S16 32) (v269 : IVec S16 32) (k0_hw122 : k0_chk122 v128 v269), ∀ a x, ((![v128, v269] : Fin 2 → IVec S16 32) a x).toNat < S128x128.size a := fun v128 v269 k0_hw122 => k0_hw122.1
theorem k0_idx244_inb : ∀ (v128 : IVec S16 32) (v269 : IVec S16 32) (k0_hw122 : k0_chk122 v128 v269), ∀ a x, ((![v128, v269] : Fin 2 → IVec S16 32) a x).toNat < S128x128.size a := fun v128 v269 k0_hw122 => k0_hw122.2

def k0_chk123 (v128 : IVec S16 32) (v277 : IVec S16 32) : Prop :=
  (∀ a x, ((![v128, v277] : Fin 2 → IVec S16 32) a x).toNat < S128x128.size a) ∧
  (∀ a x, ((![v128, v277] : Fin 2 → IVec S16 32) a x).toNat < S128x128.size a)
theorem k0_idx245_inb : ∀ (v128 : IVec S16 32) (v277 : IVec S16 32) (k0_hw123 : k0_chk123 v128 v277), ∀ a x, ((![v128, v277] : Fin 2 → IVec S16 32) a x).toNat < S128x128.size a := fun v128 v277 k0_hw123 => k0_hw123.1
theorem k0_idx246_inb : ∀ (v128 : IVec S16 32) (v277 : IVec S16 32) (k0_hw123 : k0_chk123 v128 v277), ∀ a x, ((![v128, v277] : Fin 2 → IVec S16 32) a x).toNat < S128x128.size a := fun v128 v277 k0_hw123 => k0_hw123.2

def k0_chk124 (v128 : IVec S16 32) (v285 : IVec S16 32) : Prop :=
  (∀ a x, ((![v128, v285] : Fin 2 → IVec S16 32) a x).toNat < S128x128.size a) ∧
  (∀ a x, ((![v128, v285] : Fin 2 → IVec S16 32) a x).toNat < S128x128.size a)
theorem k0_idx247_inb : ∀ (v128 : IVec S16 32) (v285 : IVec S16 32) (k0_hw124 : k0_chk124 v128 v285), ∀ a x, ((![v128, v285] : Fin 2 → IVec S16 32) a x).toNat < S128x128.size a := fun v128 v285 k0_hw124 => k0_hw124.1
theorem k0_idx248_inb : ∀ (v128 : IVec S16 32) (v285 : IVec S16 32) (k0_hw124 : k0_chk124 v128 v285), ∀ a x, ((![v128, v285] : Fin 2 → IVec S16 32) a x).toNat < S128x128.size a := fun v128 v285 k0_hw124 => k0_hw124.2

def k0_chk125 (v128 : IVec S16 32) (v293 : IVec S16 32) : Prop :=
  (∀ a x, ((![v128, v293] : Fin 2 → IVec S16 32) a x).toNat < S128x128.size a) ∧
  (∀ a x, ((![v128, v293] : Fin 2 → IVec S16 32) a x).toNat < S128x128.size a)
theorem k0_idx249_inb : ∀ (v128 : IVec S16 32) (v293 : IVec S16 32) (k0_hw125 : k0_chk125 v128 v293), ∀ a x, ((![v128, v293] : Fin 2 → IVec S16 32) a x).toNat < S128x128.size a := fun v128 v293 k0_hw125 => k0_hw125.1
theorem k0_idx250_inb : ∀ (v128 : IVec S16 32) (v293 : IVec S16 32) (k0_hw125 : k0_chk125 v128 v293), ∀ a x, ((![v128, v293] : Fin 2 → IVec S16 32) a x).toNat < S128x128.size a := fun v128 v293 k0_hw125 => k0_hw125.2

def k0_chk126 (v128 : IVec S16 32) (v301 : IVec S16 32) : Prop :=
  (∀ a x, ((![v128, v301] : Fin 2 → IVec S16 32) a x).toNat < S128x128.size a) ∧
  (∀ a x, ((![v128, v301] : Fin 2 → IVec S16 32) a x).toNat < S128x128.size a)
theorem k0_idx251_inb : ∀ (v128 : IVec S16 32) (v301 : IVec S16 32) (k0_hw126 : k0_chk126 v128 v301), ∀ a x, ((![v128, v301] : Fin 2 → IVec S16 32) a x).toNat < S128x128.size a := fun v128 v301 k0_hw126 => k0_hw126.1
theorem k0_idx252_inb : ∀ (v128 : IVec S16 32) (v301 : IVec S16 32) (k0_hw126 : k0_chk126 v128 v301), ∀ a x, ((![v128, v301] : Fin 2 → IVec S16 32) a x).toNat < S128x128.size a := fun v128 v301 k0_hw126 => k0_hw126.2

def k0_chk127 (v128 : IVec S16 32) (v309 : IVec S16 32) : Prop :=
  (∀ a x, ((![v128, v309] : Fin 2 → IVec S16 32) a x).toNat < S128x128.size a) ∧
  (∀ a x, ((![v128, v309] : Fin 2 → IVec S16 32) a x).toNat < S128x128.size a)
theorem k0_idx253_inb : ∀ (v128 : IVec S16 32) (v309 : IVec S16 32) (k0_hw127 : k0_chk127 v128 v309), ∀ a x, ((![v128, v309] : Fin 2 → IVec S16 32) a x).toNat < S128x128.size a := fun v128 v309 k0_hw127 => k0_hw127.1
theorem k0_idx254_inb : ∀ (v128 : IVec S16 32) (v309 : IVec S16 32) (k0_hw127 : k0_chk127 v128 v309), ∀ a x, ((![v128, v309] : Fin 2 → IVec S16 32) a x).toNat < S128x128.size a := fun v128 v309 k0_hw127 => k0_hw127.2

def k0_chk128 (v128 : IVec S16 32) (v317 : IVec S16 32) : Prop :=
  (∀ a x, ((![v128, v317] : Fin 2 → IVec S16 32) a x).toNat < S128x128.size a) ∧
  (∀ a x, ((![v128, v317] : Fin 2 → IVec S16 32) a x).toNat < S128x128.size a)
theorem k0_idx255_inb : ∀ (v128 : IVec S16 32) (v317 : IVec S16 32) (k0_hw128 : k0_chk128 v128 v317), ∀ a x, ((![v128, v317] : Fin 2 → IVec S16 32) a x).toNat < S128x128.size a := fun v128 v317 k0_hw128 => k0_hw128.1
theorem k0_idx256_inb : ∀ (v128 : IVec S16 32) (v317 : IVec S16 32) (k0_hw128 : k0_chk128 v128 v317), ∀ a x, ((![v128, v317] : Fin 2 → IVec S16 32) a x).toNat < S128x128.size a := fun v128 v317 k0_hw128 => k0_hw128.2
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32_112 : BitVec 32 := 256#32
  let v136 : BitVec 32 := Scalar.addi v2 c256_i32_112
  let c0_i32_222_r6 : BitVec 32 := 0#32
  ![v136.toNat, 0]
@[reducible] def k0_t17_loop : Scf.Loop 32 :=
  let c0_i32_119 : BitVec 32 := 0#32
  let c16_i32_120 : BitVec 32 := 16#32
  let v144 : BitVec 32 := Scalar.addi c0_i32_119 c16_i32_120
  let c1_i32_121 : BitVec 32 := 1#32
  ⟨c0_i32_119, v144, c1_i32_121⟩

def k0_chk129 (v142 : IVec S16 32) (v261 : IVec S16 32) : Prop :=
  (∀ a x, ((![v142, v261] : Fin 2 → IVec S16 32) a x).toNat < S128x128.size a) ∧
  (∀ a x, ((![v142, v261] : Fin 2 → IVec S16 32) a x).toNat < S128x128.size a)
theorem k0_idx257_inb : ∀ (v142 : IVec S16 32) (v261 : IVec S16 32) (k0_hw129 : k0_chk129 v142 v261), ∀ a x, ((![v142, v261] : Fin 2 → IVec S16 32) a x).toNat < S128x128.size a := fun v142 v261 k0_hw129 => k0_hw129.1
theorem k0_idx258_inb : ∀ (v142 : IVec S16 32) (v261 : IVec S16 32) (k0_hw129 : k0_chk129 v142 v261), ∀ a x, ((![v142, v261] : Fin 2 → IVec S16 32) a x).toNat < S128x128.size a := fun v142 v261 k0_hw129 => k0_hw129.2

def k0_chk130 (v142 : IVec S16 32) (v269 : IVec S16 32) : Prop :=
  (∀ a x, ((![v142, v269] : Fin 2 → IVec S16 32) a x).toNat < S128x128.size a) ∧
  (∀ a x, ((![v142, v269] : Fin 2 → IVec S16 32) a x).toNat < S128x128.size a)
theorem k0_idx259_inb : ∀ (v142 : IVec S16 32) (v269 : IVec S16 32) (k0_hw130 : k0_chk130 v142 v269), ∀ a x, ((![v142, v269] : Fin 2 → IVec S16 32) a x).toNat < S128x128.size a := fun v142 v269 k0_hw130 => k0_hw130.1
theorem k0_idx260_inb : ∀ (v142 : IVec S16 32) (v269 : IVec S16 32) (k0_hw130 : k0_chk130 v142 v269), ∀ a x, ((![v142, v269] : Fin 2 → IVec S16 32) a x).toNat < S128x128.size a := fun v142 v269 k0_hw130 => k0_hw130.2

def k0_chk131 (v142 : IVec S16 32) (v277 : IVec S16 32) : Prop :=
  (∀ a x, ((![v142, v277] : Fin 2 → IVec S16 32) a x).toNat < S128x128.size a) ∧
  (∀ a x, ((![v142, v277] : Fin 2 → IVec S16 32) a x).toNat < S128x128.size a)
theorem k0_idx261_inb : ∀ (v142 : IVec S16 32) (v277 : IVec S16 32) (k0_hw131 : k0_chk131 v142 v277), ∀ a x, ((![v142, v277] : Fin 2 → IVec S16 32) a x).toNat < S128x128.size a := fun v142 v277 k0_hw131 => k0_hw131.1
theorem k0_idx262_inb : ∀ (v142 : IVec S16 32) (v277 : IVec S16 32) (k0_hw131 : k0_chk131 v142 v277), ∀ a x, ((![v142, v277] : Fin 2 → IVec S16 32) a x).toNat < S128x128.size a := fun v142 v277 k0_hw131 => k0_hw131.2

def k0_chk132 (v142 : IVec S16 32) (v285 : IVec S16 32) : Prop :=
  (∀ a x, ((![v142, v285] : Fin 2 → IVec S16 32) a x).toNat < S128x128.size a) ∧
  (∀ a x, ((![v142, v285] : Fin 2 → IVec S16 32) a x).toNat < S128x128.size a)
theorem k0_idx263_inb : ∀ (v142 : IVec S16 32) (v285 : IVec S16 32) (k0_hw132 : k0_chk132 v142 v285), ∀ a x, ((![v142, v285] : Fin 2 → IVec S16 32) a x).toNat < S128x128.size a := fun v142 v285 k0_hw132 => k0_hw132.1
theorem k0_idx264_inb : ∀ (v142 : IVec S16 32) (v285 : IVec S16 32) (k0_hw132 : k0_chk132 v142 v285), ∀ a x, ((![v142, v285] : Fin 2 → IVec S16 32) a x).toNat < S128x128.size a := fun v142 v285 k0_hw132 => k0_hw132.2

def k0_chk133 (v142 : IVec S16 32) (v293 : IVec S16 32) : Prop :=
  (∀ a x, ((![v142, v293] : Fin 2 → IVec S16 32) a x).toNat < S128x128.size a) ∧
  (∀ a x, ((![v142, v293] : Fin 2 → IVec S16 32) a x).toNat < S128x128.size a)
theorem k0_idx265_inb : ∀ (v142 : IVec S16 32) (v293 : IVec S16 32) (k0_hw133 : k0_chk133 v142 v293), ∀ a x, ((![v142, v293] : Fin 2 → IVec S16 32) a x).toNat < S128x128.size a := fun v142 v293 k0_hw133 => k0_hw133.1
theorem k0_idx266_inb : ∀ (v142 : IVec S16 32) (v293 : IVec S16 32) (k0_hw133 : k0_chk133 v142 v293), ∀ a x, ((![v142, v293] : Fin 2 → IVec S16 32) a x).toNat < S128x128.size a := fun v142 v293 k0_hw133 => k0_hw133.2

def k0_chk134 (v142 : IVec S16 32) (v301 : IVec S16 32) : Prop :=
  (∀ a x, ((![v142, v301] : Fin 2 → IVec S16 32) a x).toNat < S128x128.size a) ∧
  (∀ a x, ((![v142, v301] : Fin 2 → IVec S16 32) a x).toNat < S128x128.size a)
theorem k0_idx267_inb : ∀ (v142 : IVec S16 32) (v301 : IVec S16 32) (k0_hw134 : k0_chk134 v142 v301), ∀ a x, ((![v142, v301] : Fin 2 → IVec S16 32) a x).toNat < S128x128.size a := fun v142 v301 k0_hw134 => k0_hw134.1
theorem k0_idx268_inb : ∀ (v142 : IVec S16 32) (v301 : IVec S16 32) (k0_hw134 : k0_chk134 v142 v301), ∀ a x, ((![v142, v301] : Fin 2 → IVec S16 32) a x).toNat < S128x128.size a := fun v142 v301 k0_hw134 => k0_hw134.2

def k0_chk135 (v142 : IVec S16 32) (v309 : IVec S16 32) : Prop :=
  (∀ a x, ((![v142, v309] : Fin 2 → IVec S16 32) a x).toNat < S128x128.size a) ∧
  (∀ a x, ((![v142, v309] : Fin 2 → IVec S16 32) a x).toNat < S128x128.size a)
theorem k0_idx269_inb : ∀ (v142 : IVec S16 32) (v309 : IVec S16 32) (k0_hw135 : k0_chk135 v142 v309), ∀ a x, ((![v142, v309] : Fin 2 → IVec S16 32) a x).toNat < S128x128.size a := fun v142 v309 k0_hw135 => k0_hw135.1
theorem k0_idx270_inb : ∀ (v142 : IVec S16 32) (v309 : IVec S16 32) (k0_hw135 : k0_chk135 v142 v309), ∀ a x, ((![v142, v309] : Fin 2 → IVec S16 32) a x).toNat < S128x128.size a := fun v142 v309 k0_hw135 => k0_hw135.2

def k0_chk136 (v142 : IVec S16 32) (v317 : IVec S16 32) : Prop :=
  (∀ a x, ((![v142, v317] : Fin 2 → IVec S16 32) a x).toNat < S128x128.size a) ∧
  (∀ a x, ((![v142, v317] : Fin 2 → IVec S16 32) a x).toNat < S128x128.size a)
theorem k0_idx271_inb : ∀ (v142 : IVec S16 32) (v317 : IVec S16 32) (k0_hw136 : k0_chk136 v142 v317), ∀ a x, ((![v142, v317] : Fin 2 → IVec S16 32) a x).toNat < S128x128.size a := fun v142 v317 k0_hw136 => k0_hw136.1
theorem k0_idx272_inb : ∀ (v142 : IVec S16 32) (v317 : IVec S16 32) (k0_hw136 : k0_chk136 v142 v317), ∀ a x, ((![v142, v317] : Fin 2 → IVec S16 32) a x).toNat < S128x128.size a := fun v142 v317 k0_hw136 => k0_hw136.2
@[reducible] def k0_t18_loop : Scf.Loop 32 :=
  let c0_i32_125 : BitVec 32 := 0#32
  let c16_i32_126 : BitVec 32 := 16#32
  let v151 : BitVec 32 := Scalar.addi c0_i32_125 c16_i32_126
  let c1_i32_127 : BitVec 32 := 1#32
  ⟨c0_i32_125, v151, c1_i32_127⟩

def k0_chk137 (v149 : IVec S16 32) (v261 : IVec S16 32) : Prop :=
  (∀ a x, ((![v149, v261] : Fin 2 → IVec S16 32) a x).toNat < S128x128.size a) ∧
  (∀ a x, ((![v149, v261] : Fin 2 → IVec S16 32) a x).toNat < S128x128.size a)
theorem k0_idx273_inb : ∀ (v149 : IVec S16 32) (v261 : IVec S16 32) (k0_hw137 : k0_chk137 v149 v261), ∀ a x, ((![v149, v261] : Fin 2 → IVec S16 32) a x).toNat < S128x128.size a := fun v149 v261 k0_hw137 => k0_hw137.1
theorem k0_idx274_inb : ∀ (v149 : IVec S16 32) (v261 : IVec S16 32) (k0_hw137 : k0_chk137 v149 v261), ∀ a x, ((![v149, v261] : Fin 2 → IVec S16 32) a x).toNat < S128x128.size a := fun v149 v261 k0_hw137 => k0_hw137.2

def k0_chk138 (v149 : IVec S16 32) (v269 : IVec S16 32) : Prop :=
  (∀ a x, ((![v149, v269] : Fin 2 → IVec S16 32) a x).toNat < S128x128.size a) ∧
  (∀ a x, ((![v149, v269] : Fin 2 → IVec S16 32) a x).toNat < S128x128.size a)
theorem k0_idx275_inb : ∀ (v149 : IVec S16 32) (v269 : IVec S16 32) (k0_hw138 : k0_chk138 v149 v269), ∀ a x, ((![v149, v269] : Fin 2 → IVec S16 32) a x).toNat < S128x128.size a := fun v149 v269 k0_hw138 => k0_hw138.1
theorem k0_idx276_inb : ∀ (v149 : IVec S16 32) (v269 : IVec S16 32) (k0_hw138 : k0_chk138 v149 v269), ∀ a x, ((![v149, v269] : Fin 2 → IVec S16 32) a x).toNat < S128x128.size a := fun v149 v269 k0_hw138 => k0_hw138.2

def k0_chk139 (v149 : IVec S16 32) (v277 : IVec S16 32) : Prop :=
  (∀ a x, ((![v149, v277] : Fin 2 → IVec S16 32) a x).toNat < S128x128.size a) ∧
  (∀ a x, ((![v149, v277] : Fin 2 → IVec S16 32) a x).toNat < S128x128.size a)
theorem k0_idx277_inb : ∀ (v149 : IVec S16 32) (v277 : IVec S16 32) (k0_hw139 : k0_chk139 v149 v277), ∀ a x, ((![v149, v277] : Fin 2 → IVec S16 32) a x).toNat < S128x128.size a := fun v149 v277 k0_hw139 => k0_hw139.1
theorem k0_idx278_inb : ∀ (v149 : IVec S16 32) (v277 : IVec S16 32) (k0_hw139 : k0_chk139 v149 v277), ∀ a x, ((![v149, v277] : Fin 2 → IVec S16 32) a x).toNat < S128x128.size a := fun v149 v277 k0_hw139 => k0_hw139.2

def k0_chk140 (v149 : IVec S16 32) (v285 : IVec S16 32) : Prop :=
  (∀ a x, ((![v149, v285] : Fin 2 → IVec S16 32) a x).toNat < S128x128.size a) ∧
  (∀ a x, ((![v149, v285] : Fin 2 → IVec S16 32) a x).toNat < S128x128.size a)
theorem k0_idx279_inb : ∀ (v149 : IVec S16 32) (v285 : IVec S16 32) (k0_hw140 : k0_chk140 v149 v285), ∀ a x, ((![v149, v285] : Fin 2 → IVec S16 32) a x).toNat < S128x128.size a := fun v149 v285 k0_hw140 => k0_hw140.1
theorem k0_idx280_inb : ∀ (v149 : IVec S16 32) (v285 : IVec S16 32) (k0_hw140 : k0_chk140 v149 v285), ∀ a x, ((![v149, v285] : Fin 2 → IVec S16 32) a x).toNat < S128x128.size a := fun v149 v285 k0_hw140 => k0_hw140.2

def k0_chk141 (v149 : IVec S16 32) (v293 : IVec S16 32) : Prop :=
  (∀ a x, ((![v149, v293] : Fin 2 → IVec S16 32) a x).toNat < S128x128.size a) ∧
  (∀ a x, ((![v149, v293] : Fin 2 → IVec S16 32) a x).toNat < S128x128.size a)
theorem k0_idx281_inb : ∀ (v149 : IVec S16 32) (v293 : IVec S16 32) (k0_hw141 : k0_chk141 v149 v293), ∀ a x, ((![v149, v293] : Fin 2 → IVec S16 32) a x).toNat < S128x128.size a := fun v149 v293 k0_hw141 => k0_hw141.1
theorem k0_idx282_inb : ∀ (v149 : IVec S16 32) (v293 : IVec S16 32) (k0_hw141 : k0_chk141 v149 v293), ∀ a x, ((![v149, v293] : Fin 2 → IVec S16 32) a x).toNat < S128x128.size a := fun v149 v293 k0_hw141 => k0_hw141.2

def k0_chk142 (v149 : IVec S16 32) (v301 : IVec S16 32) : Prop :=
  (∀ a x, ((![v149, v301] : Fin 2 → IVec S16 32) a x).toNat < S128x128.size a) ∧
  (∀ a x, ((![v149, v301] : Fin 2 → IVec S16 32) a x).toNat < S128x128.size a)
theorem k0_idx283_inb : ∀ (v149 : IVec S16 32) (v301 : IVec S16 32) (k0_hw142 : k0_chk142 v149 v301), ∀ a x, ((![v149, v301] : Fin 2 → IVec S16 32) a x).toNat < S128x128.size a := fun v149 v301 k0_hw142 => k0_hw142.1
theorem k0_idx284_inb : ∀ (v149 : IVec S16 32) (v301 : IVec S16 32) (k0_hw142 : k0_chk142 v149 v301), ∀ a x, ((![v149, v301] : Fin 2 → IVec S16 32) a x).toNat < S128x128.size a := fun v149 v301 k0_hw142 => k0_hw142.2

def k0_chk143 (v149 : IVec S16 32) (v309 : IVec S16 32) : Prop :=
  (∀ a x, ((![v149, v309] : Fin 2 → IVec S16 32) a x).toNat < S128x128.size a) ∧
  (∀ a x, ((![v149, v309] : Fin 2 → IVec S16 32) a x).toNat < S128x128.size a)
theorem k0_idx285_inb : ∀ (v149 : IVec S16 32) (v309 : IVec S16 32) (k0_hw143 : k0_chk143 v149 v309), ∀ a x, ((![v149, v309] : Fin 2 → IVec S16 32) a x).toNat < S128x128.size a := fun v149 v309 k0_hw143 => k0_hw143.1
theorem k0_idx286_inb : ∀ (v149 : IVec S16 32) (v309 : IVec S16 32) (k0_hw143 : k0_chk143 v149 v309), ∀ a x, ((![v149, v309] : Fin 2 → IVec S16 32) a x).toNat < S128x128.size a := fun v149 v309 k0_hw143 => k0_hw143.2

def k0_chk144 (v149 : IVec S16 32) (v317 : IVec S16 32) : Prop :=
  (∀ a x, ((![v149, v317] : Fin 2 → IVec S16 32) a x).toNat < S128x128.size a) ∧
  (∀ a x, ((![v149, v317] : Fin 2 → IVec S16 32) a x).toNat < S128x128.size a)
theorem k0_idx287_inb : ∀ (v149 : IVec S16 32) (v317 : IVec S16 32) (k0_hw144 : k0_chk144 v149 v317), ∀ a x, ((![v149, v317] : Fin 2 → IVec S16 32) a x).toNat < S128x128.size a := fun v149 v317 k0_hw144 => k0_hw144.1
theorem k0_idx288_inb : ∀ (v149 : IVec S16 32) (v317 : IVec S16 32) (k0_hw144 : k0_chk144 v149 v317), ∀ a x, ((![v149, v317] : Fin 2 → IVec S16 32) a x).toNat < S128x128.size a := fun v149 v317 k0_hw144 => k0_hw144.2
@[reducible] def k0_t19_loop : Scf.Loop 32 :=
  let c0_i32_131 : BitVec 32 := 0#32
  let c16_i32_132 : BitVec 32 := 16#32
  let v158 : BitVec 32 := Scalar.addi c0_i32_131 c16_i32_132
  let c1_i32_133 : BitVec 32 := 1#32
  ⟨c0_i32_131, v158, c1_i32_133⟩

def k0_chk145 (v156 : IVec S16 32) (v261 : IVec S16 32) : Prop :=
  (∀ a x, ((![v156, v261] : Fin 2 → IVec S16 32) a x).toNat < S128x128.size a) ∧
  (∀ a x, ((![v156, v261] : Fin 2 → IVec S16 32) a x).toNat < S128x128.size a)
theorem k0_idx289_inb : ∀ (v156 : IVec S16 32) (v261 : IVec S16 32) (k0_hw145 : k0_chk145 v156 v261), ∀ a x, ((![v156, v261] : Fin 2 → IVec S16 32) a x).toNat < S128x128.size a := fun v156 v261 k0_hw145 => k0_hw145.1
theorem k0_idx290_inb : ∀ (v156 : IVec S16 32) (v261 : IVec S16 32) (k0_hw145 : k0_chk145 v156 v261), ∀ a x, ((![v156, v261] : Fin 2 → IVec S16 32) a x).toNat < S128x128.size a := fun v156 v261 k0_hw145 => k0_hw145.2

def k0_chk146 (v156 : IVec S16 32) (v269 : IVec S16 32) : Prop :=
  (∀ a x, ((![v156, v269] : Fin 2 → IVec S16 32) a x).toNat < S128x128.size a) ∧
  (∀ a x, ((![v156, v269] : Fin 2 → IVec S16 32) a x).toNat < S128x128.size a)
theorem k0_idx291_inb : ∀ (v156 : IVec S16 32) (v269 : IVec S16 32) (k0_hw146 : k0_chk146 v156 v269), ∀ a x, ((![v156, v269] : Fin 2 → IVec S16 32) a x).toNat < S128x128.size a := fun v156 v269 k0_hw146 => k0_hw146.1
theorem k0_idx292_inb : ∀ (v156 : IVec S16 32) (v269 : IVec S16 32) (k0_hw146 : k0_chk146 v156 v269), ∀ a x, ((![v156, v269] : Fin 2 → IVec S16 32) a x).toNat < S128x128.size a := fun v156 v269 k0_hw146 => k0_hw146.2

def k0_chk147 (v156 : IVec S16 32) (v277 : IVec S16 32) : Prop :=
  (∀ a x, ((![v156, v277] : Fin 2 → IVec S16 32) a x).toNat < S128x128.size a) ∧
  (∀ a x, ((![v156, v277] : Fin 2 → IVec S16 32) a x).toNat < S128x128.size a)
theorem k0_idx293_inb : ∀ (v156 : IVec S16 32) (v277 : IVec S16 32) (k0_hw147 : k0_chk147 v156 v277), ∀ a x, ((![v156, v277] : Fin 2 → IVec S16 32) a x).toNat < S128x128.size a := fun v156 v277 k0_hw147 => k0_hw147.1
theorem k0_idx294_inb : ∀ (v156 : IVec S16 32) (v277 : IVec S16 32) (k0_hw147 : k0_chk147 v156 v277), ∀ a x, ((![v156, v277] : Fin 2 → IVec S16 32) a x).toNat < S128x128.size a := fun v156 v277 k0_hw147 => k0_hw147.2

def k0_chk148 (v156 : IVec S16 32) (v285 : IVec S16 32) : Prop :=
  (∀ a x, ((![v156, v285] : Fin 2 → IVec S16 32) a x).toNat < S128x128.size a) ∧
  (∀ a x, ((![v156, v285] : Fin 2 → IVec S16 32) a x).toNat < S128x128.size a)
theorem k0_idx295_inb : ∀ (v156 : IVec S16 32) (v285 : IVec S16 32) (k0_hw148 : k0_chk148 v156 v285), ∀ a x, ((![v156, v285] : Fin 2 → IVec S16 32) a x).toNat < S128x128.size a := fun v156 v285 k0_hw148 => k0_hw148.1
theorem k0_idx296_inb : ∀ (v156 : IVec S16 32) (v285 : IVec S16 32) (k0_hw148 : k0_chk148 v156 v285), ∀ a x, ((![v156, v285] : Fin 2 → IVec S16 32) a x).toNat < S128x128.size a := fun v156 v285 k0_hw148 => k0_hw148.2

def k0_chk149 (v156 : IVec S16 32) (v293 : IVec S16 32) : Prop :=
  (∀ a x, ((![v156, v293] : Fin 2 → IVec S16 32) a x).toNat < S128x128.size a) ∧
  (∀ a x, ((![v156, v293] : Fin 2 → IVec S16 32) a x).toNat < S128x128.size a)
theorem k0_idx297_inb : ∀ (v156 : IVec S16 32) (v293 : IVec S16 32) (k0_hw149 : k0_chk149 v156 v293), ∀ a x, ((![v156, v293] : Fin 2 → IVec S16 32) a x).toNat < S128x128.size a := fun v156 v293 k0_hw149 => k0_hw149.1
theorem k0_idx298_inb : ∀ (v156 : IVec S16 32) (v293 : IVec S16 32) (k0_hw149 : k0_chk149 v156 v293), ∀ a x, ((![v156, v293] : Fin 2 → IVec S16 32) a x).toNat < S128x128.size a := fun v156 v293 k0_hw149 => k0_hw149.2

def k0_chk150 (v156 : IVec S16 32) (v301 : IVec S16 32) : Prop :=
  (∀ a x, ((![v156, v301] : Fin 2 → IVec S16 32) a x).toNat < S128x128.size a) ∧
  (∀ a x, ((![v156, v301] : Fin 2 → IVec S16 32) a x).toNat < S128x128.size a)
theorem k0_idx299_inb : ∀ (v156 : IVec S16 32) (v301 : IVec S16 32) (k0_hw150 : k0_chk150 v156 v301), ∀ a x, ((![v156, v301] : Fin 2 → IVec S16 32) a x).toNat < S128x128.size a := fun v156 v301 k0_hw150 => k0_hw150.1
theorem k0_idx300_inb : ∀ (v156 : IVec S16 32) (v301 : IVec S16 32) (k0_hw150 : k0_chk150 v156 v301), ∀ a x, ((![v156, v301] : Fin 2 → IVec S16 32) a x).toNat < S128x128.size a := fun v156 v301 k0_hw150 => k0_hw150.2

def k0_chk151 (v156 : IVec S16 32) (v309 : IVec S16 32) : Prop :=
  (∀ a x, ((![v156, v309] : Fin 2 → IVec S16 32) a x).toNat < S128x128.size a) ∧
  (∀ a x, ((![v156, v309] : Fin 2 → IVec S16 32) a x).toNat < S128x128.size a)
theorem k0_idx301_inb : ∀ (v156 : IVec S16 32) (v309 : IVec S16 32) (k0_hw151 : k0_chk151 v156 v309), ∀ a x, ((![v156, v309] : Fin 2 → IVec S16 32) a x).toNat < S128x128.size a := fun v156 v309 k0_hw151 => k0_hw151.1
theorem k0_idx302_inb : ∀ (v156 : IVec S16 32) (v309 : IVec S16 32) (k0_hw151 : k0_chk151 v156 v309), ∀ a x, ((![v156, v309] : Fin 2 → IVec S16 32) a x).toNat < S128x128.size a := fun v156 v309 k0_hw151 => k0_hw151.2

def k0_chk152 (v156 : IVec S16 32) (v317 : IVec S16 32) : Prop :=
  (∀ a x, ((![v156, v317] : Fin 2 → IVec S16 32) a x).toNat < S128x128.size a) ∧
  (∀ a x, ((![v156, v317] : Fin 2 → IVec S16 32) a x).toNat < S128x128.size a)
theorem k0_idx303_inb : ∀ (v156 : IVec S16 32) (v317 : IVec S16 32) (k0_hw152 : k0_chk152 v156 v317), ∀ a x, ((![v156, v317] : Fin 2 → IVec S16 32) a x).toNat < S128x128.size a := fun v156 v317 k0_hw152 => k0_hw152.1
theorem k0_idx304_inb : ∀ (v156 : IVec S16 32) (v317 : IVec S16 32) (k0_hw152 : k0_chk152 v156 v317), ∀ a x, ((![v156, v317] : Fin 2 → IVec S16 32) a x).toNat < S128x128.size a := fun v156 v317 k0_hw152 => k0_hw152.2
@[reducible] def k0_t20_loop : Scf.Loop 32 :=
  let c0_i32_137 : BitVec 32 := 0#32
  let c16_i32_138 : BitVec 32 := 16#32
  let v165 : BitVec 32 := Scalar.addi c0_i32_137 c16_i32_138
  let c1_i32_139 : BitVec 32 := 1#32
  ⟨c0_i32_137, v165, c1_i32_139⟩

def k0_chk153 (v163 : IVec S16 32) (v261 : IVec S16 32) : Prop :=
  (∀ a x, ((![v163, v261] : Fin 2 → IVec S16 32) a x).toNat < S128x128.size a) ∧
  (∀ a x, ((![v163, v261] : Fin 2 → IVec S16 32) a x).toNat < S128x128.size a)
theorem k0_idx305_inb : ∀ (v163 : IVec S16 32) (v261 : IVec S16 32) (k0_hw153 : k0_chk153 v163 v261), ∀ a x, ((![v163, v261] : Fin 2 → IVec S16 32) a x).toNat < S128x128.size a := fun v163 v261 k0_hw153 => k0_hw153.1
theorem k0_idx306_inb : ∀ (v163 : IVec S16 32) (v261 : IVec S16 32) (k0_hw153 : k0_chk153 v163 v261), ∀ a x, ((![v163, v261] : Fin 2 → IVec S16 32) a x).toNat < S128x128.size a := fun v163 v261 k0_hw153 => k0_hw153.2

def k0_chk154 (v163 : IVec S16 32) (v269 : IVec S16 32) : Prop :=
  (∀ a x, ((![v163, v269] : Fin 2 → IVec S16 32) a x).toNat < S128x128.size a) ∧
  (∀ a x, ((![v163, v269] : Fin 2 → IVec S16 32) a x).toNat < S128x128.size a)
theorem k0_idx307_inb : ∀ (v163 : IVec S16 32) (v269 : IVec S16 32) (k0_hw154 : k0_chk154 v163 v269), ∀ a x, ((![v163, v269] : Fin 2 → IVec S16 32) a x).toNat < S128x128.size a := fun v163 v269 k0_hw154 => k0_hw154.1
theorem k0_idx308_inb : ∀ (v163 : IVec S16 32) (v269 : IVec S16 32) (k0_hw154 : k0_chk154 v163 v269), ∀ a x, ((![v163, v269] : Fin 2 → IVec S16 32) a x).toNat < S128x128.size a := fun v163 v269 k0_hw154 => k0_hw154.2

def k0_chk155 (v163 : IVec S16 32) (v277 : IVec S16 32) : Prop :=
  (∀ a x, ((![v163, v277] : Fin 2 → IVec S16 32) a x).toNat < S128x128.size a) ∧
  (∀ a x, ((![v163, v277] : Fin 2 → IVec S16 32) a x).toNat < S128x128.size a)
theorem k0_idx309_inb : ∀ (v163 : IVec S16 32) (v277 : IVec S16 32) (k0_hw155 : k0_chk155 v163 v277), ∀ a x, ((![v163, v277] : Fin 2 → IVec S16 32) a x).toNat < S128x128.size a := fun v163 v277 k0_hw155 => k0_hw155.1
theorem k0_idx310_inb : ∀ (v163 : IVec S16 32) (v277 : IVec S16 32) (k0_hw155 : k0_chk155 v163 v277), ∀ a x, ((![v163, v277] : Fin 2 → IVec S16 32) a x).toNat < S128x128.size a := fun v163 v277 k0_hw155 => k0_hw155.2

def k0_chk156 (v163 : IVec S16 32) (v285 : IVec S16 32) : Prop :=
  (∀ a x, ((![v163, v285] : Fin 2 → IVec S16 32) a x).toNat < S128x128.size a) ∧
  (∀ a x, ((![v163, v285] : Fin 2 → IVec S16 32) a x).toNat < S128x128.size a)
theorem k0_idx311_inb : ∀ (v163 : IVec S16 32) (v285 : IVec S16 32) (k0_hw156 : k0_chk156 v163 v285), ∀ a x, ((![v163, v285] : Fin 2 → IVec S16 32) a x).toNat < S128x128.size a := fun v163 v285 k0_hw156 => k0_hw156.1
theorem k0_idx312_inb : ∀ (v163 : IVec S16 32) (v285 : IVec S16 32) (k0_hw156 : k0_chk156 v163 v285), ∀ a x, ((![v163, v285] : Fin 2 → IVec S16 32) a x).toNat < S128x128.size a := fun v163 v285 k0_hw156 => k0_hw156.2

def k0_chk157 (v163 : IVec S16 32) (v293 : IVec S16 32) : Prop :=
  (∀ a x, ((![v163, v293] : Fin 2 → IVec S16 32) a x).toNat < S128x128.size a) ∧
  (∀ a x, ((![v163, v293] : Fin 2 → IVec S16 32) a x).toNat < S128x128.size a)
theorem k0_idx313_inb : ∀ (v163 : IVec S16 32) (v293 : IVec S16 32) (k0_hw157 : k0_chk157 v163 v293), ∀ a x, ((![v163, v293] : Fin 2 → IVec S16 32) a x).toNat < S128x128.size a := fun v163 v293 k0_hw157 => k0_hw157.1
theorem k0_idx314_inb : ∀ (v163 : IVec S16 32) (v293 : IVec S16 32) (k0_hw157 : k0_chk157 v163 v293), ∀ a x, ((![v163, v293] : Fin 2 → IVec S16 32) a x).toNat < S128x128.size a := fun v163 v293 k0_hw157 => k0_hw157.2

def k0_chk158 (v163 : IVec S16 32) (v301 : IVec S16 32) : Prop :=
  (∀ a x, ((![v163, v301] : Fin 2 → IVec S16 32) a x).toNat < S128x128.size a) ∧
  (∀ a x, ((![v163, v301] : Fin 2 → IVec S16 32) a x).toNat < S128x128.size a)
theorem k0_idx315_inb : ∀ (v163 : IVec S16 32) (v301 : IVec S16 32) (k0_hw158 : k0_chk158 v163 v301), ∀ a x, ((![v163, v301] : Fin 2 → IVec S16 32) a x).toNat < S128x128.size a := fun v163 v301 k0_hw158 => k0_hw158.1
theorem k0_idx316_inb : ∀ (v163 : IVec S16 32) (v301 : IVec S16 32) (k0_hw158 : k0_chk158 v163 v301), ∀ a x, ((![v163, v301] : Fin 2 → IVec S16 32) a x).toNat < S128x128.size a := fun v163 v301 k0_hw158 => k0_hw158.2

def k0_chk159 (v163 : IVec S16 32) (v309 : IVec S16 32) : Prop :=
  (∀ a x, ((![v163, v309] : Fin 2 → IVec S16 32) a x).toNat < S128x128.size a) ∧
  (∀ a x, ((![v163, v309] : Fin 2 → IVec S16 32) a x).toNat < S128x128.size a)
theorem k0_idx317_inb : ∀ (v163 : IVec S16 32) (v309 : IVec S16 32) (k0_hw159 : k0_chk159 v163 v309), ∀ a x, ((![v163, v309] : Fin 2 → IVec S16 32) a x).toNat < S128x128.size a := fun v163 v309 k0_hw159 => k0_hw159.1
theorem k0_idx318_inb : ∀ (v163 : IVec S16 32) (v309 : IVec S16 32) (k0_hw159 : k0_chk159 v163 v309), ∀ a x, ((![v163, v309] : Fin 2 → IVec S16 32) a x).toNat < S128x128.size a := fun v163 v309 k0_hw159 => k0_hw159.2

def k0_chk160 (v163 : IVec S16 32) (v317 : IVec S16 32) : Prop :=
  (∀ a x, ((![v163, v317] : Fin 2 → IVec S16 32) a x).toNat < S128x128.size a) ∧
  (∀ a x, ((![v163, v317] : Fin 2 → IVec S16 32) a x).toNat < S128x128.size a)
theorem k0_idx319_inb : ∀ (v163 : IVec S16 32) (v317 : IVec S16 32) (k0_hw160 : k0_chk160 v163 v317), ∀ a x, ((![v163, v317] : Fin 2 → IVec S16 32) a x).toNat < S128x128.size a := fun v163 v317 k0_hw160 => k0_hw160.1
theorem k0_idx320_inb : ∀ (v163 : IVec S16 32) (v317 : IVec S16 32) (k0_hw160 : k0_chk160 v163 v317), ∀ a x, ((![v163, v317] : Fin 2 → IVec S16 32) a x).toNat < S128x128.size a := fun v163 v317 k0_hw160 => k0_hw160.2
@[reducible] def k0_t21_loop : Scf.Loop 32 :=
  let c0_i32_143 : BitVec 32 := 0#32
  let c16_i32_144 : BitVec 32 := 16#32
  let v172 : BitVec 32 := Scalar.addi c0_i32_143 c16_i32_144
  let c1_i32_145 : BitVec 32 := 1#32
  ⟨c0_i32_143, v172, c1_i32_145⟩

def k0_chk161 (v170 : IVec S16 32) (v261 : IVec S16 32) : Prop :=
  (∀ a x, ((![v170, v261] : Fin 2 → IVec S16 32) a x).toNat < S128x128.size a) ∧
  (∀ a x, ((![v170, v261] : Fin 2 → IVec S16 32) a x).toNat < S128x128.size a)
theorem k0_idx321_inb : ∀ (v170 : IVec S16 32) (v261 : IVec S16 32) (k0_hw161 : k0_chk161 v170 v261), ∀ a x, ((![v170, v261] : Fin 2 → IVec S16 32) a x).toNat < S128x128.size a := fun v170 v261 k0_hw161 => k0_hw161.1
theorem k0_idx322_inb : ∀ (v170 : IVec S16 32) (v261 : IVec S16 32) (k0_hw161 : k0_chk161 v170 v261), ∀ a x, ((![v170, v261] : Fin 2 → IVec S16 32) a x).toNat < S128x128.size a := fun v170 v261 k0_hw161 => k0_hw161.2

def k0_chk162 (v170 : IVec S16 32) (v269 : IVec S16 32) : Prop :=
  (∀ a x, ((![v170, v269] : Fin 2 → IVec S16 32) a x).toNat < S128x128.size a) ∧
  (∀ a x, ((![v170, v269] : Fin 2 → IVec S16 32) a x).toNat < S128x128.size a)
theorem k0_idx323_inb : ∀ (v170 : IVec S16 32) (v269 : IVec S16 32) (k0_hw162 : k0_chk162 v170 v269), ∀ a x, ((![v170, v269] : Fin 2 → IVec S16 32) a x).toNat < S128x128.size a := fun v170 v269 k0_hw162 => k0_hw162.1
theorem k0_idx324_inb : ∀ (v170 : IVec S16 32) (v269 : IVec S16 32) (k0_hw162 : k0_chk162 v170 v269), ∀ a x, ((![v170, v269] : Fin 2 → IVec S16 32) a x).toNat < S128x128.size a := fun v170 v269 k0_hw162 => k0_hw162.2

def k0_chk163 (v170 : IVec S16 32) (v277 : IVec S16 32) : Prop :=
  (∀ a x, ((![v170, v277] : Fin 2 → IVec S16 32) a x).toNat < S128x128.size a) ∧
  (∀ a x, ((![v170, v277] : Fin 2 → IVec S16 32) a x).toNat < S128x128.size a)
theorem k0_idx325_inb : ∀ (v170 : IVec S16 32) (v277 : IVec S16 32) (k0_hw163 : k0_chk163 v170 v277), ∀ a x, ((![v170, v277] : Fin 2 → IVec S16 32) a x).toNat < S128x128.size a := fun v170 v277 k0_hw163 => k0_hw163.1
theorem k0_idx326_inb : ∀ (v170 : IVec S16 32) (v277 : IVec S16 32) (k0_hw163 : k0_chk163 v170 v277), ∀ a x, ((![v170, v277] : Fin 2 → IVec S16 32) a x).toNat < S128x128.size a := fun v170 v277 k0_hw163 => k0_hw163.2

def k0_chk164 (v170 : IVec S16 32) (v285 : IVec S16 32) : Prop :=
  (∀ a x, ((![v170, v285] : Fin 2 → IVec S16 32) a x).toNat < S128x128.size a) ∧
  (∀ a x, ((![v170, v285] : Fin 2 → IVec S16 32) a x).toNat < S128x128.size a)
theorem k0_idx327_inb : ∀ (v170 : IVec S16 32) (v285 : IVec S16 32) (k0_hw164 : k0_chk164 v170 v285), ∀ a x, ((![v170, v285] : Fin 2 → IVec S16 32) a x).toNat < S128x128.size a := fun v170 v285 k0_hw164 => k0_hw164.1
theorem k0_idx328_inb : ∀ (v170 : IVec S16 32) (v285 : IVec S16 32) (k0_hw164 : k0_chk164 v170 v285), ∀ a x, ((![v170, v285] : Fin 2 → IVec S16 32) a x).toNat < S128x128.size a := fun v170 v285 k0_hw164 => k0_hw164.2

def k0_chk165 (v170 : IVec S16 32) (v293 : IVec S16 32) : Prop :=
  (∀ a x, ((![v170, v293] : Fin 2 → IVec S16 32) a x).toNat < S128x128.size a) ∧
  (∀ a x, ((![v170, v293] : Fin 2 → IVec S16 32) a x).toNat < S128x128.size a)
theorem k0_idx329_inb : ∀ (v170 : IVec S16 32) (v293 : IVec S16 32) (k0_hw165 : k0_chk165 v170 v293), ∀ a x, ((![v170, v293] : Fin 2 → IVec S16 32) a x).toNat < S128x128.size a := fun v170 v293 k0_hw165 => k0_hw165.1
theorem k0_idx330_inb : ∀ (v170 : IVec S16 32) (v293 : IVec S16 32) (k0_hw165 : k0_chk165 v170 v293), ∀ a x, ((![v170, v293] : Fin 2 → IVec S16 32) a x).toNat < S128x128.size a := fun v170 v293 k0_hw165 => k0_hw165.2

def k0_chk166 (v170 : IVec S16 32) (v301 : IVec S16 32) : Prop :=
  (∀ a x, ((![v170, v301] : Fin 2 → IVec S16 32) a x).toNat < S128x128.size a) ∧
  (∀ a x, ((![v170, v301] : Fin 2 → IVec S16 32) a x).toNat < S128x128.size a)
theorem k0_idx331_inb : ∀ (v170 : IVec S16 32) (v301 : IVec S16 32) (k0_hw166 : k0_chk166 v170 v301), ∀ a x, ((![v170, v301] : Fin 2 → IVec S16 32) a x).toNat < S128x128.size a := fun v170 v301 k0_hw166 => k0_hw166.1
theorem k0_idx332_inb : ∀ (v170 : IVec S16 32) (v301 : IVec S16 32) (k0_hw166 : k0_chk166 v170 v301), ∀ a x, ((![v170, v301] : Fin 2 → IVec S16 32) a x).toNat < S128x128.size a := fun v170 v301 k0_hw166 => k0_hw166.2

def k0_chk167 (v170 : IVec S16 32) (v309 : IVec S16 32) : Prop :=
  (∀ a x, ((![v170, v309] : Fin 2 → IVec S16 32) a x).toNat < S128x128.size a) ∧
  (∀ a x, ((![v170, v309] : Fin 2 → IVec S16 32) a x).toNat < S128x128.size a)
theorem k0_idx333_inb : ∀ (v170 : IVec S16 32) (v309 : IVec S16 32) (k0_hw167 : k0_chk167 v170 v309), ∀ a x, ((![v170, v309] : Fin 2 → IVec S16 32) a x).toNat < S128x128.size a := fun v170 v309 k0_hw167 => k0_hw167.1
theorem k0_idx334_inb : ∀ (v170 : IVec S16 32) (v309 : IVec S16 32) (k0_hw167 : k0_chk167 v170 v309), ∀ a x, ((![v170, v309] : Fin 2 → IVec S16 32) a x).toNat < S128x128.size a := fun v170 v309 k0_hw167 => k0_hw167.2

def k0_chk168 (v170 : IVec S16 32) (v317 : IVec S16 32) : Prop :=
  (∀ a x, ((![v170, v317] : Fin 2 → IVec S16 32) a x).toNat < S128x128.size a) ∧
  (∀ a x, ((![v170, v317] : Fin 2 → IVec S16 32) a x).toNat < S128x128.size a)
theorem k0_idx335_inb : ∀ (v170 : IVec S16 32) (v317 : IVec S16 32) (k0_hw168 : k0_chk168 v170 v317), ∀ a x, ((![v170, v317] : Fin 2 → IVec S16 32) a x).toNat < S128x128.size a := fun v170 v317 k0_hw168 => k0_hw168.1
theorem k0_idx336_inb : ∀ (v170 : IVec S16 32) (v317 : IVec S16 32) (k0_hw168 : k0_chk168 v170 v317), ∀ a x, ((![v170, v317] : Fin 2 → IVec S16 32) a x).toNat < S128x128.size a := fun v170 v317 k0_hw168 => k0_hw168.2
@[reducible] def k0_t22_loop : Scf.Loop 32 :=
  let c0_i32_149 : BitVec 32 := 0#32
  let c16_i32_150 : BitVec 32 := 16#32
  let v179 : BitVec 32 := Scalar.addi c0_i32_149 c16_i32_150
  let c1_i32_151 : BitVec 32 := 1#32
  ⟨c0_i32_149, v179, c1_i32_151⟩

def k0_chk169 (v177 : IVec S16 32) (v261 : IVec S16 32) : Prop :=
  (∀ a x, ((![v177, v261] : Fin 2 → IVec S16 32) a x).toNat < S128x128.size a) ∧
  (∀ a x, ((![v177, v261] : Fin 2 → IVec S16 32) a x).toNat < S128x128.size a)
theorem k0_idx337_inb : ∀ (v177 : IVec S16 32) (v261 : IVec S16 32) (k0_hw169 : k0_chk169 v177 v261), ∀ a x, ((![v177, v261] : Fin 2 → IVec S16 32) a x).toNat < S128x128.size a := fun v177 v261 k0_hw169 => k0_hw169.1
theorem k0_idx338_inb : ∀ (v177 : IVec S16 32) (v261 : IVec S16 32) (k0_hw169 : k0_chk169 v177 v261), ∀ a x, ((![v177, v261] : Fin 2 → IVec S16 32) a x).toNat < S128x128.size a := fun v177 v261 k0_hw169 => k0_hw169.2

def k0_chk170 (v177 : IVec S16 32) (v269 : IVec S16 32) : Prop :=
  (∀ a x, ((![v177, v269] : Fin 2 → IVec S16 32) a x).toNat < S128x128.size a) ∧
  (∀ a x, ((![v177, v269] : Fin 2 → IVec S16 32) a x).toNat < S128x128.size a)
theorem k0_idx339_inb : ∀ (v177 : IVec S16 32) (v269 : IVec S16 32) (k0_hw170 : k0_chk170 v177 v269), ∀ a x, ((![v177, v269] : Fin 2 → IVec S16 32) a x).toNat < S128x128.size a := fun v177 v269 k0_hw170 => k0_hw170.1
theorem k0_idx340_inb : ∀ (v177 : IVec S16 32) (v269 : IVec S16 32) (k0_hw170 : k0_chk170 v177 v269), ∀ a x, ((![v177, v269] : Fin 2 → IVec S16 32) a x).toNat < S128x128.size a := fun v177 v269 k0_hw170 => k0_hw170.2

def k0_chk171 (v177 : IVec S16 32) (v277 : IVec S16 32) : Prop :=
  (∀ a x, ((![v177, v277] : Fin 2 → IVec S16 32) a x).toNat < S128x128.size a) ∧
  (∀ a x, ((![v177, v277] : Fin 2 → IVec S16 32) a x).toNat < S128x128.size a)
theorem k0_idx341_inb : ∀ (v177 : IVec S16 32) (v277 : IVec S16 32) (k0_hw171 : k0_chk171 v177 v277), ∀ a x, ((![v177, v277] : Fin 2 → IVec S16 32) a x).toNat < S128x128.size a := fun v177 v277 k0_hw171 => k0_hw171.1
theorem k0_idx342_inb : ∀ (v177 : IVec S16 32) (v277 : IVec S16 32) (k0_hw171 : k0_chk171 v177 v277), ∀ a x, ((![v177, v277] : Fin 2 → IVec S16 32) a x).toNat < S128x128.size a := fun v177 v277 k0_hw171 => k0_hw171.2

def k0_chk172 (v177 : IVec S16 32) (v285 : IVec S16 32) : Prop :=
  (∀ a x, ((![v177, v285] : Fin 2 → IVec S16 32) a x).toNat < S128x128.size a) ∧
  (∀ a x, ((![v177, v285] : Fin 2 → IVec S16 32) a x).toNat < S128x128.size a)
theorem k0_idx343_inb : ∀ (v177 : IVec S16 32) (v285 : IVec S16 32) (k0_hw172 : k0_chk172 v177 v285), ∀ a x, ((![v177, v285] : Fin 2 → IVec S16 32) a x).toNat < S128x128.size a := fun v177 v285 k0_hw172 => k0_hw172.1
theorem k0_idx344_inb : ∀ (v177 : IVec S16 32) (v285 : IVec S16 32) (k0_hw172 : k0_chk172 v177 v285), ∀ a x, ((![v177, v285] : Fin 2 → IVec S16 32) a x).toNat < S128x128.size a := fun v177 v285 k0_hw172 => k0_hw172.2

def k0_chk173 (v177 : IVec S16 32) (v293 : IVec S16 32) : Prop :=
  (∀ a x, ((![v177, v293] : Fin 2 → IVec S16 32) a x).toNat < S128x128.size a) ∧
  (∀ a x, ((![v177, v293] : Fin 2 → IVec S16 32) a x).toNat < S128x128.size a)
theorem k0_idx345_inb : ∀ (v177 : IVec S16 32) (v293 : IVec S16 32) (k0_hw173 : k0_chk173 v177 v293), ∀ a x, ((![v177, v293] : Fin 2 → IVec S16 32) a x).toNat < S128x128.size a := fun v177 v293 k0_hw173 => k0_hw173.1
theorem k0_idx346_inb : ∀ (v177 : IVec S16 32) (v293 : IVec S16 32) (k0_hw173 : k0_chk173 v177 v293), ∀ a x, ((![v177, v293] : Fin 2 → IVec S16 32) a x).toNat < S128x128.size a := fun v177 v293 k0_hw173 => k0_hw173.2

def k0_chk174 (v177 : IVec S16 32) (v301 : IVec S16 32) : Prop :=
  (∀ a x, ((![v177, v301] : Fin 2 → IVec S16 32) a x).toNat < S128x128.size a) ∧
  (∀ a x, ((![v177, v301] : Fin 2 → IVec S16 32) a x).toNat < S128x128.size a)
theorem k0_idx347_inb : ∀ (v177 : IVec S16 32) (v301 : IVec S16 32) (k0_hw174 : k0_chk174 v177 v301), ∀ a x, ((![v177, v301] : Fin 2 → IVec S16 32) a x).toNat < S128x128.size a := fun v177 v301 k0_hw174 => k0_hw174.1
theorem k0_idx348_inb : ∀ (v177 : IVec S16 32) (v301 : IVec S16 32) (k0_hw174 : k0_chk174 v177 v301), ∀ a x, ((![v177, v301] : Fin 2 → IVec S16 32) a x).toNat < S128x128.size a := fun v177 v301 k0_hw174 => k0_hw174.2

def k0_chk175 (v177 : IVec S16 32) (v309 : IVec S16 32) : Prop :=
  (∀ a x, ((![v177, v309] : Fin 2 → IVec S16 32) a x).toNat < S128x128.size a) ∧
  (∀ a x, ((![v177, v309] : Fin 2 → IVec S16 32) a x).toNat < S128x128.size a)
theorem k0_idx349_inb : ∀ (v177 : IVec S16 32) (v309 : IVec S16 32) (k0_hw175 : k0_chk175 v177 v309), ∀ a x, ((![v177, v309] : Fin 2 → IVec S16 32) a x).toNat < S128x128.size a := fun v177 v309 k0_hw175 => k0_hw175.1
theorem k0_idx350_inb : ∀ (v177 : IVec S16 32) (v309 : IVec S16 32) (k0_hw175 : k0_chk175 v177 v309), ∀ a x, ((![v177, v309] : Fin 2 → IVec S16 32) a x).toNat < S128x128.size a := fun v177 v309 k0_hw175 => k0_hw175.2

def k0_chk176 (v177 : IVec S16 32) (v317 : IVec S16 32) : Prop :=
  (∀ a x, ((![v177, v317] : Fin 2 → IVec S16 32) a x).toNat < S128x128.size a) ∧
  (∀ a x, ((![v177, v317] : Fin 2 → IVec S16 32) a x).toNat < S128x128.size a)
theorem k0_idx351_inb : ∀ (v177 : IVec S16 32) (v317 : IVec S16 32) (k0_hw176 : k0_chk176 v177 v317), ∀ a x, ((![v177, v317] : Fin 2 → IVec S16 32) a x).toNat < S128x128.size a := fun v177 v317 k0_hw176 => k0_hw176.1
theorem k0_idx352_inb : ∀ (v177 : IVec S16 32) (v317 : IVec S16 32) (k0_hw176 : k0_chk176 v177 v317), ∀ a x, ((![v177, v317] : Fin 2 → IVec S16 32) a x).toNat < S128x128.size a := fun v177 v317 k0_hw176 => k0_hw176.2
@[reducible] def k0_t23_loop : Scf.Loop 32 :=
  let c0_i32_155 : BitVec 32 := 0#32
  let c16_i32_156 : BitVec 32 := 16#32
  let v186 : BitVec 32 := Scalar.addi c0_i32_155 c16_i32_156
  let c1_i32_157 : BitVec 32 := 1#32
  ⟨c0_i32_155, v186, c1_i32_157⟩

def k0_chk177 (v184 : IVec S16 32) (v261 : IVec S16 32) : Prop :=
  (∀ a x, ((![v184, v261] : Fin 2 → IVec S16 32) a x).toNat < S128x128.size a) ∧
  (∀ a x, ((![v184, v261] : Fin 2 → IVec S16 32) a x).toNat < S128x128.size a)
theorem k0_idx353_inb : ∀ (v184 : IVec S16 32) (v261 : IVec S16 32) (k0_hw177 : k0_chk177 v184 v261), ∀ a x, ((![v184, v261] : Fin 2 → IVec S16 32) a x).toNat < S128x128.size a := fun v184 v261 k0_hw177 => k0_hw177.1
theorem k0_idx354_inb : ∀ (v184 : IVec S16 32) (v261 : IVec S16 32) (k0_hw177 : k0_chk177 v184 v261), ∀ a x, ((![v184, v261] : Fin 2 → IVec S16 32) a x).toNat < S128x128.size a := fun v184 v261 k0_hw177 => k0_hw177.2

def k0_chk178 (v184 : IVec S16 32) (v269 : IVec S16 32) : Prop :=
  (∀ a x, ((![v184, v269] : Fin 2 → IVec S16 32) a x).toNat < S128x128.size a) ∧
  (∀ a x, ((![v184, v269] : Fin 2 → IVec S16 32) a x).toNat < S128x128.size a)
theorem k0_idx355_inb : ∀ (v184 : IVec S16 32) (v269 : IVec S16 32) (k0_hw178 : k0_chk178 v184 v269), ∀ a x, ((![v184, v269] : Fin 2 → IVec S16 32) a x).toNat < S128x128.size a := fun v184 v269 k0_hw178 => k0_hw178.1
theorem k0_idx356_inb : ∀ (v184 : IVec S16 32) (v269 : IVec S16 32) (k0_hw178 : k0_chk178 v184 v269), ∀ a x, ((![v184, v269] : Fin 2 → IVec S16 32) a x).toNat < S128x128.size a := fun v184 v269 k0_hw178 => k0_hw178.2

def k0_chk179 (v184 : IVec S16 32) (v277 : IVec S16 32) : Prop :=
  (∀ a x, ((![v184, v277] : Fin 2 → IVec S16 32) a x).toNat < S128x128.size a) ∧
  (∀ a x, ((![v184, v277] : Fin 2 → IVec S16 32) a x).toNat < S128x128.size a)
theorem k0_idx357_inb : ∀ (v184 : IVec S16 32) (v277 : IVec S16 32) (k0_hw179 : k0_chk179 v184 v277), ∀ a x, ((![v184, v277] : Fin 2 → IVec S16 32) a x).toNat < S128x128.size a := fun v184 v277 k0_hw179 => k0_hw179.1
theorem k0_idx358_inb : ∀ (v184 : IVec S16 32) (v277 : IVec S16 32) (k0_hw179 : k0_chk179 v184 v277), ∀ a x, ((![v184, v277] : Fin 2 → IVec S16 32) a x).toNat < S128x128.size a := fun v184 v277 k0_hw179 => k0_hw179.2

def k0_chk180 (v184 : IVec S16 32) (v285 : IVec S16 32) : Prop :=
  (∀ a x, ((![v184, v285] : Fin 2 → IVec S16 32) a x).toNat < S128x128.size a) ∧
  (∀ a x, ((![v184, v285] : Fin 2 → IVec S16 32) a x).toNat < S128x128.size a)
theorem k0_idx359_inb : ∀ (v184 : IVec S16 32) (v285 : IVec S16 32) (k0_hw180 : k0_chk180 v184 v285), ∀ a x, ((![v184, v285] : Fin 2 → IVec S16 32) a x).toNat < S128x128.size a := fun v184 v285 k0_hw180 => k0_hw180.1
theorem k0_idx360_inb : ∀ (v184 : IVec S16 32) (v285 : IVec S16 32) (k0_hw180 : k0_chk180 v184 v285), ∀ a x, ((![v184, v285] : Fin 2 → IVec S16 32) a x).toNat < S128x128.size a := fun v184 v285 k0_hw180 => k0_hw180.2

def k0_chk181 (v184 : IVec S16 32) (v293 : IVec S16 32) : Prop :=
  (∀ a x, ((![v184, v293] : Fin 2 → IVec S16 32) a x).toNat < S128x128.size a) ∧
  (∀ a x, ((![v184, v293] : Fin 2 → IVec S16 32) a x).toNat < S128x128.size a)
theorem k0_idx361_inb : ∀ (v184 : IVec S16 32) (v293 : IVec S16 32) (k0_hw181 : k0_chk181 v184 v293), ∀ a x, ((![v184, v293] : Fin 2 → IVec S16 32) a x).toNat < S128x128.size a := fun v184 v293 k0_hw181 => k0_hw181.1
theorem k0_idx362_inb : ∀ (v184 : IVec S16 32) (v293 : IVec S16 32) (k0_hw181 : k0_chk181 v184 v293), ∀ a x, ((![v184, v293] : Fin 2 → IVec S16 32) a x).toNat < S128x128.size a := fun v184 v293 k0_hw181 => k0_hw181.2

def k0_chk182 (v184 : IVec S16 32) (v301 : IVec S16 32) : Prop :=
  (∀ a x, ((![v184, v301] : Fin 2 → IVec S16 32) a x).toNat < S128x128.size a) ∧
  (∀ a x, ((![v184, v301] : Fin 2 → IVec S16 32) a x).toNat < S128x128.size a)
theorem k0_idx363_inb : ∀ (v184 : IVec S16 32) (v301 : IVec S16 32) (k0_hw182 : k0_chk182 v184 v301), ∀ a x, ((![v184, v301] : Fin 2 → IVec S16 32) a x).toNat < S128x128.size a := fun v184 v301 k0_hw182 => k0_hw182.1
theorem k0_idx364_inb : ∀ (v184 : IVec S16 32) (v301 : IVec S16 32) (k0_hw182 : k0_chk182 v184 v301), ∀ a x, ((![v184, v301] : Fin 2 → IVec S16 32) a x).toNat < S128x128.size a := fun v184 v301 k0_hw182 => k0_hw182.2

def k0_chk183 (v184 : IVec S16 32) (v309 : IVec S16 32) : Prop :=
  (∀ a x, ((![v184, v309] : Fin 2 → IVec S16 32) a x).toNat < S128x128.size a) ∧
  (∀ a x, ((![v184, v309] : Fin 2 → IVec S16 32) a x).toNat < S128x128.size a)
theorem k0_idx365_inb : ∀ (v184 : IVec S16 32) (v309 : IVec S16 32) (k0_hw183 : k0_chk183 v184 v309), ∀ a x, ((![v184, v309] : Fin 2 → IVec S16 32) a x).toNat < S128x128.size a := fun v184 v309 k0_hw183 => k0_hw183.1
theorem k0_idx366_inb : ∀ (v184 : IVec S16 32) (v309 : IVec S16 32) (k0_hw183 : k0_chk183 v184 v309), ∀ a x, ((![v184, v309] : Fin 2 → IVec S16 32) a x).toNat < S128x128.size a := fun v184 v309 k0_hw183 => k0_hw183.2

def k0_chk184 (v184 : IVec S16 32) (v317 : IVec S16 32) : Prop :=
  (∀ a x, ((![v184, v317] : Fin 2 → IVec S16 32) a x).toNat < S128x128.size a) ∧
  (∀ a x, ((![v184, v317] : Fin 2 → IVec S16 32) a x).toNat < S128x128.size a)
theorem k0_idx367_inb : ∀ (v184 : IVec S16 32) (v317 : IVec S16 32) (k0_hw184 : k0_chk184 v184 v317), ∀ a x, ((![v184, v317] : Fin 2 → IVec S16 32) a x).toNat < S128x128.size a := fun v184 v317 k0_hw184 => k0_hw184.1
theorem k0_idx368_inb : ∀ (v184 : IVec S16 32) (v317 : IVec S16 32) (k0_hw184 : k0_chk184 v184 v317), ∀ a x, ((![v184, v317] : Fin 2 → IVec S16 32) a x).toNat < S128x128.size a := fun v184 v317 k0_hw184 => k0_hw184.2
@[reducible] def k0_t24_loop : Scf.Loop 32 :=
  let c0_i32_161 : BitVec 32 := 0#32
  let c16_i32_162 : BitVec 32 := 16#32
  let v193 : BitVec 32 := Scalar.addi c0_i32_161 c16_i32_162
  let c1_i32_163 : BitVec 32 := 1#32
  ⟨c0_i32_161, v193, c1_i32_163⟩

def k0_chk185 (v191 : IVec S16 32) (v261 : IVec S16 32) : Prop :=
  (∀ a x, ((![v191, v261] : Fin 2 → IVec S16 32) a x).toNat < S128x128.size a) ∧
  (∀ a x, ((![v191, v261] : Fin 2 → IVec S16 32) a x).toNat < S128x128.size a)
theorem k0_idx369_inb : ∀ (v191 : IVec S16 32) (v261 : IVec S16 32) (k0_hw185 : k0_chk185 v191 v261), ∀ a x, ((![v191, v261] : Fin 2 → IVec S16 32) a x).toNat < S128x128.size a := fun v191 v261 k0_hw185 => k0_hw185.1
theorem k0_idx370_inb : ∀ (v191 : IVec S16 32) (v261 : IVec S16 32) (k0_hw185 : k0_chk185 v191 v261), ∀ a x, ((![v191, v261] : Fin 2 → IVec S16 32) a x).toNat < S128x128.size a := fun v191 v261 k0_hw185 => k0_hw185.2

def k0_chk186 (v191 : IVec S16 32) (v269 : IVec S16 32) : Prop :=
  (∀ a x, ((![v191, v269] : Fin 2 → IVec S16 32) a x).toNat < S128x128.size a) ∧
  (∀ a x, ((![v191, v269] : Fin 2 → IVec S16 32) a x).toNat < S128x128.size a)
theorem k0_idx371_inb : ∀ (v191 : IVec S16 32) (v269 : IVec S16 32) (k0_hw186 : k0_chk186 v191 v269), ∀ a x, ((![v191, v269] : Fin 2 → IVec S16 32) a x).toNat < S128x128.size a := fun v191 v269 k0_hw186 => k0_hw186.1
theorem k0_idx372_inb : ∀ (v191 : IVec S16 32) (v269 : IVec S16 32) (k0_hw186 : k0_chk186 v191 v269), ∀ a x, ((![v191, v269] : Fin 2 → IVec S16 32) a x).toNat < S128x128.size a := fun v191 v269 k0_hw186 => k0_hw186.2

def k0_chk187 (v191 : IVec S16 32) (v277 : IVec S16 32) : Prop :=
  (∀ a x, ((![v191, v277] : Fin 2 → IVec S16 32) a x).toNat < S128x128.size a) ∧
  (∀ a x, ((![v191, v277] : Fin 2 → IVec S16 32) a x).toNat < S128x128.size a)
theorem k0_idx373_inb : ∀ (v191 : IVec S16 32) (v277 : IVec S16 32) (k0_hw187 : k0_chk187 v191 v277), ∀ a x, ((![v191, v277] : Fin 2 → IVec S16 32) a x).toNat < S128x128.size a := fun v191 v277 k0_hw187 => k0_hw187.1
theorem k0_idx374_inb : ∀ (v191 : IVec S16 32) (v277 : IVec S16 32) (k0_hw187 : k0_chk187 v191 v277), ∀ a x, ((![v191, v277] : Fin 2 → IVec S16 32) a x).toNat < S128x128.size a := fun v191 v277 k0_hw187 => k0_hw187.2

def k0_chk188 (v191 : IVec S16 32) (v285 : IVec S16 32) : Prop :=
  (∀ a x, ((![v191, v285] : Fin 2 → IVec S16 32) a x).toNat < S128x128.size a) ∧
  (∀ a x, ((![v191, v285] : Fin 2 → IVec S16 32) a x).toNat < S128x128.size a)
theorem k0_idx375_inb : ∀ (v191 : IVec S16 32) (v285 : IVec S16 32) (k0_hw188 : k0_chk188 v191 v285), ∀ a x, ((![v191, v285] : Fin 2 → IVec S16 32) a x).toNat < S128x128.size a := fun v191 v285 k0_hw188 => k0_hw188.1
theorem k0_idx376_inb : ∀ (v191 : IVec S16 32) (v285 : IVec S16 32) (k0_hw188 : k0_chk188 v191 v285), ∀ a x, ((![v191, v285] : Fin 2 → IVec S16 32) a x).toNat < S128x128.size a := fun v191 v285 k0_hw188 => k0_hw188.2

def k0_chk189 (v191 : IVec S16 32) (v293 : IVec S16 32) : Prop :=
  (∀ a x, ((![v191, v293] : Fin 2 → IVec S16 32) a x).toNat < S128x128.size a) ∧
  (∀ a x, ((![v191, v293] : Fin 2 → IVec S16 32) a x).toNat < S128x128.size a)
theorem k0_idx377_inb : ∀ (v191 : IVec S16 32) (v293 : IVec S16 32) (k0_hw189 : k0_chk189 v191 v293), ∀ a x, ((![v191, v293] : Fin 2 → IVec S16 32) a x).toNat < S128x128.size a := fun v191 v293 k0_hw189 => k0_hw189.1
theorem k0_idx378_inb : ∀ (v191 : IVec S16 32) (v293 : IVec S16 32) (k0_hw189 : k0_chk189 v191 v293), ∀ a x, ((![v191, v293] : Fin 2 → IVec S16 32) a x).toNat < S128x128.size a := fun v191 v293 k0_hw189 => k0_hw189.2

def k0_chk190 (v191 : IVec S16 32) (v301 : IVec S16 32) : Prop :=
  (∀ a x, ((![v191, v301] : Fin 2 → IVec S16 32) a x).toNat < S128x128.size a) ∧
  (∀ a x, ((![v191, v301] : Fin 2 → IVec S16 32) a x).toNat < S128x128.size a)
theorem k0_idx379_inb : ∀ (v191 : IVec S16 32) (v301 : IVec S16 32) (k0_hw190 : k0_chk190 v191 v301), ∀ a x, ((![v191, v301] : Fin 2 → IVec S16 32) a x).toNat < S128x128.size a := fun v191 v301 k0_hw190 => k0_hw190.1
theorem k0_idx380_inb : ∀ (v191 : IVec S16 32) (v301 : IVec S16 32) (k0_hw190 : k0_chk190 v191 v301), ∀ a x, ((![v191, v301] : Fin 2 → IVec S16 32) a x).toNat < S128x128.size a := fun v191 v301 k0_hw190 => k0_hw190.2

def k0_chk191 (v191 : IVec S16 32) (v309 : IVec S16 32) : Prop :=
  (∀ a x, ((![v191, v309] : Fin 2 → IVec S16 32) a x).toNat < S128x128.size a) ∧
  (∀ a x, ((![v191, v309] : Fin 2 → IVec S16 32) a x).toNat < S128x128.size a)
theorem k0_idx381_inb : ∀ (v191 : IVec S16 32) (v309 : IVec S16 32) (k0_hw191 : k0_chk191 v191 v309), ∀ a x, ((![v191, v309] : Fin 2 → IVec S16 32) a x).toNat < S128x128.size a := fun v191 v309 k0_hw191 => k0_hw191.1
theorem k0_idx382_inb : ∀ (v191 : IVec S16 32) (v309 : IVec S16 32) (k0_hw191 : k0_chk191 v191 v309), ∀ a x, ((![v191, v309] : Fin 2 → IVec S16 32) a x).toNat < S128x128.size a := fun v191 v309 k0_hw191 => k0_hw191.2

def k0_chk192 (v191 : IVec S16 32) (v317 : IVec S16 32) : Prop :=
  (∀ a x, ((![v191, v317] : Fin 2 → IVec S16 32) a x).toNat < S128x128.size a) ∧
  (∀ a x, ((![v191, v317] : Fin 2 → IVec S16 32) a x).toNat < S128x128.size a)
theorem k0_idx383_inb : ∀ (v191 : IVec S16 32) (v317 : IVec S16 32) (k0_hw192 : k0_chk192 v191 v317), ∀ a x, ((![v191, v317] : Fin 2 → IVec S16 32) a x).toNat < S128x128.size a := fun v191 v317 k0_hw192 => k0_hw192.1
theorem k0_idx384_inb : ∀ (v191 : IVec S16 32) (v317 : IVec S16 32) (k0_hw192 : k0_chk192 v191 v317), ∀ a x, ((![v191, v317] : Fin 2 → IVec S16 32) a x).toNat < S128x128.size a := fun v191 v317 k0_hw192 => k0_hw192.2
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c384_i32_169 : BitVec 32 := 384#32
  let v199 : BitVec 32 := Scalar.addi v2 c384_i32_169
  let c0_i32_222_r7 : BitVec 32 := 0#32
  ![v199.toNat, 0]
@[reducible] def k0_t25_loop : Scf.Loop 32 :=
  let c0_i32_176 : BitVec 32 := 0#32
  let c16_i32_177 : BitVec 32 := 16#32
  let v207 : BitVec 32 := Scalar.addi c0_i32_176 c16_i32_177
  let c1_i32_178 : BitVec 32 := 1#32
  ⟨c0_i32_176, v207, c1_i32_178⟩

def k0_chk193 (v205 : IVec S16 32) (v261 : IVec S16 32) : Prop :=
  (∀ a x, ((![v205, v261] : Fin 2 → IVec S16 32) a x).toNat < S128x128.size a) ∧
  (∀ a x, ((![v205, v261] : Fin 2 → IVec S16 32) a x).toNat < S128x128.size a)
theorem k0_idx385_inb : ∀ (v205 : IVec S16 32) (v261 : IVec S16 32) (k0_hw193 : k0_chk193 v205 v261), ∀ a x, ((![v205, v261] : Fin 2 → IVec S16 32) a x).toNat < S128x128.size a := fun v205 v261 k0_hw193 => k0_hw193.1
theorem k0_idx386_inb : ∀ (v205 : IVec S16 32) (v261 : IVec S16 32) (k0_hw193 : k0_chk193 v205 v261), ∀ a x, ((![v205, v261] : Fin 2 → IVec S16 32) a x).toNat < S128x128.size a := fun v205 v261 k0_hw193 => k0_hw193.2

def k0_chk194 (v205 : IVec S16 32) (v269 : IVec S16 32) : Prop :=
  (∀ a x, ((![v205, v269] : Fin 2 → IVec S16 32) a x).toNat < S128x128.size a) ∧
  (∀ a x, ((![v205, v269] : Fin 2 → IVec S16 32) a x).toNat < S128x128.size a)
theorem k0_idx387_inb : ∀ (v205 : IVec S16 32) (v269 : IVec S16 32) (k0_hw194 : k0_chk194 v205 v269), ∀ a x, ((![v205, v269] : Fin 2 → IVec S16 32) a x).toNat < S128x128.size a := fun v205 v269 k0_hw194 => k0_hw194.1
theorem k0_idx388_inb : ∀ (v205 : IVec S16 32) (v269 : IVec S16 32) (k0_hw194 : k0_chk194 v205 v269), ∀ a x, ((![v205, v269] : Fin 2 → IVec S16 32) a x).toNat < S128x128.size a := fun v205 v269 k0_hw194 => k0_hw194.2

def k0_chk195 (v205 : IVec S16 32) (v277 : IVec S16 32) : Prop :=
  (∀ a x, ((![v205, v277] : Fin 2 → IVec S16 32) a x).toNat < S128x128.size a) ∧
  (∀ a x, ((![v205, v277] : Fin 2 → IVec S16 32) a x).toNat < S128x128.size a)
theorem k0_idx389_inb : ∀ (v205 : IVec S16 32) (v277 : IVec S16 32) (k0_hw195 : k0_chk195 v205 v277), ∀ a x, ((![v205, v277] : Fin 2 → IVec S16 32) a x).toNat < S128x128.size a := fun v205 v277 k0_hw195 => k0_hw195.1
theorem k0_idx390_inb : ∀ (v205 : IVec S16 32) (v277 : IVec S16 32) (k0_hw195 : k0_chk195 v205 v277), ∀ a x, ((![v205, v277] : Fin 2 → IVec S16 32) a x).toNat < S128x128.size a := fun v205 v277 k0_hw195 => k0_hw195.2

def k0_chk196 (v205 : IVec S16 32) (v285 : IVec S16 32) : Prop :=
  (∀ a x, ((![v205, v285] : Fin 2 → IVec S16 32) a x).toNat < S128x128.size a) ∧
  (∀ a x, ((![v205, v285] : Fin 2 → IVec S16 32) a x).toNat < S128x128.size a)
theorem k0_idx391_inb : ∀ (v205 : IVec S16 32) (v285 : IVec S16 32) (k0_hw196 : k0_chk196 v205 v285), ∀ a x, ((![v205, v285] : Fin 2 → IVec S16 32) a x).toNat < S128x128.size a := fun v205 v285 k0_hw196 => k0_hw196.1
theorem k0_idx392_inb : ∀ (v205 : IVec S16 32) (v285 : IVec S16 32) (k0_hw196 : k0_chk196 v205 v285), ∀ a x, ((![v205, v285] : Fin 2 → IVec S16 32) a x).toNat < S128x128.size a := fun v205 v285 k0_hw196 => k0_hw196.2

def k0_chk197 (v205 : IVec S16 32) (v293 : IVec S16 32) : Prop :=
  (∀ a x, ((![v205, v293] : Fin 2 → IVec S16 32) a x).toNat < S128x128.size a) ∧
  (∀ a x, ((![v205, v293] : Fin 2 → IVec S16 32) a x).toNat < S128x128.size a)
theorem k0_idx393_inb : ∀ (v205 : IVec S16 32) (v293 : IVec S16 32) (k0_hw197 : k0_chk197 v205 v293), ∀ a x, ((![v205, v293] : Fin 2 → IVec S16 32) a x).toNat < S128x128.size a := fun v205 v293 k0_hw197 => k0_hw197.1
theorem k0_idx394_inb : ∀ (v205 : IVec S16 32) (v293 : IVec S16 32) (k0_hw197 : k0_chk197 v205 v293), ∀ a x, ((![v205, v293] : Fin 2 → IVec S16 32) a x).toNat < S128x128.size a := fun v205 v293 k0_hw197 => k0_hw197.2

def k0_chk198 (v205 : IVec S16 32) (v301 : IVec S16 32) : Prop :=
  (∀ a x, ((![v205, v301] : Fin 2 → IVec S16 32) a x).toNat < S128x128.size a) ∧
  (∀ a x, ((![v205, v301] : Fin 2 → IVec S16 32) a x).toNat < S128x128.size a)
theorem k0_idx395_inb : ∀ (v205 : IVec S16 32) (v301 : IVec S16 32) (k0_hw198 : k0_chk198 v205 v301), ∀ a x, ((![v205, v301] : Fin 2 → IVec S16 32) a x).toNat < S128x128.size a := fun v205 v301 k0_hw198 => k0_hw198.1
theorem k0_idx396_inb : ∀ (v205 : IVec S16 32) (v301 : IVec S16 32) (k0_hw198 : k0_chk198 v205 v301), ∀ a x, ((![v205, v301] : Fin 2 → IVec S16 32) a x).toNat < S128x128.size a := fun v205 v301 k0_hw198 => k0_hw198.2

def k0_chk199 (v205 : IVec S16 32) (v309 : IVec S16 32) : Prop :=
  (∀ a x, ((![v205, v309] : Fin 2 → IVec S16 32) a x).toNat < S128x128.size a) ∧
  (∀ a x, ((![v205, v309] : Fin 2 → IVec S16 32) a x).toNat < S128x128.size a)
theorem k0_idx397_inb : ∀ (v205 : IVec S16 32) (v309 : IVec S16 32) (k0_hw199 : k0_chk199 v205 v309), ∀ a x, ((![v205, v309] : Fin 2 → IVec S16 32) a x).toNat < S128x128.size a := fun v205 v309 k0_hw199 => k0_hw199.1
theorem k0_idx398_inb : ∀ (v205 : IVec S16 32) (v309 : IVec S16 32) (k0_hw199 : k0_chk199 v205 v309), ∀ a x, ((![v205, v309] : Fin 2 → IVec S16 32) a x).toNat < S128x128.size a := fun v205 v309 k0_hw199 => k0_hw199.2

def k0_chk200 (v205 : IVec S16 32) (v317 : IVec S16 32) : Prop :=
  (∀ a x, ((![v205, v317] : Fin 2 → IVec S16 32) a x).toNat < S128x128.size a) ∧
  (∀ a x, ((![v205, v317] : Fin 2 → IVec S16 32) a x).toNat < S128x128.size a)
theorem k0_idx399_inb : ∀ (v205 : IVec S16 32) (v317 : IVec S16 32) (k0_hw200 : k0_chk200 v205 v317), ∀ a x, ((![v205, v317] : Fin 2 → IVec S16 32) a x).toNat < S128x128.size a := fun v205 v317 k0_hw200 => k0_hw200.1
theorem k0_idx400_inb : ∀ (v205 : IVec S16 32) (v317 : IVec S16 32) (k0_hw200 : k0_chk200 v205 v317), ∀ a x, ((![v205, v317] : Fin 2 → IVec S16 32) a x).toNat < S128x128.size a := fun v205 v317 k0_hw200 => k0_hw200.2
@[reducible] def k0_t26_loop : Scf.Loop 32 :=
  let c0_i32_182 : BitVec 32 := 0#32
  let c16_i32_183 : BitVec 32 := 16#32
  let v214 : BitVec 32 := Scalar.addi c0_i32_182 c16_i32_183
  let c1_i32_184 : BitVec 32 := 1#32
  ⟨c0_i32_182, v214, c1_i32_184⟩

def k0_chk201 (v212 : IVec S16 32) (v261 : IVec S16 32) : Prop :=
  (∀ a x, ((![v212, v261] : Fin 2 → IVec S16 32) a x).toNat < S128x128.size a) ∧
  (∀ a x, ((![v212, v261] : Fin 2 → IVec S16 32) a x).toNat < S128x128.size a)
theorem k0_idx401_inb : ∀ (v212 : IVec S16 32) (v261 : IVec S16 32) (k0_hw201 : k0_chk201 v212 v261), ∀ a x, ((![v212, v261] : Fin 2 → IVec S16 32) a x).toNat < S128x128.size a := fun v212 v261 k0_hw201 => k0_hw201.1
theorem k0_idx402_inb : ∀ (v212 : IVec S16 32) (v261 : IVec S16 32) (k0_hw201 : k0_chk201 v212 v261), ∀ a x, ((![v212, v261] : Fin 2 → IVec S16 32) a x).toNat < S128x128.size a := fun v212 v261 k0_hw201 => k0_hw201.2

def k0_chk202 (v212 : IVec S16 32) (v269 : IVec S16 32) : Prop :=
  (∀ a x, ((![v212, v269] : Fin 2 → IVec S16 32) a x).toNat < S128x128.size a) ∧
  (∀ a x, ((![v212, v269] : Fin 2 → IVec S16 32) a x).toNat < S128x128.size a)
theorem k0_idx403_inb : ∀ (v212 : IVec S16 32) (v269 : IVec S16 32) (k0_hw202 : k0_chk202 v212 v269), ∀ a x, ((![v212, v269] : Fin 2 → IVec S16 32) a x).toNat < S128x128.size a := fun v212 v269 k0_hw202 => k0_hw202.1
theorem k0_idx404_inb : ∀ (v212 : IVec S16 32) (v269 : IVec S16 32) (k0_hw202 : k0_chk202 v212 v269), ∀ a x, ((![v212, v269] : Fin 2 → IVec S16 32) a x).toNat < S128x128.size a := fun v212 v269 k0_hw202 => k0_hw202.2

def k0_chk203 (v212 : IVec S16 32) (v277 : IVec S16 32) : Prop :=
  (∀ a x, ((![v212, v277] : Fin 2 → IVec S16 32) a x).toNat < S128x128.size a) ∧
  (∀ a x, ((![v212, v277] : Fin 2 → IVec S16 32) a x).toNat < S128x128.size a)
theorem k0_idx405_inb : ∀ (v212 : IVec S16 32) (v277 : IVec S16 32) (k0_hw203 : k0_chk203 v212 v277), ∀ a x, ((![v212, v277] : Fin 2 → IVec S16 32) a x).toNat < S128x128.size a := fun v212 v277 k0_hw203 => k0_hw203.1
theorem k0_idx406_inb : ∀ (v212 : IVec S16 32) (v277 : IVec S16 32) (k0_hw203 : k0_chk203 v212 v277), ∀ a x, ((![v212, v277] : Fin 2 → IVec S16 32) a x).toNat < S128x128.size a := fun v212 v277 k0_hw203 => k0_hw203.2

def k0_chk204 (v212 : IVec S16 32) (v285 : IVec S16 32) : Prop :=
  (∀ a x, ((![v212, v285] : Fin 2 → IVec S16 32) a x).toNat < S128x128.size a) ∧
  (∀ a x, ((![v212, v285] : Fin 2 → IVec S16 32) a x).toNat < S128x128.size a)
theorem k0_idx407_inb : ∀ (v212 : IVec S16 32) (v285 : IVec S16 32) (k0_hw204 : k0_chk204 v212 v285), ∀ a x, ((![v212, v285] : Fin 2 → IVec S16 32) a x).toNat < S128x128.size a := fun v212 v285 k0_hw204 => k0_hw204.1
theorem k0_idx408_inb : ∀ (v212 : IVec S16 32) (v285 : IVec S16 32) (k0_hw204 : k0_chk204 v212 v285), ∀ a x, ((![v212, v285] : Fin 2 → IVec S16 32) a x).toNat < S128x128.size a := fun v212 v285 k0_hw204 => k0_hw204.2

def k0_chk205 (v212 : IVec S16 32) (v293 : IVec S16 32) : Prop :=
  (∀ a x, ((![v212, v293] : Fin 2 → IVec S16 32) a x).toNat < S128x128.size a) ∧
  (∀ a x, ((![v212, v293] : Fin 2 → IVec S16 32) a x).toNat < S128x128.size a)
theorem k0_idx409_inb : ∀ (v212 : IVec S16 32) (v293 : IVec S16 32) (k0_hw205 : k0_chk205 v212 v293), ∀ a x, ((![v212, v293] : Fin 2 → IVec S16 32) a x).toNat < S128x128.size a := fun v212 v293 k0_hw205 => k0_hw205.1
theorem k0_idx410_inb : ∀ (v212 : IVec S16 32) (v293 : IVec S16 32) (k0_hw205 : k0_chk205 v212 v293), ∀ a x, ((![v212, v293] : Fin 2 → IVec S16 32) a x).toNat < S128x128.size a := fun v212 v293 k0_hw205 => k0_hw205.2

def k0_chk206 (v212 : IVec S16 32) (v301 : IVec S16 32) : Prop :=
  (∀ a x, ((![v212, v301] : Fin 2 → IVec S16 32) a x).toNat < S128x128.size a) ∧
  (∀ a x, ((![v212, v301] : Fin 2 → IVec S16 32) a x).toNat < S128x128.size a)
theorem k0_idx411_inb : ∀ (v212 : IVec S16 32) (v301 : IVec S16 32) (k0_hw206 : k0_chk206 v212 v301), ∀ a x, ((![v212, v301] : Fin 2 → IVec S16 32) a x).toNat < S128x128.size a := fun v212 v301 k0_hw206 => k0_hw206.1
theorem k0_idx412_inb : ∀ (v212 : IVec S16 32) (v301 : IVec S16 32) (k0_hw206 : k0_chk206 v212 v301), ∀ a x, ((![v212, v301] : Fin 2 → IVec S16 32) a x).toNat < S128x128.size a := fun v212 v301 k0_hw206 => k0_hw206.2

def k0_chk207 (v212 : IVec S16 32) (v309 : IVec S16 32) : Prop :=
  (∀ a x, ((![v212, v309] : Fin 2 → IVec S16 32) a x).toNat < S128x128.size a) ∧
  (∀ a x, ((![v212, v309] : Fin 2 → IVec S16 32) a x).toNat < S128x128.size a)
theorem k0_idx413_inb : ∀ (v212 : IVec S16 32) (v309 : IVec S16 32) (k0_hw207 : k0_chk207 v212 v309), ∀ a x, ((![v212, v309] : Fin 2 → IVec S16 32) a x).toNat < S128x128.size a := fun v212 v309 k0_hw207 => k0_hw207.1
theorem k0_idx414_inb : ∀ (v212 : IVec S16 32) (v309 : IVec S16 32) (k0_hw207 : k0_chk207 v212 v309), ∀ a x, ((![v212, v309] : Fin 2 → IVec S16 32) a x).toNat < S128x128.size a := fun v212 v309 k0_hw207 => k0_hw207.2

def k0_chk208 (v212 : IVec S16 32) (v317 : IVec S16 32) : Prop :=
  (∀ a x, ((![v212, v317] : Fin 2 → IVec S16 32) a x).toNat < S128x128.size a) ∧
  (∀ a x, ((![v212, v317] : Fin 2 → IVec S16 32) a x).toNat < S128x128.size a)
theorem k0_idx415_inb : ∀ (v212 : IVec S16 32) (v317 : IVec S16 32) (k0_hw208 : k0_chk208 v212 v317), ∀ a x, ((![v212, v317] : Fin 2 → IVec S16 32) a x).toNat < S128x128.size a := fun v212 v317 k0_hw208 => k0_hw208.1
theorem k0_idx416_inb : ∀ (v212 : IVec S16 32) (v317 : IVec S16 32) (k0_hw208 : k0_chk208 v212 v317), ∀ a x, ((![v212, v317] : Fin 2 → IVec S16 32) a x).toNat < S128x128.size a := fun v212 v317 k0_hw208 => k0_hw208.2
@[reducible] def k0_t27_loop : Scf.Loop 32 :=
  let c0_i32_188 : BitVec 32 := 0#32
  let c16_i32_189 : BitVec 32 := 16#32
  let v221 : BitVec 32 := Scalar.addi c0_i32_188 c16_i32_189
  let c1_i32_190 : BitVec 32 := 1#32
  ⟨c0_i32_188, v221, c1_i32_190⟩

def k0_chk209 (v219 : IVec S16 32) (v261 : IVec S16 32) : Prop :=
  (∀ a x, ((![v219, v261] : Fin 2 → IVec S16 32) a x).toNat < S128x128.size a) ∧
  (∀ a x, ((![v219, v261] : Fin 2 → IVec S16 32) a x).toNat < S128x128.size a)
theorem k0_idx417_inb : ∀ (v219 : IVec S16 32) (v261 : IVec S16 32) (k0_hw209 : k0_chk209 v219 v261), ∀ a x, ((![v219, v261] : Fin 2 → IVec S16 32) a x).toNat < S128x128.size a := fun v219 v261 k0_hw209 => k0_hw209.1
theorem k0_idx418_inb : ∀ (v219 : IVec S16 32) (v261 : IVec S16 32) (k0_hw209 : k0_chk209 v219 v261), ∀ a x, ((![v219, v261] : Fin 2 → IVec S16 32) a x).toNat < S128x128.size a := fun v219 v261 k0_hw209 => k0_hw209.2

def k0_chk210 (v219 : IVec S16 32) (v269 : IVec S16 32) : Prop :=
  (∀ a x, ((![v219, v269] : Fin 2 → IVec S16 32) a x).toNat < S128x128.size a) ∧
  (∀ a x, ((![v219, v269] : Fin 2 → IVec S16 32) a x).toNat < S128x128.size a)
theorem k0_idx419_inb : ∀ (v219 : IVec S16 32) (v269 : IVec S16 32) (k0_hw210 : k0_chk210 v219 v269), ∀ a x, ((![v219, v269] : Fin 2 → IVec S16 32) a x).toNat < S128x128.size a := fun v219 v269 k0_hw210 => k0_hw210.1
theorem k0_idx420_inb : ∀ (v219 : IVec S16 32) (v269 : IVec S16 32) (k0_hw210 : k0_chk210 v219 v269), ∀ a x, ((![v219, v269] : Fin 2 → IVec S16 32) a x).toNat < S128x128.size a := fun v219 v269 k0_hw210 => k0_hw210.2

def k0_chk211 (v219 : IVec S16 32) (v277 : IVec S16 32) : Prop :=
  (∀ a x, ((![v219, v277] : Fin 2 → IVec S16 32) a x).toNat < S128x128.size a) ∧
  (∀ a x, ((![v219, v277] : Fin 2 → IVec S16 32) a x).toNat < S128x128.size a)
theorem k0_idx421_inb : ∀ (v219 : IVec S16 32) (v277 : IVec S16 32) (k0_hw211 : k0_chk211 v219 v277), ∀ a x, ((![v219, v277] : Fin 2 → IVec S16 32) a x).toNat < S128x128.size a := fun v219 v277 k0_hw211 => k0_hw211.1
theorem k0_idx422_inb : ∀ (v219 : IVec S16 32) (v277 : IVec S16 32) (k0_hw211 : k0_chk211 v219 v277), ∀ a x, ((![v219, v277] : Fin 2 → IVec S16 32) a x).toNat < S128x128.size a := fun v219 v277 k0_hw211 => k0_hw211.2

def k0_chk212 (v219 : IVec S16 32) (v285 : IVec S16 32) : Prop :=
  (∀ a x, ((![v219, v285] : Fin 2 → IVec S16 32) a x).toNat < S128x128.size a) ∧
  (∀ a x, ((![v219, v285] : Fin 2 → IVec S16 32) a x).toNat < S128x128.size a)
theorem k0_idx423_inb : ∀ (v219 : IVec S16 32) (v285 : IVec S16 32) (k0_hw212 : k0_chk212 v219 v285), ∀ a x, ((![v219, v285] : Fin 2 → IVec S16 32) a x).toNat < S128x128.size a := fun v219 v285 k0_hw212 => k0_hw212.1
theorem k0_idx424_inb : ∀ (v219 : IVec S16 32) (v285 : IVec S16 32) (k0_hw212 : k0_chk212 v219 v285), ∀ a x, ((![v219, v285] : Fin 2 → IVec S16 32) a x).toNat < S128x128.size a := fun v219 v285 k0_hw212 => k0_hw212.2

def k0_chk213 (v219 : IVec S16 32) (v293 : IVec S16 32) : Prop :=
  (∀ a x, ((![v219, v293] : Fin 2 → IVec S16 32) a x).toNat < S128x128.size a) ∧
  (∀ a x, ((![v219, v293] : Fin 2 → IVec S16 32) a x).toNat < S128x128.size a)
theorem k0_idx425_inb : ∀ (v219 : IVec S16 32) (v293 : IVec S16 32) (k0_hw213 : k0_chk213 v219 v293), ∀ a x, ((![v219, v293] : Fin 2 → IVec S16 32) a x).toNat < S128x128.size a := fun v219 v293 k0_hw213 => k0_hw213.1
theorem k0_idx426_inb : ∀ (v219 : IVec S16 32) (v293 : IVec S16 32) (k0_hw213 : k0_chk213 v219 v293), ∀ a x, ((![v219, v293] : Fin 2 → IVec S16 32) a x).toNat < S128x128.size a := fun v219 v293 k0_hw213 => k0_hw213.2

def k0_chk214 (v219 : IVec S16 32) (v301 : IVec S16 32) : Prop :=
  (∀ a x, ((![v219, v301] : Fin 2 → IVec S16 32) a x).toNat < S128x128.size a) ∧
  (∀ a x, ((![v219, v301] : Fin 2 → IVec S16 32) a x).toNat < S128x128.size a)
theorem k0_idx427_inb : ∀ (v219 : IVec S16 32) (v301 : IVec S16 32) (k0_hw214 : k0_chk214 v219 v301), ∀ a x, ((![v219, v301] : Fin 2 → IVec S16 32) a x).toNat < S128x128.size a := fun v219 v301 k0_hw214 => k0_hw214.1
theorem k0_idx428_inb : ∀ (v219 : IVec S16 32) (v301 : IVec S16 32) (k0_hw214 : k0_chk214 v219 v301), ∀ a x, ((![v219, v301] : Fin 2 → IVec S16 32) a x).toNat < S128x128.size a := fun v219 v301 k0_hw214 => k0_hw214.2

def k0_chk215 (v219 : IVec S16 32) (v309 : IVec S16 32) : Prop :=
  (∀ a x, ((![v219, v309] : Fin 2 → IVec S16 32) a x).toNat < S128x128.size a) ∧
  (∀ a x, ((![v219, v309] : Fin 2 → IVec S16 32) a x).toNat < S128x128.size a)
theorem k0_idx429_inb : ∀ (v219 : IVec S16 32) (v309 : IVec S16 32) (k0_hw215 : k0_chk215 v219 v309), ∀ a x, ((![v219, v309] : Fin 2 → IVec S16 32) a x).toNat < S128x128.size a := fun v219 v309 k0_hw215 => k0_hw215.1
theorem k0_idx430_inb : ∀ (v219 : IVec S16 32) (v309 : IVec S16 32) (k0_hw215 : k0_chk215 v219 v309), ∀ a x, ((![v219, v309] : Fin 2 → IVec S16 32) a x).toNat < S128x128.size a := fun v219 v309 k0_hw215 => k0_hw215.2

def k0_chk216 (v219 : IVec S16 32) (v317 : IVec S16 32) : Prop :=
  (∀ a x, ((![v219, v317] : Fin 2 → IVec S16 32) a x).toNat < S128x128.size a) ∧
  (∀ a x, ((![v219, v317] : Fin 2 → IVec S16 32) a x).toNat < S128x128.size a)
theorem k0_idx431_inb : ∀ (v219 : IVec S16 32) (v317 : IVec S16 32) (k0_hw216 : k0_chk216 v219 v317), ∀ a x, ((![v219, v317] : Fin 2 → IVec S16 32) a x).toNat < S128x128.size a := fun v219 v317 k0_hw216 => k0_hw216.1
theorem k0_idx432_inb : ∀ (v219 : IVec S16 32) (v317 : IVec S16 32) (k0_hw216 : k0_chk216 v219 v317), ∀ a x, ((![v219, v317] : Fin 2 → IVec S16 32) a x).toNat < S128x128.size a := fun v219 v317 k0_hw216 => k0_hw216.2
@[reducible] def k0_t28_loop : Scf.Loop 32 :=
  let c0_i32_194 : BitVec 32 := 0#32
  let c16_i32_195 : BitVec 32 := 16#32
  let v228 : BitVec 32 := Scalar.addi c0_i32_194 c16_i32_195
  let c1_i32_196 : BitVec 32 := 1#32
  ⟨c0_i32_194, v228, c1_i32_196⟩

def k0_chk217 (v226 : IVec S16 32) (v261 : IVec S16 32) : Prop :=
  (∀ a x, ((![v226, v261] : Fin 2 → IVec S16 32) a x).toNat < S128x128.size a) ∧
  (∀ a x, ((![v226, v261] : Fin 2 → IVec S16 32) a x).toNat < S128x128.size a)
theorem k0_idx433_inb : ∀ (v226 : IVec S16 32) (v261 : IVec S16 32) (k0_hw217 : k0_chk217 v226 v261), ∀ a x, ((![v226, v261] : Fin 2 → IVec S16 32) a x).toNat < S128x128.size a := fun v226 v261 k0_hw217 => k0_hw217.1
theorem k0_idx434_inb : ∀ (v226 : IVec S16 32) (v261 : IVec S16 32) (k0_hw217 : k0_chk217 v226 v261), ∀ a x, ((![v226, v261] : Fin 2 → IVec S16 32) a x).toNat < S128x128.size a := fun v226 v261 k0_hw217 => k0_hw217.2

def k0_chk218 (v226 : IVec S16 32) (v269 : IVec S16 32) : Prop :=
  (∀ a x, ((![v226, v269] : Fin 2 → IVec S16 32) a x).toNat < S128x128.size a) ∧
  (∀ a x, ((![v226, v269] : Fin 2 → IVec S16 32) a x).toNat < S128x128.size a)
theorem k0_idx435_inb : ∀ (v226 : IVec S16 32) (v269 : IVec S16 32) (k0_hw218 : k0_chk218 v226 v269), ∀ a x, ((![v226, v269] : Fin 2 → IVec S16 32) a x).toNat < S128x128.size a := fun v226 v269 k0_hw218 => k0_hw218.1
theorem k0_idx436_inb : ∀ (v226 : IVec S16 32) (v269 : IVec S16 32) (k0_hw218 : k0_chk218 v226 v269), ∀ a x, ((![v226, v269] : Fin 2 → IVec S16 32) a x).toNat < S128x128.size a := fun v226 v269 k0_hw218 => k0_hw218.2

def k0_chk219 (v226 : IVec S16 32) (v277 : IVec S16 32) : Prop :=
  (∀ a x, ((![v226, v277] : Fin 2 → IVec S16 32) a x).toNat < S128x128.size a) ∧
  (∀ a x, ((![v226, v277] : Fin 2 → IVec S16 32) a x).toNat < S128x128.size a)
theorem k0_idx437_inb : ∀ (v226 : IVec S16 32) (v277 : IVec S16 32) (k0_hw219 : k0_chk219 v226 v277), ∀ a x, ((![v226, v277] : Fin 2 → IVec S16 32) a x).toNat < S128x128.size a := fun v226 v277 k0_hw219 => k0_hw219.1
theorem k0_idx438_inb : ∀ (v226 : IVec S16 32) (v277 : IVec S16 32) (k0_hw219 : k0_chk219 v226 v277), ∀ a x, ((![v226, v277] : Fin 2 → IVec S16 32) a x).toNat < S128x128.size a := fun v226 v277 k0_hw219 => k0_hw219.2

def k0_chk220 (v226 : IVec S16 32) (v285 : IVec S16 32) : Prop :=
  (∀ a x, ((![v226, v285] : Fin 2 → IVec S16 32) a x).toNat < S128x128.size a) ∧
  (∀ a x, ((![v226, v285] : Fin 2 → IVec S16 32) a x).toNat < S128x128.size a)
theorem k0_idx439_inb : ∀ (v226 : IVec S16 32) (v285 : IVec S16 32) (k0_hw220 : k0_chk220 v226 v285), ∀ a x, ((![v226, v285] : Fin 2 → IVec S16 32) a x).toNat < S128x128.size a := fun v226 v285 k0_hw220 => k0_hw220.1
theorem k0_idx440_inb : ∀ (v226 : IVec S16 32) (v285 : IVec S16 32) (k0_hw220 : k0_chk220 v226 v285), ∀ a x, ((![v226, v285] : Fin 2 → IVec S16 32) a x).toNat < S128x128.size a := fun v226 v285 k0_hw220 => k0_hw220.2

def k0_chk221 (v226 : IVec S16 32) (v293 : IVec S16 32) : Prop :=
  (∀ a x, ((![v226, v293] : Fin 2 → IVec S16 32) a x).toNat < S128x128.size a) ∧
  (∀ a x, ((![v226, v293] : Fin 2 → IVec S16 32) a x).toNat < S128x128.size a)
theorem k0_idx441_inb : ∀ (v226 : IVec S16 32) (v293 : IVec S16 32) (k0_hw221 : k0_chk221 v226 v293), ∀ a x, ((![v226, v293] : Fin 2 → IVec S16 32) a x).toNat < S128x128.size a := fun v226 v293 k0_hw221 => k0_hw221.1
theorem k0_idx442_inb : ∀ (v226 : IVec S16 32) (v293 : IVec S16 32) (k0_hw221 : k0_chk221 v226 v293), ∀ a x, ((![v226, v293] : Fin 2 → IVec S16 32) a x).toNat < S128x128.size a := fun v226 v293 k0_hw221 => k0_hw221.2

def k0_chk222 (v226 : IVec S16 32) (v301 : IVec S16 32) : Prop :=
  (∀ a x, ((![v226, v301] : Fin 2 → IVec S16 32) a x).toNat < S128x128.size a) ∧
  (∀ a x, ((![v226, v301] : Fin 2 → IVec S16 32) a x).toNat < S128x128.size a)
theorem k0_idx443_inb : ∀ (v226 : IVec S16 32) (v301 : IVec S16 32) (k0_hw222 : k0_chk222 v226 v301), ∀ a x, ((![v226, v301] : Fin 2 → IVec S16 32) a x).toNat < S128x128.size a := fun v226 v301 k0_hw222 => k0_hw222.1
theorem k0_idx444_inb : ∀ (v226 : IVec S16 32) (v301 : IVec S16 32) (k0_hw222 : k0_chk222 v226 v301), ∀ a x, ((![v226, v301] : Fin 2 → IVec S16 32) a x).toNat < S128x128.size a := fun v226 v301 k0_hw222 => k0_hw222.2

def k0_chk223 (v226 : IVec S16 32) (v309 : IVec S16 32) : Prop :=
  (∀ a x, ((![v226, v309] : Fin 2 → IVec S16 32) a x).toNat < S128x128.size a) ∧
  (∀ a x, ((![v226, v309] : Fin 2 → IVec S16 32) a x).toNat < S128x128.size a)
theorem k0_idx445_inb : ∀ (v226 : IVec S16 32) (v309 : IVec S16 32) (k0_hw223 : k0_chk223 v226 v309), ∀ a x, ((![v226, v309] : Fin 2 → IVec S16 32) a x).toNat < S128x128.size a := fun v226 v309 k0_hw223 => k0_hw223.1
theorem k0_idx446_inb : ∀ (v226 : IVec S16 32) (v309 : IVec S16 32) (k0_hw223 : k0_chk223 v226 v309), ∀ a x, ((![v226, v309] : Fin 2 → IVec S16 32) a x).toNat < S128x128.size a := fun v226 v309 k0_hw223 => k0_hw223.2

def k0_chk224 (v226 : IVec S16 32) (v317 : IVec S16 32) : Prop :=
  (∀ a x, ((![v226, v317] : Fin 2 → IVec S16 32) a x).toNat < S128x128.size a) ∧
  (∀ a x, ((![v226, v317] : Fin 2 → IVec S16 32) a x).toNat < S128x128.size a)
theorem k0_idx447_inb : ∀ (v226 : IVec S16 32) (v317 : IVec S16 32) (k0_hw224 : k0_chk224 v226 v317), ∀ a x, ((![v226, v317] : Fin 2 → IVec S16 32) a x).toNat < S128x128.size a := fun v226 v317 k0_hw224 => k0_hw224.1
theorem k0_idx448_inb : ∀ (v226 : IVec S16 32) (v317 : IVec S16 32) (k0_hw224 : k0_chk224 v226 v317), ∀ a x, ((![v226, v317] : Fin 2 → IVec S16 32) a x).toNat < S128x128.size a := fun v226 v317 k0_hw224 => k0_hw224.2
@[reducible] def k0_t29_loop : Scf.Loop 32 :=
  let c0_i32_200 : BitVec 32 := 0#32
  let c16_i32_201 : BitVec 32 := 16#32
  let v235 : BitVec 32 := Scalar.addi c0_i32_200 c16_i32_201
  let c1_i32_202 : BitVec 32 := 1#32
  ⟨c0_i32_200, v235, c1_i32_202⟩

def k0_chk225 (v233 : IVec S16 32) (v261 : IVec S16 32) : Prop :=
  (∀ a x, ((![v233, v261] : Fin 2 → IVec S16 32) a x).toNat < S128x128.size a) ∧
  (∀ a x, ((![v233, v261] : Fin 2 → IVec S16 32) a x).toNat < S128x128.size a)
theorem k0_idx449_inb : ∀ (v233 : IVec S16 32) (v261 : IVec S16 32) (k0_hw225 : k0_chk225 v233 v261), ∀ a x, ((![v233, v261] : Fin 2 → IVec S16 32) a x).toNat < S128x128.size a := fun v233 v261 k0_hw225 => k0_hw225.1
theorem k0_idx450_inb : ∀ (v233 : IVec S16 32) (v261 : IVec S16 32) (k0_hw225 : k0_chk225 v233 v261), ∀ a x, ((![v233, v261] : Fin 2 → IVec S16 32) a x).toNat < S128x128.size a := fun v233 v261 k0_hw225 => k0_hw225.2

def k0_chk226 (v233 : IVec S16 32) (v269 : IVec S16 32) : Prop :=
  (∀ a x, ((![v233, v269] : Fin 2 → IVec S16 32) a x).toNat < S128x128.size a) ∧
  (∀ a x, ((![v233, v269] : Fin 2 → IVec S16 32) a x).toNat < S128x128.size a)
theorem k0_idx451_inb : ∀ (v233 : IVec S16 32) (v269 : IVec S16 32) (k0_hw226 : k0_chk226 v233 v269), ∀ a x, ((![v233, v269] : Fin 2 → IVec S16 32) a x).toNat < S128x128.size a := fun v233 v269 k0_hw226 => k0_hw226.1
theorem k0_idx452_inb : ∀ (v233 : IVec S16 32) (v269 : IVec S16 32) (k0_hw226 : k0_chk226 v233 v269), ∀ a x, ((![v233, v269] : Fin 2 → IVec S16 32) a x).toNat < S128x128.size a := fun v233 v269 k0_hw226 => k0_hw226.2

def k0_chk227 (v233 : IVec S16 32) (v277 : IVec S16 32) : Prop :=
  (∀ a x, ((![v233, v277] : Fin 2 → IVec S16 32) a x).toNat < S128x128.size a) ∧
  (∀ a x, ((![v233, v277] : Fin 2 → IVec S16 32) a x).toNat < S128x128.size a)
theorem k0_idx453_inb : ∀ (v233 : IVec S16 32) (v277 : IVec S16 32) (k0_hw227 : k0_chk227 v233 v277), ∀ a x, ((![v233, v277] : Fin 2 → IVec S16 32) a x).toNat < S128x128.size a := fun v233 v277 k0_hw227 => k0_hw227.1
theorem k0_idx454_inb : ∀ (v233 : IVec S16 32) (v277 : IVec S16 32) (k0_hw227 : k0_chk227 v233 v277), ∀ a x, ((![v233, v277] : Fin 2 → IVec S16 32) a x).toNat < S128x128.size a := fun v233 v277 k0_hw227 => k0_hw227.2

def k0_chk228 (v233 : IVec S16 32) (v285 : IVec S16 32) : Prop :=
  (∀ a x, ((![v233, v285] : Fin 2 → IVec S16 32) a x).toNat < S128x128.size a) ∧
  (∀ a x, ((![v233, v285] : Fin 2 → IVec S16 32) a x).toNat < S128x128.size a)
theorem k0_idx455_inb : ∀ (v233 : IVec S16 32) (v285 : IVec S16 32) (k0_hw228 : k0_chk228 v233 v285), ∀ a x, ((![v233, v285] : Fin 2 → IVec S16 32) a x).toNat < S128x128.size a := fun v233 v285 k0_hw228 => k0_hw228.1
theorem k0_idx456_inb : ∀ (v233 : IVec S16 32) (v285 : IVec S16 32) (k0_hw228 : k0_chk228 v233 v285), ∀ a x, ((![v233, v285] : Fin 2 → IVec S16 32) a x).toNat < S128x128.size a := fun v233 v285 k0_hw228 => k0_hw228.2

def k0_chk229 (v233 : IVec S16 32) (v293 : IVec S16 32) : Prop :=
  (∀ a x, ((![v233, v293] : Fin 2 → IVec S16 32) a x).toNat < S128x128.size a) ∧
  (∀ a x, ((![v233, v293] : Fin 2 → IVec S16 32) a x).toNat < S128x128.size a)
theorem k0_idx457_inb : ∀ (v233 : IVec S16 32) (v293 : IVec S16 32) (k0_hw229 : k0_chk229 v233 v293), ∀ a x, ((![v233, v293] : Fin 2 → IVec S16 32) a x).toNat < S128x128.size a := fun v233 v293 k0_hw229 => k0_hw229.1
theorem k0_idx458_inb : ∀ (v233 : IVec S16 32) (v293 : IVec S16 32) (k0_hw229 : k0_chk229 v233 v293), ∀ a x, ((![v233, v293] : Fin 2 → IVec S16 32) a x).toNat < S128x128.size a := fun v233 v293 k0_hw229 => k0_hw229.2

def k0_chk230 (v233 : IVec S16 32) (v301 : IVec S16 32) : Prop :=
  (∀ a x, ((![v233, v301] : Fin 2 → IVec S16 32) a x).toNat < S128x128.size a) ∧
  (∀ a x, ((![v233, v301] : Fin 2 → IVec S16 32) a x).toNat < S128x128.size a)
theorem k0_idx459_inb : ∀ (v233 : IVec S16 32) (v301 : IVec S16 32) (k0_hw230 : k0_chk230 v233 v301), ∀ a x, ((![v233, v301] : Fin 2 → IVec S16 32) a x).toNat < S128x128.size a := fun v233 v301 k0_hw230 => k0_hw230.1
theorem k0_idx460_inb : ∀ (v233 : IVec S16 32) (v301 : IVec S16 32) (k0_hw230 : k0_chk230 v233 v301), ∀ a x, ((![v233, v301] : Fin 2 → IVec S16 32) a x).toNat < S128x128.size a := fun v233 v301 k0_hw230 => k0_hw230.2

def k0_chk231 (v233 : IVec S16 32) (v309 : IVec S16 32) : Prop :=
  (∀ a x, ((![v233, v309] : Fin 2 → IVec S16 32) a x).toNat < S128x128.size a) ∧
  (∀ a x, ((![v233, v309] : Fin 2 → IVec S16 32) a x).toNat < S128x128.size a)
theorem k0_idx461_inb : ∀ (v233 : IVec S16 32) (v309 : IVec S16 32) (k0_hw231 : k0_chk231 v233 v309), ∀ a x, ((![v233, v309] : Fin 2 → IVec S16 32) a x).toNat < S128x128.size a := fun v233 v309 k0_hw231 => k0_hw231.1
theorem k0_idx462_inb : ∀ (v233 : IVec S16 32) (v309 : IVec S16 32) (k0_hw231 : k0_chk231 v233 v309), ∀ a x, ((![v233, v309] : Fin 2 → IVec S16 32) a x).toNat < S128x128.size a := fun v233 v309 k0_hw231 => k0_hw231.2

def k0_chk232 (v233 : IVec S16 32) (v317 : IVec S16 32) : Prop :=
  (∀ a x, ((![v233, v317] : Fin 2 → IVec S16 32) a x).toNat < S128x128.size a) ∧
  (∀ a x, ((![v233, v317] : Fin 2 → IVec S16 32) a x).toNat < S128x128.size a)
theorem k0_idx463_inb : ∀ (v233 : IVec S16 32) (v317 : IVec S16 32) (k0_hw232 : k0_chk232 v233 v317), ∀ a x, ((![v233, v317] : Fin 2 → IVec S16 32) a x).toNat < S128x128.size a := fun v233 v317 k0_hw232 => k0_hw232.1
theorem k0_idx464_inb : ∀ (v233 : IVec S16 32) (v317 : IVec S16 32) (k0_hw232 : k0_chk232 v233 v317), ∀ a x, ((![v233, v317] : Fin 2 → IVec S16 32) a x).toNat < S128x128.size a := fun v233 v317 k0_hw232 => k0_hw232.2
@[reducible] def k0_t30_loop : Scf.Loop 32 :=
  let c0_i32_206 : BitVec 32 := 0#32
  let c16_i32_207 : BitVec 32 := 16#32
  let v242 : BitVec 32 := Scalar.addi c0_i32_206 c16_i32_207
  let c1_i32_208 : BitVec 32 := 1#32
  ⟨c0_i32_206, v242, c1_i32_208⟩

def k0_chk233 (v240 : IVec S16 32) (v261 : IVec S16 32) : Prop :=
  (∀ a x, ((![v240, v261] : Fin 2 → IVec S16 32) a x).toNat < S128x128.size a) ∧
  (∀ a x, ((![v240, v261] : Fin 2 → IVec S16 32) a x).toNat < S128x128.size a)
theorem k0_idx465_inb : ∀ (v240 : IVec S16 32) (v261 : IVec S16 32) (k0_hw233 : k0_chk233 v240 v261), ∀ a x, ((![v240, v261] : Fin 2 → IVec S16 32) a x).toNat < S128x128.size a := fun v240 v261 k0_hw233 => k0_hw233.1
theorem k0_idx466_inb : ∀ (v240 : IVec S16 32) (v261 : IVec S16 32) (k0_hw233 : k0_chk233 v240 v261), ∀ a x, ((![v240, v261] : Fin 2 → IVec S16 32) a x).toNat < S128x128.size a := fun v240 v261 k0_hw233 => k0_hw233.2

def k0_chk234 (v240 : IVec S16 32) (v269 : IVec S16 32) : Prop :=
  (∀ a x, ((![v240, v269] : Fin 2 → IVec S16 32) a x).toNat < S128x128.size a) ∧
  (∀ a x, ((![v240, v269] : Fin 2 → IVec S16 32) a x).toNat < S128x128.size a)
theorem k0_idx467_inb : ∀ (v240 : IVec S16 32) (v269 : IVec S16 32) (k0_hw234 : k0_chk234 v240 v269), ∀ a x, ((![v240, v269] : Fin 2 → IVec S16 32) a x).toNat < S128x128.size a := fun v240 v269 k0_hw234 => k0_hw234.1
theorem k0_idx468_inb : ∀ (v240 : IVec S16 32) (v269 : IVec S16 32) (k0_hw234 : k0_chk234 v240 v269), ∀ a x, ((![v240, v269] : Fin 2 → IVec S16 32) a x).toNat < S128x128.size a := fun v240 v269 k0_hw234 => k0_hw234.2

def k0_chk235 (v240 : IVec S16 32) (v277 : IVec S16 32) : Prop :=
  (∀ a x, ((![v240, v277] : Fin 2 → IVec S16 32) a x).toNat < S128x128.size a) ∧
  (∀ a x, ((![v240, v277] : Fin 2 → IVec S16 32) a x).toNat < S128x128.size a)
theorem k0_idx469_inb : ∀ (v240 : IVec S16 32) (v277 : IVec S16 32) (k0_hw235 : k0_chk235 v240 v277), ∀ a x, ((![v240, v277] : Fin 2 → IVec S16 32) a x).toNat < S128x128.size a := fun v240 v277 k0_hw235 => k0_hw235.1
theorem k0_idx470_inb : ∀ (v240 : IVec S16 32) (v277 : IVec S16 32) (k0_hw235 : k0_chk235 v240 v277), ∀ a x, ((![v240, v277] : Fin 2 → IVec S16 32) a x).toNat < S128x128.size a := fun v240 v277 k0_hw235 => k0_hw235.2

def k0_chk236 (v240 : IVec S16 32) (v285 : IVec S16 32) : Prop :=
  (∀ a x, ((![v240, v285] : Fin 2 → IVec S16 32) a x).toNat < S128x128.size a) ∧
  (∀ a x, ((![v240, v285] : Fin 2 → IVec S16 32) a x).toNat < S128x128.size a)
theorem k0_idx471_inb : ∀ (v240 : IVec S16 32) (v285 : IVec S16 32) (k0_hw236 : k0_chk236 v240 v285), ∀ a x, ((![v240, v285] : Fin 2 → IVec S16 32) a x).toNat < S128x128.size a := fun v240 v285 k0_hw236 => k0_hw236.1
theorem k0_idx472_inb : ∀ (v240 : IVec S16 32) (v285 : IVec S16 32) (k0_hw236 : k0_chk236 v240 v285), ∀ a x, ((![v240, v285] : Fin 2 → IVec S16 32) a x).toNat < S128x128.size a := fun v240 v285 k0_hw236 => k0_hw236.2

def k0_chk237 (v240 : IVec S16 32) (v293 : IVec S16 32) : Prop :=
  (∀ a x, ((![v240, v293] : Fin 2 → IVec S16 32) a x).toNat < S128x128.size a) ∧
  (∀ a x, ((![v240, v293] : Fin 2 → IVec S16 32) a x).toNat < S128x128.size a)
theorem k0_idx473_inb : ∀ (v240 : IVec S16 32) (v293 : IVec S16 32) (k0_hw237 : k0_chk237 v240 v293), ∀ a x, ((![v240, v293] : Fin 2 → IVec S16 32) a x).toNat < S128x128.size a := fun v240 v293 k0_hw237 => k0_hw237.1
theorem k0_idx474_inb : ∀ (v240 : IVec S16 32) (v293 : IVec S16 32) (k0_hw237 : k0_chk237 v240 v293), ∀ a x, ((![v240, v293] : Fin 2 → IVec S16 32) a x).toNat < S128x128.size a := fun v240 v293 k0_hw237 => k0_hw237.2

def k0_chk238 (v240 : IVec S16 32) (v301 : IVec S16 32) : Prop :=
  (∀ a x, ((![v240, v301] : Fin 2 → IVec S16 32) a x).toNat < S128x128.size a) ∧
  (∀ a x, ((![v240, v301] : Fin 2 → IVec S16 32) a x).toNat < S128x128.size a)
theorem k0_idx475_inb : ∀ (v240 : IVec S16 32) (v301 : IVec S16 32) (k0_hw238 : k0_chk238 v240 v301), ∀ a x, ((![v240, v301] : Fin 2 → IVec S16 32) a x).toNat < S128x128.size a := fun v240 v301 k0_hw238 => k0_hw238.1
theorem k0_idx476_inb : ∀ (v240 : IVec S16 32) (v301 : IVec S16 32) (k0_hw238 : k0_chk238 v240 v301), ∀ a x, ((![v240, v301] : Fin 2 → IVec S16 32) a x).toNat < S128x128.size a := fun v240 v301 k0_hw238 => k0_hw238.2

def k0_chk239 (v240 : IVec S16 32) (v309 : IVec S16 32) : Prop :=
  (∀ a x, ((![v240, v309] : Fin 2 → IVec S16 32) a x).toNat < S128x128.size a) ∧
  (∀ a x, ((![v240, v309] : Fin 2 → IVec S16 32) a x).toNat < S128x128.size a)
theorem k0_idx477_inb : ∀ (v240 : IVec S16 32) (v309 : IVec S16 32) (k0_hw239 : k0_chk239 v240 v309), ∀ a x, ((![v240, v309] : Fin 2 → IVec S16 32) a x).toNat < S128x128.size a := fun v240 v309 k0_hw239 => k0_hw239.1
theorem k0_idx478_inb : ∀ (v240 : IVec S16 32) (v309 : IVec S16 32) (k0_hw239 : k0_chk239 v240 v309), ∀ a x, ((![v240, v309] : Fin 2 → IVec S16 32) a x).toNat < S128x128.size a := fun v240 v309 k0_hw239 => k0_hw239.2

def k0_chk240 (v240 : IVec S16 32) (v317 : IVec S16 32) : Prop :=
  (∀ a x, ((![v240, v317] : Fin 2 → IVec S16 32) a x).toNat < S128x128.size a) ∧
  (∀ a x, ((![v240, v317] : Fin 2 → IVec S16 32) a x).toNat < S128x128.size a)
theorem k0_idx479_inb : ∀ (v240 : IVec S16 32) (v317 : IVec S16 32) (k0_hw240 : k0_chk240 v240 v317), ∀ a x, ((![v240, v317] : Fin 2 → IVec S16 32) a x).toNat < S128x128.size a := fun v240 v317 k0_hw240 => k0_hw240.1
theorem k0_idx480_inb : ∀ (v240 : IVec S16 32) (v317 : IVec S16 32) (k0_hw240 : k0_chk240 v240 v317), ∀ a x, ((![v240, v317] : Fin 2 → IVec S16 32) a x).toNat < S128x128.size a := fun v240 v317 k0_hw240 => k0_hw240.2
@[reducible] def k0_t31_loop : Scf.Loop 32 :=
  let c0_i32_212 : BitVec 32 := 0#32
  let c16_i32_213 : BitVec 32 := 16#32
  let v249 : BitVec 32 := Scalar.addi c0_i32_212 c16_i32_213
  let c1_i32_214 : BitVec 32 := 1#32
  ⟨c0_i32_212, v249, c1_i32_214⟩

def k0_chk241 (v247 : IVec S16 32) (v261 : IVec S16 32) : Prop :=
  (∀ a x, ((![v247, v261] : Fin 2 → IVec S16 32) a x).toNat < S128x128.size a) ∧
  (∀ a x, ((![v247, v261] : Fin 2 → IVec S16 32) a x).toNat < S128x128.size a)
theorem k0_idx481_inb : ∀ (v247 : IVec S16 32) (v261 : IVec S16 32) (k0_hw241 : k0_chk241 v247 v261), ∀ a x, ((![v247, v261] : Fin 2 → IVec S16 32) a x).toNat < S128x128.size a := fun v247 v261 k0_hw241 => k0_hw241.1
theorem k0_idx482_inb : ∀ (v247 : IVec S16 32) (v261 : IVec S16 32) (k0_hw241 : k0_chk241 v247 v261), ∀ a x, ((![v247, v261] : Fin 2 → IVec S16 32) a x).toNat < S128x128.size a := fun v247 v261 k0_hw241 => k0_hw241.2

def k0_chk242 (v247 : IVec S16 32) (v269 : IVec S16 32) : Prop :=
  (∀ a x, ((![v247, v269] : Fin 2 → IVec S16 32) a x).toNat < S128x128.size a) ∧
  (∀ a x, ((![v247, v269] : Fin 2 → IVec S16 32) a x).toNat < S128x128.size a)
theorem k0_idx483_inb : ∀ (v247 : IVec S16 32) (v269 : IVec S16 32) (k0_hw242 : k0_chk242 v247 v269), ∀ a x, ((![v247, v269] : Fin 2 → IVec S16 32) a x).toNat < S128x128.size a := fun v247 v269 k0_hw242 => k0_hw242.1
theorem k0_idx484_inb : ∀ (v247 : IVec S16 32) (v269 : IVec S16 32) (k0_hw242 : k0_chk242 v247 v269), ∀ a x, ((![v247, v269] : Fin 2 → IVec S16 32) a x).toNat < S128x128.size a := fun v247 v269 k0_hw242 => k0_hw242.2

def k0_chk243 (v247 : IVec S16 32) (v277 : IVec S16 32) : Prop :=
  (∀ a x, ((![v247, v277] : Fin 2 → IVec S16 32) a x).toNat < S128x128.size a) ∧
  (∀ a x, ((![v247, v277] : Fin 2 → IVec S16 32) a x).toNat < S128x128.size a)
theorem k0_idx485_inb : ∀ (v247 : IVec S16 32) (v277 : IVec S16 32) (k0_hw243 : k0_chk243 v247 v277), ∀ a x, ((![v247, v277] : Fin 2 → IVec S16 32) a x).toNat < S128x128.size a := fun v247 v277 k0_hw243 => k0_hw243.1
theorem k0_idx486_inb : ∀ (v247 : IVec S16 32) (v277 : IVec S16 32) (k0_hw243 : k0_chk243 v247 v277), ∀ a x, ((![v247, v277] : Fin 2 → IVec S16 32) a x).toNat < S128x128.size a := fun v247 v277 k0_hw243 => k0_hw243.2

def k0_chk244 (v247 : IVec S16 32) (v285 : IVec S16 32) : Prop :=
  (∀ a x, ((![v247, v285] : Fin 2 → IVec S16 32) a x).toNat < S128x128.size a) ∧
  (∀ a x, ((![v247, v285] : Fin 2 → IVec S16 32) a x).toNat < S128x128.size a)
theorem k0_idx487_inb : ∀ (v247 : IVec S16 32) (v285 : IVec S16 32) (k0_hw244 : k0_chk244 v247 v285), ∀ a x, ((![v247, v285] : Fin 2 → IVec S16 32) a x).toNat < S128x128.size a := fun v247 v285 k0_hw244 => k0_hw244.1
theorem k0_idx488_inb : ∀ (v247 : IVec S16 32) (v285 : IVec S16 32) (k0_hw244 : k0_chk244 v247 v285), ∀ a x, ((![v247, v285] : Fin 2 → IVec S16 32) a x).toNat < S128x128.size a := fun v247 v285 k0_hw244 => k0_hw244.2

def k0_chk245 (v247 : IVec S16 32) (v293 : IVec S16 32) : Prop :=
  (∀ a x, ((![v247, v293] : Fin 2 → IVec S16 32) a x).toNat < S128x128.size a) ∧
  (∀ a x, ((![v247, v293] : Fin 2 → IVec S16 32) a x).toNat < S128x128.size a)
theorem k0_idx489_inb : ∀ (v247 : IVec S16 32) (v293 : IVec S16 32) (k0_hw245 : k0_chk245 v247 v293), ∀ a x, ((![v247, v293] : Fin 2 → IVec S16 32) a x).toNat < S128x128.size a := fun v247 v293 k0_hw245 => k0_hw245.1
theorem k0_idx490_inb : ∀ (v247 : IVec S16 32) (v293 : IVec S16 32) (k0_hw245 : k0_chk245 v247 v293), ∀ a x, ((![v247, v293] : Fin 2 → IVec S16 32) a x).toNat < S128x128.size a := fun v247 v293 k0_hw245 => k0_hw245.2

def k0_chk246 (v247 : IVec S16 32) (v301 : IVec S16 32) : Prop :=
  (∀ a x, ((![v247, v301] : Fin 2 → IVec S16 32) a x).toNat < S128x128.size a) ∧
  (∀ a x, ((![v247, v301] : Fin 2 → IVec S16 32) a x).toNat < S128x128.size a)
theorem k0_idx491_inb : ∀ (v247 : IVec S16 32) (v301 : IVec S16 32) (k0_hw246 : k0_chk246 v247 v301), ∀ a x, ((![v247, v301] : Fin 2 → IVec S16 32) a x).toNat < S128x128.size a := fun v247 v301 k0_hw246 => k0_hw246.1
theorem k0_idx492_inb : ∀ (v247 : IVec S16 32) (v301 : IVec S16 32) (k0_hw246 : k0_chk246 v247 v301), ∀ a x, ((![v247, v301] : Fin 2 → IVec S16 32) a x).toNat < S128x128.size a := fun v247 v301 k0_hw246 => k0_hw246.2

def k0_chk247 (v247 : IVec S16 32) (v309 : IVec S16 32) : Prop :=
  (∀ a x, ((![v247, v309] : Fin 2 → IVec S16 32) a x).toNat < S128x128.size a) ∧
  (∀ a x, ((![v247, v309] : Fin 2 → IVec S16 32) a x).toNat < S128x128.size a)
theorem k0_idx493_inb : ∀ (v247 : IVec S16 32) (v309 : IVec S16 32) (k0_hw247 : k0_chk247 v247 v309), ∀ a x, ((![v247, v309] : Fin 2 → IVec S16 32) a x).toNat < S128x128.size a := fun v247 v309 k0_hw247 => k0_hw247.1
theorem k0_idx494_inb : ∀ (v247 : IVec S16 32) (v309 : IVec S16 32) (k0_hw247 : k0_chk247 v247 v309), ∀ a x, ((![v247, v309] : Fin 2 → IVec S16 32) a x).toNat < S128x128.size a := fun v247 v309 k0_hw247 => k0_hw247.2

def k0_chk248 (v247 : IVec S16 32) (v317 : IVec S16 32) : Prop :=
  (∀ a x, ((![v247, v317] : Fin 2 → IVec S16 32) a x).toNat < S128x128.size a) ∧
  (∀ a x, ((![v247, v317] : Fin 2 → IVec S16 32) a x).toNat < S128x128.size a)
theorem k0_idx495_inb : ∀ (v247 : IVec S16 32) (v317 : IVec S16 32) (k0_hw248 : k0_chk248 v247 v317), ∀ a x, ((![v247, v317] : Fin 2 → IVec S16 32) a x).toNat < S128x128.size a := fun v247 v317 k0_hw248 => k0_hw248.1
theorem k0_idx496_inb : ∀ (v247 : IVec S16 32) (v317 : IVec S16 32) (k0_hw248 : k0_chk248 v247 v317), ∀ a x, ((![v247, v317] : Fin 2 → IVec S16 32) a x).toNat < S128x128.size a := fun v247 v317 k0_hw248 => k0_hw248.2
@[reducible] def k0_t32_loop : Scf.Loop 32 :=
  let c0_i32_218 : BitVec 32 := 0#32
  let c16_i32_219 : BitVec 32 := 16#32
  let v256 : BitVec 32 := Scalar.addi c0_i32_218 c16_i32_219
  let c1_i32_220 : BitVec 32 := 1#32
  ⟨c0_i32_218, v256, c1_i32_220⟩

def k0_chk249 (v254 : IVec S16 32) (v261 : IVec S16 32) : Prop :=
  (∀ a x, ((![v254, v261] : Fin 2 → IVec S16 32) a x).toNat < S128x128.size a) ∧
  (∀ a x, ((![v254, v261] : Fin 2 → IVec S16 32) a x).toNat < S128x128.size a)
theorem k0_idx497_inb : ∀ (v254 : IVec S16 32) (v261 : IVec S16 32) (k0_hw249 : k0_chk249 v254 v261), ∀ a x, ((![v254, v261] : Fin 2 → IVec S16 32) a x).toNat < S128x128.size a := fun v254 v261 k0_hw249 => k0_hw249.1
theorem k0_idx498_inb : ∀ (v254 : IVec S16 32) (v261 : IVec S16 32) (k0_hw249 : k0_chk249 v254 v261), ∀ a x, ((![v254, v261] : Fin 2 → IVec S16 32) a x).toNat < S128x128.size a := fun v254 v261 k0_hw249 => k0_hw249.2

def k0_chk250 (v254 : IVec S16 32) (v269 : IVec S16 32) : Prop :=
  (∀ a x, ((![v254, v269] : Fin 2 → IVec S16 32) a x).toNat < S128x128.size a) ∧
  (∀ a x, ((![v254, v269] : Fin 2 → IVec S16 32) a x).toNat < S128x128.size a)
theorem k0_idx499_inb : ∀ (v254 : IVec S16 32) (v269 : IVec S16 32) (k0_hw250 : k0_chk250 v254 v269), ∀ a x, ((![v254, v269] : Fin 2 → IVec S16 32) a x).toNat < S128x128.size a := fun v254 v269 k0_hw250 => k0_hw250.1
theorem k0_idx500_inb : ∀ (v254 : IVec S16 32) (v269 : IVec S16 32) (k0_hw250 : k0_chk250 v254 v269), ∀ a x, ((![v254, v269] : Fin 2 → IVec S16 32) a x).toNat < S128x128.size a := fun v254 v269 k0_hw250 => k0_hw250.2

def k0_chk251 (v254 : IVec S16 32) (v277 : IVec S16 32) : Prop :=
  (∀ a x, ((![v254, v277] : Fin 2 → IVec S16 32) a x).toNat < S128x128.size a) ∧
  (∀ a x, ((![v254, v277] : Fin 2 → IVec S16 32) a x).toNat < S128x128.size a)
theorem k0_idx501_inb : ∀ (v254 : IVec S16 32) (v277 : IVec S16 32) (k0_hw251 : k0_chk251 v254 v277), ∀ a x, ((![v254, v277] : Fin 2 → IVec S16 32) a x).toNat < S128x128.size a := fun v254 v277 k0_hw251 => k0_hw251.1
theorem k0_idx502_inb : ∀ (v254 : IVec S16 32) (v277 : IVec S16 32) (k0_hw251 : k0_chk251 v254 v277), ∀ a x, ((![v254, v277] : Fin 2 → IVec S16 32) a x).toNat < S128x128.size a := fun v254 v277 k0_hw251 => k0_hw251.2

def k0_chk252 (v254 : IVec S16 32) (v285 : IVec S16 32) : Prop :=
  (∀ a x, ((![v254, v285] : Fin 2 → IVec S16 32) a x).toNat < S128x128.size a) ∧
  (∀ a x, ((![v254, v285] : Fin 2 → IVec S16 32) a x).toNat < S128x128.size a)
theorem k0_idx503_inb : ∀ (v254 : IVec S16 32) (v285 : IVec S16 32) (k0_hw252 : k0_chk252 v254 v285), ∀ a x, ((![v254, v285] : Fin 2 → IVec S16 32) a x).toNat < S128x128.size a := fun v254 v285 k0_hw252 => k0_hw252.1
theorem k0_idx504_inb : ∀ (v254 : IVec S16 32) (v285 : IVec S16 32) (k0_hw252 : k0_chk252 v254 v285), ∀ a x, ((![v254, v285] : Fin 2 → IVec S16 32) a x).toNat < S128x128.size a := fun v254 v285 k0_hw252 => k0_hw252.2

def k0_chk253 (v254 : IVec S16 32) (v293 : IVec S16 32) : Prop :=
  (∀ a x, ((![v254, v293] : Fin 2 → IVec S16 32) a x).toNat < S128x128.size a) ∧
  (∀ a x, ((![v254, v293] : Fin 2 → IVec S16 32) a x).toNat < S128x128.size a)
theorem k0_idx505_inb : ∀ (v254 : IVec S16 32) (v293 : IVec S16 32) (k0_hw253 : k0_chk253 v254 v293), ∀ a x, ((![v254, v293] : Fin 2 → IVec S16 32) a x).toNat < S128x128.size a := fun v254 v293 k0_hw253 => k0_hw253.1
theorem k0_idx506_inb : ∀ (v254 : IVec S16 32) (v293 : IVec S16 32) (k0_hw253 : k0_chk253 v254 v293), ∀ a x, ((![v254, v293] : Fin 2 → IVec S16 32) a x).toNat < S128x128.size a := fun v254 v293 k0_hw253 => k0_hw253.2

def k0_chk254 (v254 : IVec S16 32) (v301 : IVec S16 32) : Prop :=
  (∀ a x, ((![v254, v301] : Fin 2 → IVec S16 32) a x).toNat < S128x128.size a) ∧
  (∀ a x, ((![v254, v301] : Fin 2 → IVec S16 32) a x).toNat < S128x128.size a)
theorem k0_idx507_inb : ∀ (v254 : IVec S16 32) (v301 : IVec S16 32) (k0_hw254 : k0_chk254 v254 v301), ∀ a x, ((![v254, v301] : Fin 2 → IVec S16 32) a x).toNat < S128x128.size a := fun v254 v301 k0_hw254 => k0_hw254.1
theorem k0_idx508_inb : ∀ (v254 : IVec S16 32) (v301 : IVec S16 32) (k0_hw254 : k0_chk254 v254 v301), ∀ a x, ((![v254, v301] : Fin 2 → IVec S16 32) a x).toNat < S128x128.size a := fun v254 v301 k0_hw254 => k0_hw254.2

def k0_chk255 (v254 : IVec S16 32) (v309 : IVec S16 32) : Prop :=
  (∀ a x, ((![v254, v309] : Fin 2 → IVec S16 32) a x).toNat < S128x128.size a) ∧
  (∀ a x, ((![v254, v309] : Fin 2 → IVec S16 32) a x).toNat < S128x128.size a)
theorem k0_idx509_inb : ∀ (v254 : IVec S16 32) (v309 : IVec S16 32) (k0_hw255 : k0_chk255 v254 v309), ∀ a x, ((![v254, v309] : Fin 2 → IVec S16 32) a x).toNat < S128x128.size a := fun v254 v309 k0_hw255 => k0_hw255.1
theorem k0_idx510_inb : ∀ (v254 : IVec S16 32) (v309 : IVec S16 32) (k0_hw255 : k0_chk255 v254 v309), ∀ a x, ((![v254, v309] : Fin 2 → IVec S16 32) a x).toNat < S128x128.size a := fun v254 v309 k0_hw255 => k0_hw255.2

def k0_chk256 (v254 : IVec S16 32) (v317 : IVec S16 32) : Prop :=
  (∀ a x, ((![v254, v317] : Fin 2 → IVec S16 32) a x).toNat < S128x128.size a) ∧
  (∀ a x, ((![v254, v317] : Fin 2 → IVec S16 32) a x).toNat < S128x128.size a)
theorem k0_idx511_inb : ∀ (v254 : IVec S16 32) (v317 : IVec S16 32) (k0_hw256 : k0_chk256 v254 v317), ∀ a x, ((![v254, v317] : Fin 2 → IVec S16 32) a x).toNat < S128x128.size a := fun v254 v317 k0_hw256 => k0_hw256.1
theorem k0_idx512_inb : ∀ (v254 : IVec S16 32) (v317 : IVec S16 32) (k0_hw256 : k0_chk256 v254 v317), ∀ a x, ((![v254, v317] : Fin 2 → IVec S16 32) a x).toNat < S128x128.size a := fun v254 v317 k0_hw256 => k0_hw256.2
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev grid1 : Pipeline.Grid := .none

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x128 : Shape := ⟨2, ![16384, 128]⟩
abbrev S16384 : Shape := ⟨1, ![16384]⟩
abbrev S100000x128 : Shape := ⟨2, ![100000, 128]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S100000x128, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x128, .f32⟩
  | .hbm, ⟨22, _⟩ => ⟨S16384x128, .i1⟩
  | .hbm, ⟨23, _⟩ => ⟨S_, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_cst_0 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v4 : Ref sig .tc := ⟨.hbm, 37, rfl⟩
abbrev main_cst_2 : Ref sig .tc := ⟨.hbm, 38, rfl⟩
abbrev main_v5 : Ref sig .tc := ⟨.hbm, 39, rfl⟩
abbrev main_cst_3 : Ref sig .tc := ⟨.hbm, 40, rfl⟩
abbrev main_v6 : Ref sig .tc := ⟨.hbm, 41, rfl⟩

abbrev nD : Nat := 1
abbrev τ : Topo := Topo.v7x

variable {F : FTy → Type} [FloatOps F]
-- ==== Proof.Body.lean ====
/- The SparseCore kernel's body said once: one feature's step, a loop's trip as eight such steps, a group of sixteen
   rows, a chunk of eight groups. The printed body is this program (`body_eq`). -/
module

public import proofs.«01_k».proof.Proof.Gen.KernelIdeal.Skeleton

@[expose] public section

noncomputable section

namespace Cert.Proof.Body

open Cert.KernelIdeal Cert.KernelIdeal.Gen
open Idealize.ShloMosaic Idealize.SL.Sem

variable {F : FTy → Type} [FloatOps F]

/-- A program of the tile at grid point `i`. -/
abbrev TP (i : grid0.Coords) (α : Type) := Prog (TpuEff nD τ sig (Elt F) Λ₀ (.scVector ((i 0).castLE hcore0) ((i 1).castLE hsub0))) α

variable (i : grid0.Coords)
  (xM : Memref sig .scVector .hbm S16384x128 .f32) (lM : Memref sig .scVector .hbm S16384 .i32)
  (tM : Memref sig .scVector .hbm S100000x128 .f32) (oM : Memref sig .scVector .hbm S16384 .f32)
  (iV : Memref sig .scVector .vmem S4x128 .i32) (cV : Memref sig .scVector .vmem S128x128 .f32) (hcV : cV.IsWhole)
  (xV : Memref sig .scVector .vmem S128x128 .f32) (hxV : xV.IsWhole)
  (dV : Memref sig .scVector .vmem S512 .f32) (hdV : dV.IsWhole)

/-- The sixteen rows of group `g` of a chunk: `16 g` to `16 g + 15`. -/
def rowsOf (g : Fin 8) : IVec S16 32 := addi (iota .scVector S16 32 [0] iota_S16_d0_w32_scVector) (broadcast S16 (BitVec.ofNat 32 (16 * g.val)))

/-- One feature: the rows' entries of both blocks at column `col`, the squared difference added to `acc`. -/
def step (rows : IVec S16 32) (col : BitVec 32) (acc : FVec F S16 .f32) : TP (F := F) i (FVec F S16 .f32) := do
  have cols : IVec S16 32 := broadcast S16 col
  have h : k0_chk1 rows cols := (← Prog.lift (TpuEff.assume (k0_chk1 rows cols) (k0_chk1.dec rows cols))).down
  let a : Vec F S16 .f32 ← SparseCore.vectorLoadIdx xV ![rows, cols] (k0_idx1_inb rows cols h) (View.loads_vmem h_S128x128)
  let b : Vec F S16 .f32 ← SparseCore.vectorLoadIdx cV ![rows, cols] (k0_idx2_inb rows cols h) (View.loads_vmem h_S128x128)
  pure (addf acc (mulf (subf a b) (subf a b)))

/-- One trip of a loop: eight features in order. -/
def trip (rows : IVec S16 32) (t : Fin k0_t1_loop.trips) (acc : FVec F S16 .f32) : TP (F := F) i (FVec F S16 .f32) :=
  [0#32, 1#32, 2#32, 3#32, 4#32, 5#32, 6#32, 7#32].foldlM
    (fun acc u => step i cV xV rows (Scalar.addi (Scalar.muli (Scf.iv 0#32 1#32 t.val) 8#32) u) acc) acc

/-- A group of sixteen lies within the tile's distances. -/
theorem inb_group (j : Fin 4) (g : Fin 8) : ∀ a, (![16 * (8 * j.val + g.val)] : Fin 1 → Nat) a + S16.size a ≤ S512.size a := by
  intro a; fin_cases a; simp [S16, S512]; omega

/-- Each of the four rows of labels lies within the labels' scratch. -/
theorem inb_row (j : Fin 4) : ∀ a, (![j.val, 0] : Fin 2 → Nat) a + S1x128.size a ≤ S4x128.size a := by
  intro a; fin_cases a <;> simp [S1x128, S4x128]; omega

/-- Group `g` of chunk `j`: the loop over the features, its sums stored at the group's sixteen places. -/
def group (j : Fin 4) (g : Fin 8) : TP (F := F) i PUnit := do
  let v : FVec F S16 .f32 ← Scf.Loop.for k0_t1_loop k0_t1_ok (broadcast S16 (Scalar.ofBits .f32 0x00000000#32)) (trip i cV xV (rowsOf g))
  let _ : Vec F S16 .f32 ← Prog.lift (.load dV (Rect.unit (s := S512) ![16 * (8 * j.val + g.val)] S16.size (inb_group j g)).toLoadRect (View.loadsAt_vmem h_S16))
  Prog.lift (.store dV (Rect.unit (s := S512) ![16 * (8 * j.val + g.val)] S16.size (inb_group j g)) v Finset.univ (View.stores_vmem_bits_univ h_S16 rfl) (.inl rfl))

/-- Row `j` of the labels' scratch, and the labels of chunk `j`. -/
abbrev lRow (j : Fin 4) : Memref sig .scVector .vmem S128 .i32 :=
  (iV.slice (Rect.unit (s := S4x128) ![j.val, 0] S1x128.size (inb_row j)) (fun _ => rfl)).squeeze S128 squeezes_S1x128_S128
/-- The labels of chunk `j`, a row of their scratch. -/
abbrev lSlice (j : Fin 4) : Memref sig .scVector .hbm S128 .i32 :=
  lM.slice (Rect.unit (s := S16384) (k0_off1 i (BitVec.ofNat 32 (128 * j.val))) S128.size (k0_off1_inb i j)) (fun _ => rfl)

/-- The labels of chunk `j` fetched. -/
def fetch (sem : DmaSems sig S_) (j : Fin 4) : TP (F := F) i PUnit := do
  Prog.lift (.enqueueDma (lSlice i lM j) (.here (lRow iV j)) (.dma sem.sem) (View.wordExact_bits rfl) ((View.wordExact_bits rfl).reshape _ _) ⟨Or.inl rfl, trivial⟩)
  Prog.lift (.waitDma2 sem.sem (lSlice i lM j) (lRow iV j) (View.wordExact_bits rfl) ((View.wordExact_bits rfl).reshape _ _))

/-- Where chunk `j` of the tile's rows of `x` starts. -/
def xOff : Fin 4 → Fin 2 → Nat
  | 0 => k0_off2 i | 1 => k0_off3 i | 2 => k0_off4 i | 3 => k0_off5 i
/-- Each chunk of points lies within the array of points. -/
theorem xOff_inb : ∀ (j : Fin 4) a, xOff i j a + S128x128.size a ≤ S16384x128.size a
  | 0 => k0_off2_inb i | 1 => k0_off3_inb i | 2 => k0_off4_inb i | 3 => k0_off5_inb i
/-- The points of chunk `j`. -/
abbrev xSlice (j : Fin 4) : Memref sig .scVector .hbm S128x128 .f32 :=
  xM.slice (Rect.unit (s := S16384x128) (xOff i j) S128x128.size (xOff_inb i j)) (fun _ => rfl)
/-- The whole table, as the gathers name it. -/
abbrev tAll : Memref sig .scVector .hbm S100000x128 .f32 :=
  tM.slice (Rect.unit (s := S100000x128) ![0, 0] S100000x128.size inb_S100000x128_S100000x128_0_0) (fun _ => rfl)
/-- The tile's part of the result. -/
abbrev oSlice : Memref sig .scVector .hbm S512 .f32 := oM.slice (Rect.unit (s := S16384) (k0_off6 i) S512.size (k0_off6_inb i)) (fun _ => rfl)

/-- Chunk `j`'s two blocks brought in: the gather of the table's rows the labels name, and the rows of `x`. -/
def blocks (gsem sem : DmaSems sig S_) (j : Fin 4) : TP (F := F) i PUnit := do
  SparseCore.enqueueIndirectGather rfl (tAll tM) cV gathers_S100000x128_S128x128 (lRow iV j) rfl gsem.sem (View.wordExact_bits rfl) rfl (Or.inl rfl)
  Prog.lift (.enqueueDma (xSlice i xM j) (.here xV) (.dma sem.sem) (View.wordExact_bits rfl) hxV.wordExact ⟨Or.inl rfl, trivial⟩)
  Prog.lift (.waitDma2 sem.sem (xSlice i xM j) xV (View.wordExact_bits rfl) hxV.wordExact)
  SparseCore.waitIndirectGather gsem.sem (tAll tM) cV (View.wordExact_bits rfl) hcV.wordExact

/-- The groups of chunk `j`, in order. -/
def groups (j : Fin 4) : TP (F := F) i PUnit := [0, 1, 2, 3, 4, 5, 6, 7].forM fun g => group i cV xV dV j g

/-- The results of the tile written out. -/
def flush (sem : DmaSems sig S_) : TP (F := F) i PUnit := do
  Prog.lift (.enqueueDma dV (.here (oSlice i oM)) (.dma sem.sem) hdV.wordExact (View.wordExact_bits rfl) ⟨Or.inl rfl, trivial⟩)
  Prog.lift (.waitDma2 sem.sem dV (oSlice i oM) hdV.wordExact (View.wordExact_bits rfl))

/-- The body: the four fetches, the four chunks, the write-out. -/
def body (gsem : DmaSems sig S_) (ls xs : Fin 4 → DmaSems sig S_) (osem : DmaSems sig S_) : TP (F := F) i PUnit := do
  [0, 1, 2, 3].forM fun j => fetch i lM iV (ls j) j
  [0, 1, 2, 3].forM fun j => do
    blocks i xM tM iV cV hcV xV hxV gsem (xs j) j
    groups i cV xV dV j
  flush i oM dV hdV osem

section Equation
variable (h2 : xM.IsWhole) (h3 : lM.IsWhole) (h4 : tM.IsWhole) (h5 : oM.IsWhole) (h6 : iV.IsWhole) (s10 s0 s1 s2 s3 s4 s5 s6 s7 s8 : DmaSems sig S_)

set_option maxRecDepth 65536 in
set_option maxHeartbeats 4000000 in
/-- The printed body is `body`: both are the same sequence of operations once the printed windows and the lists are
    opened and the binds associated. -/
theorem body_eq :
    cc0__sc_body (F := F) i xM h2 lM h3 tM h4 oM h5 iV h6 cV hcV xV hxV dV hdV s10 s0 s1 s2 s3 s4 s5 s6 s7 s8
      = body i xM lM tM oM iV cV hcV xV hxV dV hdV s10 (fun | 0 => s0 | 1 => s1 | 2 => s2 | 3 => s3) (fun | 0 => s4 | 1 => s5 | 2 => s6 | 3 => s7) s8 := by
  simp only [cc0__sc_body_eq_skeleton, cc0__sc_body_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, bind_assoc, pure_bind]
  simp only [body, fetch, blocks, groups, group, flush, List.forM_eq_forM, List.forM_cons, List.forM_nil, bind_assoc, pure_bind]
  rfl

end Equation

end Cert.Proof.Body

end
-- ==== Proof.Setup.lean ====
/- The launch as its theorem sees it: the configuration, the body tables, the ghost state, the buffers' locations. -/
module

public import proofs.«01_k».proof.Proof.Body
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal.Launch

@[expose] public section

noncomputable section

namespace Cert.Proof.Setup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

/-- The labels of the bodies and of the pipeline. -/
abbrev ΛP : Labels := Pipeline.Sig Λ₀ (Fin 1) fun p => (pcfgs (F := F) p).Adm
/-- The SparseCore call. -/
abbrev K : SparseCore.Cfg τ sig (ΛP (F := F)) 1 := sc (F := F)
/-- The call runs on two SparseCores. -/
theorem nCore_zero : (K (F := F)).nCore 0 = 2 := rfl
/-- And on sixteen tiles of each. -/
theorem nSub_zero : (K (F := F)).nSub 0 = 16 := rfl
/-- The table of bodies, with the pipeline's. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and outlive the bodies; no buffer is shared among a task's subcores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipeline's rounds: the left half of the right component. -/
def EP : Emb UP (MT nD τ sig (HIx 1) (Elt F) ℕ UU ℕ) :=
  (Emb.inl : Emb UP (UP × Counters)).trans
    ((Emb.inr : Emb (UP × Counters) UU).trans (uEmb (nD := nD) (sig := sig) (Ix := HIx 1) (Val := Elt F) (Name := ℕ) (U := UU) (Lvl := ℕ)).toEmb)

/-- The pipeline's part lands in the user's part of the state. -/
instance EP_landsIn : (EP : Emb UP 𝕄).LandsIn (upEmb : UEmb _ 𝕄) := by unfold EP; infer_instance

/-! ## The buffers -/

abbrev xLoc (d : Dev nD) : Loc nD τ sig := (SparseCore.T d).loc main_arg0
abbrev lLoc (d : Dev nD) : Loc nD τ sig := (SparseCore.T d).loc main_arg1
abbrev tLoc (d : Dev nD) : Loc nD τ sig := (SparseCore.T d).loc main_arg2
abbrev oLoc (d : Dev nD) : Loc nD τ sig := (SparseCore.T d).loc main_v0

abbrev xM : Memref sig .scVector .hbm S16384x128 .f32 := Memref.whole main_arg0_scv
abbrev lM : Memref sig .scVector .hbm S16384 .i32 := Memref.whole main_arg1_scv
abbrev tM : Memref sig .scVector .hbm S100000x128 .f32 := Memref.whole main_arg2_scv
abbrev oM : Memref sig .scVector .hbm S16384 .f32 := Memref.whole main_v0_scv
abbrev iV : Memref sig .scVector .vmem S4x128 .i32 := Memref.whole cc0_scratch0
abbrev cV : Memref sig .scVector .vmem S128x128 .f32 := Memref.whole cc0_scratch1
abbrev xV : Memref sig .scVector .vmem S128x128 .f32 := Memref.whole cc0_scratch2
abbrev dV : Memref sig .scVector .vmem S512 .f32 := Memref.whole cc0_scratch3

/-- The SparseCore and the tile of a grid point, and its thread. -/
abbrev cT (L : grid0.Coords) : Fin τ.nSC := (L 0).castLE hcore0
abbrev jT (L : grid0.Coords) : Fin τ.nSub := (L 1).castLE hsub0
abbrev thr (d : Dev nD) (L : grid0.Coords) : Thread nD τ := V d (cT L) (jT L)

end Cert.Proof.Setup

end
-- ==== Proof.Step.lean ====
/- One group of sixteen rows at a symbolic chunk and group: a feature's step, a trip of the loop, the loop, the store of
   its sums. What is computed is said by `part`: the sum of the squared differences of the first `n` features, added in
   order from zero. -/
module

public import proofs.«01_k».proof.Proof.Setup

@[expose] public section

noncomputable section

namespace Cert.Proof.Step

open Cert.KernelIdeal Cert.KernelIdeal.Gen Cert.Proof.Setup Cert.Proof.Body

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The values -/

/-- The squares of the first `n` differences of `a` and `b`, added in order from zero. -/
def part (a b : ℕ → F .f32) : ℕ → F .f32
  | 0 => FloatOps.ofBits .f32 0x00000000#32
  | n + 1 => FloatOps.addf (part a b n) (FloatOps.mulf (FloatOps.subf (a n) (b n)) (FloatOps.subf (a n) (b n)))

/-- The index of row `r`, column `n` of a block. -/
def at2 (r n : ℕ) : S128x128.Idx
  | ⟨0, _⟩ => ⟨r % 128, Nat.mod_lt _ (by decide)⟩
  | ⟨1, _⟩ => ⟨n % 128, Nat.mod_lt _ (by decide)⟩

/-- The sums of the sixteen rows of group `g` after `n` features, of the blocks `x` and `c`. -/
def sums (x c : FVec F S128x128 .f32) (g : Fin 8) (n : ℕ) : FVec F S16 .f32 := fun l =>
  part (fun k => x (at2 (16 * g.val + (l 0).val) k)) (fun k => c (at2 (16 * g.val + (l 0).val) k)) n

/-- The row of lane `l` of group `g`, as a word. -/
theorem rowsOf_toNat (g : Fin 8) (l : S16.Idx) : (rowsOf g l).toNat = 16 * g.val + (l 0).val := by
  have hl : (l 0).val < 16 := (l 0).isLt
  have hg := g.isLt
  simp only [rowsOf, addi, iota, broadcast, IntOp.addi, List.foldl_cons, List.foldl_nil, BitVec.toNat_add, BitVec.toNat_ofNat]
  omega

/-- A group's rows and a column below 128 are places of a block. -/
theorem inb_step (g : Fin 8) {n : ℕ} (hn : n < 128) : k0_chk1 (rowsOf g) (broadcast S16 (BitVec.ofNat 32 n)) := by
  have h : ∀ a x, ((![rowsOf g, broadcast S16 (BitVec.ofNat 32 n)] : Fin 2 → IVec S16 32) a x).toNat < S128x128.size a := by
    intro a x
    fin_cases a
    · have hx : (x 0).val < 16 := (x 0).isLt
      have := g.isLt
      show (rowsOf g x).toNat < 128
      rw [rowsOf_toNat]; omega
    · show (BitVec.ofNat 32 n).toNat < 128
      rw [BitVec.toNat_ofNat]; omega
  exact ⟨h, h⟩

/-- What the gather of a block at a group's rows and a column reads. -/
theorem loadIdx_rows (f : S128x128.Idx → F .f32) (g : Fin 8) {n : ℕ} (hn : n < 128)
    (h : ∀ a x, ((![rowsOf g, broadcast S16 (BitVec.ofNat 32 n)] : Fin 2 → IVec S16 32) a x).toNat < S128x128.size a) :
    loadIdx (s := S128x128) (t := S16) (F := F) (e := .f32) f ![rowsOf g, broadcast S16 (BitVec.ofNat 32 n)] h = fun l => f (at2 (16 * g.val + (l 0).val) n) := by
  funext l
  show f (idxAt _ h l) = _
  congr 1
  funext a
  have hx : (l 0).val < 16 := (l 0).isLt
  have := g.isLt
  match a with
  | ⟨0, _⟩ => exact Fin.ext (show (rowsOf g l).toNat = _ % 128 by rw [rowsOf_toNat]; omega)
  | ⟨1, _⟩ => exact Fin.ext (show (BitVec.ofNat 32 n).toNat = n % 128 by rw [BitVec.toNat_ofNat]; omega)

/-! ## The runs -/

local notation "𝕄" => MT nD τ sig (HIx 1) (Elt F) ℕ UU ℕ

section Run

variable (d : Dev nD) (L : grid0.Coords)
  (fx : Buf (Elt F) ((thr d L).loc cc0_scratch2)) (fc : Buf (Elt F) ((thr d L).loc cc0_scratch1))

/-- The two blocks held. -/
abbrev blk : sProp 𝕄 := iprop((xV.view.loc (thr d L) ↦{fullShare} fx) ∗ (cV.view.loc (thr d L) ↦{fullShare} fc))

/-- One feature's step: from the sums of `n` features to those of `n + 1`. -/
theorem step_wp (g : Fin 8) {n : ℕ} (hn : n < 128) {α : Type} (k : FVec F S16 .f32 → TP L α) (Q : α → sProp 𝕄) :
    iprop(blk d L fx fc ∗ (blk d L fx fc -∗ wp frame (wpE (defs₀ (F := F)) 𝒱₀ (thr d L) none) Set.univ (k (sums fx fc g (n + 1))) Q))
      ⊢ wp frame (wpE (defs₀ (F := F)) 𝒱₀ (thr d L) none) Set.univ
          (step L cV xV (rowsOf g) (BitVec.ofNat 32 n) (sums fx fc g n) >>= k) Q := by
  unfold step
  simp only [bind_assoc, Prog.lift, Prog.bind_op, Prog.bind_ret, pure_bind]
  rw [wp_assume_of 𝒱₀ (thr d L) none Set.univ (inb_step g hn)]
  iintro ⟨⟨Hx, Hc⟩, Hk⟩
  iapply (SparseCore.wp_vectorLoadIdx 𝒱₀ (thr d L) none Set.univ (base := xV) (Finset.subset_univ _)) $$ Hx
  iintro Hx
  iapply (SparseCore.wp_vectorLoadIdx 𝒱₀ (thr d L) none Set.univ (base := cV) (Finset.subset_univ _)) $$ Hc
  iintro Hc
  rw [show View.read (Elt F) (xV.access (Rect.whole S128x128)) fx = fx from Memref.read_access_whole (Elt F) cc0_scratch2 fx,
    show View.read (Elt F) (cV.access (Rect.whole S128x128)) fc = fc from Memref.read_access_whole (Elt F) cc0_scratch1 fc,
    loadIdx_rows _ g hn, loadIdx_rows _ g hn]
  iapply Hk
  isplitl [Hx]
  · iexact Hx
  · iexact Hc

/-- A feature of trip `t`, as a word: the printed sum is the feature's number. -/
theorem col_eq {t u : ℕ} (ht : t < 16) (hu : u < 8) :
    Scalar.addi (Scalar.muli (Scf.iv 0#32 1#32 t) 8#32) (BitVec.ofNat 32 u) = BitVec.ofNat 32 (8 * t + u) := by
  apply BitVec.eq_of_toNat_eq
  simp only [Scalar.addi, Scalar.muli, IntOp.addi, IntOp.muli, Scf.iv, BitVec.toNat_add, BitVec.toNat_mul, BitVec.toNat_ofNat]
  omega

/-- Steps in a row, the features `n`, `n + 1`, …: from the sums of `n` features to those of all. -/
theorem steps_wp (g : Fin 8) {t : ℕ} (ht : t < 16) {α : Type} (Q : α → sProp 𝕄) : ∀ (m u : ℕ) (_ : u + m ≤ 8) (k : FVec F S16 .f32 → TP L α),
    iprop(blk d L fx fc ∗ (blk d L fx fc -∗ wp frame (wpE (defs₀ (F := F)) 𝒱₀ (thr d L) none) Set.univ (k (sums fx fc g (8 * t + u + m))) Q))
      ⊢ wp frame (wpE (defs₀ (F := F)) 𝒱₀ (thr d L) none) Set.univ
          (((List.range' u m).map (BitVec.ofNat 32)).foldlM (fun acc u => step L cV xV (rowsOf g) (Scalar.addi (Scalar.muli (Scf.iv 0#32 1#32 t) 8#32) u) acc)
            (sums fx fc g (8 * t + u)) >>= k) Q
  | 0, u, _, k => by
    simp only [List.range'_zero, List.map_nil, List.foldlM_nil, pure_bind, Nat.add_zero]
    iintro ⟨Hb, Hk⟩
    iapply Hk; iexact Hb
  | m + 1, u, hu, k => by
    simp only [List.range'_succ, List.map_cons, List.foldlM_cons, bind_assoc]
    rw [col_eq ht (by omega)]
    refine BIBase.Entails.trans ?_ (step_wp d L fx fc g (by omega) _ Q)
    have ih := steps_wp g ht Q m (u + 1) (by omega) k
    rw [show 8 * t + (u + 1) + m = 8 * t + u + (m + 1) by omega, ← Nat.add_assoc] at ih
    iintro ⟨Hb, Hk⟩
    isplitl [Hb]; · iexact Hb
    iintro Hb
    iapply ih
    isplitl [Hb]; · iexact Hb
    iexact Hk

/-- A trip of the loop: eight more features. -/
theorem trip_wp (g : Fin 8) (t : Fin k0_t1_loop.trips) (Q : FVec F S16 .f32 → sProp 𝕄) :
    iprop(blk d L fx fc ∗ (blk d L fx fc -∗ Q (sums fx fc g (8 * (t.val + 1)))))
      ⊢ wp frame (wpE (defs₀ (F := F)) 𝒱₀ (thr d L) none) Set.univ (trip L cV xV (rowsOf g) t (sums fx fc g (8 * t.val))) Q := by
  have ht : t.val < 16 := t.isLt
  have h := steps_wp d L fx fc g ht Q 8 0 (by omega) pure
  rw [bind_pure] at h
  refine BIBase.Entails.trans ?_ h
  iintro ⟨Hb, Hk⟩
  isplitl [Hb]; · iexact Hb
  iintro Hb
  rw [wp_pure]
  imodintro
  iapply Hk; iexact Hb

/-- The results' scratch held, right up to the first `16 q` places: there it holds `val`. -/
def upTo (val : ℕ → F .f32) (q : ℕ) : sProp 𝕄 :=
  iprop(∃ f : Buf (Elt F) ((thr d L).loc cc0_scratch3), (dV.view.loc (thr d L) ↦{fullShare} f) ∗ ⌜∀ p : S512.Idx, (p 0).val < 16 * q → f p = val (p 0).val⌝)

/-- The sixteen places of group `g` of chunk `j` written: right up to them, the scratch is right up to the next. -/
theorem write_upTo (val : ℕ → F .f32) (j : Fin 4) (g : Fin 8) (f : Buf (Elt F) ((thr d L).loc cc0_scratch3)) (w : FVec F S16 .f32)
    (hf : ∀ p : S512.Idx, (p 0).val < 16 * (8 * j.val + g.val) → f p = val (p 0).val)
    (hw : ∀ l : S16.Idx, w l = val (16 * (8 * j.val + g.val) + (l 0).val)) (p : S512.Idx) (hp : (p 0).val < 16 * (8 * j.val + g.val + 1)) :
    (dV.access (Rect.unit (s := S512) ![16 * (8 * j.val + g.val)] S16.size (inb_group j g))).write (Elt F) f w Finset.univ p = val (p 0).val := by
  have hr : ∀ f' : Buf (Elt F) ((thr d L).loc cc0_scratch3), dV.view.read (Elt F) f' = f' := fun f' => View.read_whole cc0_scratch3 f'
  show dV.view.writes (Elt F) f [⟨Rect.unit (s := S512) ![16 * (8 * j.val + g.val)] S16.size (inb_group j g), w⟩] p = _
  rw [← hr (dV.view.writes (Elt F) f _)]
  by_cases h : (p 0).val < 16 * (8 * j.val + g.val)
  · rw [View.read_writes_cons_miss_of_axis dV.view f _ [] p 0 (16 * (8 * j.val + g.val)) 16 rfl rfl rfl (.inl h)]
    show dV.view.read (Elt F) f p = _
    rw [hr]; exact hf p h
  · have hl : (p 0).val - 16 * (8 * j.val + g.val) < 16 := by omega
    refine (View.read_writes_cons_hit_of_coords dV.view f (Rect.unit (s := S512) ![16 * (8 * j.val + g.val)] S16.size (inb_group j g)) w []
      (fun | ⟨0, _⟩ => ⟨(p 0).val - 16 * (8 * j.val + g.val), hl⟩) p ?_).trans ?_
    rotate_left
    · refine (hw _).trans ?_
      congr 1
      show 16 * (8 * j.val + g.val) + ((p 0).val - 16 * (8 * j.val + g.val)) = _
      omega
    · intro a
      match a with
      | ⟨0, _⟩ =>
        show (p 0).val = 16 * (8 * j.val + g.val) + 1 * ((p 0).val - 16 * (8 * j.val + g.val))
        omega

/-- Group `g` of chunk `j`: the scratch right up to the group's places is right up to the next group's. -/
theorem group_wp (val : ℕ → F .f32) (j : Fin 4) (g : Fin 8)
    (hval : ∀ l : S16.Idx, sums fx fc g 128 l = val (16 * (8 * j.val + g.val) + (l 0).val)) {α : Type} (k : PUnit → TP L α) (Q : α → sProp 𝕄) :
    iprop(blk d L fx fc ∗ upTo d L val (8 * j.val + g.val)
        ∗ (blk d L fx fc ∗ upTo d L val (8 * j.val + g.val + 1) -∗ wp frame (wpE (defs₀ (F := F)) 𝒱₀ (thr d L) none) Set.univ (k ⟨⟩) Q))
      ⊢ wp frame (wpE (defs₀ (F := F)) 𝒱₀ (thr d L) none) Set.univ (group L cV xV dV j g >>= k) Q := by
  unfold group upTo
  simp only [bind_assoc, Prog.lift, Prog.bind_op, Prog.bind_ret]
  iintro ⟨Hb, ⟨%f, Hd, %hf⟩, Hk⟩
  iapply (Scf.wp_for_bind frame (wpE (defs₀ (F := F)) 𝒱₀ (thr d L) none) Set.univ k0_t1_loop.lb k0_t1_loop.ub k0_t1_loop.st k0_t1_ok
    (broadcast S16 (Scalar.ofBits .f32 0x00000000#32)) (trip L cV xV (rowsOf g))
    (fun n acc => iprop(blk d L fx fc ∗ ⌜acc = sums fx fc g (8 * n)⌝)) (by
      rintro t acc
      iintro ⟨Hb, %he⟩
      subst he
      iapply (trip_wp d L fx fc g t)
      isplitl [Hb]; · iexact Hb
      iintro Hb
      isplitl [Hb]; · iexact Hb
      ipureintro; rfl)) $$ [Hb]
  · isplitl [Hb]; · iexact Hb
    ipureintro; rfl
  iintro %acc ⟨Hb, %he⟩
  subst he
  iapply (wp_load 𝒱₀ (thr d L) none Set.univ (m := dV) (Finset.subset_univ _)) $$ Hd
  iintro Hd
  iapply (wp_store 𝒱₀ (thr d L) none Set.univ (m := dV) (r := Rect.unit (s := S512) ![16 * (8 * j.val + g.val)] S16.size (inb_group j g)) (Finset.subset_univ _)) $$ Hd
  iintro Hd
  iapply Hk
  isplitl [Hb]; · iexact Hb
  iexists _
  isplitl [Hd]; · iexact Hd
  ipureintro
  exact write_upTo d L val j g f _ hf hval

end Run

end Cert.Proof.Step

end
-- ==== Proof.Vals.lean ====
/- The tile's transfers at a symbolic chunk: what each of them reads and leaves. -/
module

public import proofs.«01_k».proof.Proof.Step
public import Idealize.ShloMosaic.Lib.Pointwise.Reshape

@[expose] public section

noncomputable section

namespace Cert.Proof.Vals

open Cert.KernelIdeal Cert.KernelIdeal.Gen Cert.Proof.Setup Cert.Proof.Body Cert.Proof.Step

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-- The first row of the tile at `L`. -/
def base : ℕ := 1024 * (L 1).val + 512 * (L 0).val

/-- The index of the `n`-th place of a vector of 16384. -/
def at1 (n : ℕ) : S16384.Idx
  | ⟨0, _⟩ => ⟨n % 16384, Nat.mod_lt _ (by decide)⟩

/-- What the thread owes, its waits grown only by its own transfers'. -/
def owesOk (O : CellTallies nD τ sig (HIx 1)) (W : Waits sig (HIx 1)) : sProp 𝕄 :=
  iprop(∃ W', ⌜∀ p ∈ W', p ∈ W ∨ p.2 = none⌝ ∗ owes (thr d L) O W')

/-- The counter of one of the tile's transfer semaphores, at zero. -/
abbrev idle (sem : DmaSems sig S_) : sProp 𝕄 := semVal ((thr d L, .dma sem.sem) : GSem nD τ sig) 0

/-- A memref's whole buffer held by the tile at share `q`. -/
def hold {sp : Space} {s : Shape} {e : EltTy} (M : Memref sig .scVector sp s e) (q : PosShare TreeShare) (f : Buf (Elt F) (M.view.loc (thr d L))) : sProp 𝕄 :=
  M.view.loc (thr d L) ↦{q} f

variable (lb : Buf (Elt F) (lLoc d))

/-- The labels' scratch held, its first `j` rows the labels of the tile's first `j` chunks. -/
def rowsIn (j : ℕ) : sProp 𝕄 :=
  iprop(∃ f : Buf (Elt F) ((thr d L).loc cc0_scratch0), hold d L iV fullShare f
    ∗ ⌜∀ p : S4x128.Idx, (p 0).val < j → f p = lb (at1 (base L + 128 * (p 0).val + (p 1).val))⌝)

omit [FloatOps F] in
/-- What the labels' slice of chunk `j` reads. -/
theorem read_lSlice (j : Fin 4) (x : S128.Idx) : (lSlice L lM j).view.read (Elt F) lb x = lb (at1 (base L + 128 * j.val + (x 0).val)) := by
  show lb ((lSlice L lM j).view.emb x) = _
  congr 1
  funext a
  match a with
  | ⟨0, _⟩ =>
    apply Fin.ext
    show k0_off1 L (BitVec.ofNat 32 (128 * j.val)) 0 + 1 * (x 0).val = (base L + 128 * j.val + (x 0).val) % 16384
    have h0 : (L 0).val < 2 := (L 0).isLt
    have h1 : (L 1).val < 16 := (L 1).isLt
    have hx : (x 0).val < 128 := (x 0).isLt
    have hj := j.isLt
    rw [k0_off1_eq]
    show 1024 * (L 1).val + 512 * (L 0).val + 128 * j.val + 1 * (x 0).val = _
    unfold base
    omega

/-- The place of row `j` of the labels' scratch. -/
def at4 (j : Fin 4) (n : Fin 128) : S4x128.Idx
  | ⟨0, _⟩ => j
  | ⟨1, _⟩ => n

/-- Row `j` of the scratch, squeezed, is its places `(j, n)`. -/
theorem emb_lRow (j : Fin 4) (x : S128.Idx) : (lRow iV j).view.emb x = at4 j (x 0) := by
  let y : S1x128.Idx := fun | ⟨0, _⟩ => ⟨0, Nat.one_pos⟩ | ⟨1, _⟩ => x 0
  have e : Shape.reshapeEquiv squeezes_S1x128_S128.numel_eq x = y :=
    Shape.reshapeEquiv_eq_of_vals _ x y ((y 0).val * 128 + (y 1).val) (x 0).val (rowMajor_val2 y 128 rfl) (rowMajor_val1 x)
      (show 0 * 128 + (x 0).val = _ by omega)
  show (Rect.unit (s := S4x128) ![j.val, 0] S1x128.size (inb_row j)).emb (Shape.reshapeEquiv squeezes_S1x128_S128.numel_eq x) = _
  rw [e]
  funext a
  match a with
  | ⟨0, _⟩ => exact Fin.ext (show j.val + 1 * 0 = j.val by omega)
  | ⟨1, _⟩ => exact Fin.ext (show 0 + 1 * (x 0).val = (x 0).val by omega)

omit [FloatOps F] in
/-- A row written: the scratch right in its first `j` rows is right in its first `j + 1`. -/
theorem write_row (j : Fin 4) (f : Buf (Elt F) ((thr d L).loc cc0_scratch0)) (w : S128.Idx → Elt F .i32)
    (hf : ∀ p : S4x128.Idx, (p 0).val < j.val → f p = lb (at1 (base L + 128 * (p 0).val + (p 1).val)))
    (hw : ∀ x, w x = lb (at1 (base L + 128 * j.val + (x 0).val))) (p : S4x128.Idx) (hp : (p 0).val < j.val + 1) :
    (lRow iV j).view.write (Elt F) f w Finset.univ p = lb (at1 (base L + 128 * (p 0).val + (p 1).val)) := by
  by_cases h : (p 0).val < j.val
  · rw [View.write_of_not_mem, hf p h]
    intro hm
    obtain ⟨x, -, hx⟩ := Finset.mem_map.mp hm
    rw [← hx, emb_lRow] at h
    exact absurd h (Nat.lt_irrefl _)
  · have hj : (p 0) = j := Fin.ext (by omega)
    let x : S128.Idx := fun | ⟨0, _⟩ => p 1
    have e : (lRow iV j).view.emb x = p := by
      rw [emb_lRow]
      funext a
      match a with
      | ⟨0, _⟩ => exact hj.symm
      | ⟨1, _⟩ => rfl
    conv_lhs => rw [← e]
    rw [View.write_emb_of_mem _ _ (Finset.mem_univ x), hj]
    exact hw x

/-! ## The blocks -/

variable (xb : Buf (Elt F) (xLoc d)) (tb : Buf (Elt F) (tLoc d))

/-- The index of row `r`, column `n` of `x`, and of the table. -/
def atX (r n : ℕ) : S16384x128.Idx
  | ⟨0, _⟩ => ⟨r % 16384, Nat.mod_lt _ (by decide)⟩
  | ⟨1, _⟩ => ⟨n % 128, Nat.mod_lt _ (by decide)⟩
/-- An index of the table. -/
def atT (r n : ℕ) : S100000x128.Idx
  | ⟨0, _⟩ => ⟨r % 100000, Nat.mod_lt _ (by decide)⟩
  | ⟨1, _⟩ => ⟨n % 128, Nat.mod_lt _ (by decide)⟩

/-- The rows of `x` of chunk `j`, and the table's rows that chunk's labels name. -/
def xChunk (j : ℕ) : FVec F S128x128 .f32 := fun p => xb (atX (base L + 128 * j + (p 0).val) (p 1).val)
/-- The rows gathered for chunk `j`. -/
def cChunk (j : ℕ) : FVec F S128x128 .f32 := fun p => tb (atT (lb (at1 (base L + 128 * j + (p 0).val))).toNat (p 1).val)

/-- Where chunk `j` of the points begins. -/
theorem xOff_eq (j : Fin 4) : xOff L j = ![base L + 128 * j.val, 0] := by
  match j with
  | 0 => exact k0_off2_eq L
  | 1 => exact k0_off3_eq L
  | 2 => exact k0_off4_eq L
  | 3 => exact k0_off5_eq L

omit [FloatOps F] in
/-- What chunk `j`'s slice of `x` reads. -/
theorem read_xSlice (j : Fin 4) : (xSlice L xM j).view.read (Elt F) xb = xChunk d L xb j.val := by
  funext p
  show xb ((xSlice L xM j).view.emb p) = xb _
  congr 1
  have h0 : (L 0).val < 2 := (L 0).isLt
  have h1 : (L 1).val < 16 := (L 1).isLt
  have hp0 : (p 0).val < 128 := (p 0).isLt
  have hp1 : (p 1).val < 128 := (p 1).isLt
  have hj := j.isLt
  funext a
  match a with
  | ⟨0, _⟩ =>
    apply Fin.ext
    show xOff L j 0 + 1 * (p 0).val = (base L + 128 * j.val + (p 0).val) % 16384
    rw [xOff_eq]
    show base L + 128 * j.val + 1 * (p 0).val = _
    unfold base; omega
  | ⟨1, _⟩ =>
    apply Fin.ext
    show xOff L j 1 + 1 * (p 1).val = (p 1).val % 128
    rw [xOff_eq]
    show 0 + 1 * (p 1).val = _
    omega

/-- The index of the `n`-th place of a vector of 128. -/
def at0 (n : Fin 128) : S128.Idx
  | ⟨0, _⟩ => n

omit [FloatOps F] in
/-- The rows a list of 128 words names: entry `n` is the list's word at `n`. -/
theorem rows_val {z : ℕ} (w : S128.Idx → Elt F .i32) (hn : S128.numel = 128) (h : ∀ x, (w x).toNat < z) (n : Fin 128) :
    (SparseCore.rows (F := F) w hn h n).val = (w (at0 n)).toNat := by
  have e : S128.rowMajor.symm (n.cast hn.symm) = at0 n := by
    rw [Equiv.symm_apply_eq]
    exact Fin.ext (rowMajor_val1 (at0 n)).symm
  exact congrArg (fun x => (w x).toNat) e

omit [FloatOps F] in
/-- The gather of the table's rows `r`, at an index of the block. -/
theorem gather_at (r : Fin (S128x128.size gathers_S100000x128_S128x128.axis') → Fin (S100000x128.size gathers_S100000x128_S128x128.axis)) (p : S128x128.Idx) :
    SparseCore.gatherPayload gathers_S100000x128_S128x128 ((tAll tM).view.read (Elt F) tb) r p
      = tb (atT (r (p gathers_S100000x128_S128x128.axis')).val (p 1).val) := by
  have hp1 : (p 1).val < 128 := (p 1).isLt
  show tb ((tAll tM).view.emb (gathers_S100000x128_S128x128.idx r p)) = tb _
  congr 1
  funext a
  match a with
  | ⟨0, _⟩ =>
    apply Fin.ext
    show 0 + 1 * (gathers_S100000x128_S128x128.idx r p gathers_S100000x128_S128x128.axis).val = _ % 100000
    rw [Shape.Gathers.idx_axis, Nat.zero_add, Nat.one_mul]
    exact (Nat.mod_eq_of_lt (r _).isLt).symm
  | ⟨1, h⟩ =>
    apply Fin.ext
    show 0 + 1 * (gathers_S100000x128_S128x128.idx r p (1 : Fin 2)).val = (p 1).val % 128
    have e : (gathers_S100000x128_S128x128.idx r p (1 : Fin 2)).val = (p 1).val := by
      unfold Shape.Gathers.idx
      rw [dif_neg (by decide)]
      rfl
    rw [e]
    omega

omit [FloatOps F] in
/-- What the gather of the table at the labels of row `j` delivers. -/
theorem gather_eq (hlb : ∀ n, (lb n).toNat < 100000) (j : Fin 4) (f : Buf (Elt F) ((thr d L).loc cc0_scratch0))
    (hf : ∀ p : S4x128.Idx, (p 0).val < 4 → f p = lb (at1 (base L + 128 * (p 0).val + (p 1).val)))
    (hn : S128.numel = 128) (hin : ∀ x, ((lRow iV j).view.read (Elt F) f x).toNat < 100000) :
    SparseCore.gatherPayload gathers_S100000x128_S128x128 ((tAll tM).view.read (Elt F) tb)
        (SparseCore.rows (F := F) (o := 128) ((lRow iV j).view.read (Elt F) f) hn hin)
      = cChunk d L lb tb j.val := by
  funext p
  refine (gather_at d tb _ p).trans ?_
  have e : (SparseCore.rows (F := F) (o := 128) ((lRow iV j).view.read (Elt F) f) hn hin (p 0)).val
      = (lb (at1 (base L + 128 * j.val + (p 0).val))).toNat := by
    refine (rows_val _ hn hin (p 0)).trans ?_
    show (f ((lRow iV j).view.emb (at0 (p 0)))).toNat = _
    rw [emb_lRow, hf _ (by exact j.isLt)]
    rfl
  exact congrArg (fun n => tb (atT n (p 1).val)) e

omit [FloatOps F] in
/-- A store over the table's whole block leaves what was stored. -/
theorem writes_all (fc : Buf (Elt F) ((thr d L).loc cc0_scratch1)) (w : FVec F S128x128 .f32) :
    cV.view.writes (Elt F) fc [⟨Rect.whole S128x128, w⟩] = w :=
  Memref.write_access_whole_univ (Elt F) cc0_scratch1 fc w

/-! ## The result -/

/-- A partial sum depends on its terms only. -/
theorem part_congr {a a' b b' : ℕ → F .f32} (ha : ∀ k, a k = a' k) (hb : ∀ k, b k = b' k) (n : ℕ) : part a b n = part a' b' n := by
  rw [funext ha, funext hb]

/-- The squared distance of row `n` of `x` from the table's row that label `n` names, as the kernel sums it. -/
def resAt (n : ℕ) : F .f32 := part (fun k => xb (atX n k)) (fun k => tb (atT (lb (at1 n)).toNat k)) 128

/-- The kernel's result: the squared distances of all the rows. -/
def res : Buf (Elt F) (oLoc d) := fun p => resAt d lb xb tb (p 0).val

/-- A chunk's sums are the results of its rows. -/
theorem sums_chunk (j : Fin 4) (g : Fin 8) (l : S16.Idx) :
    sums (xChunk d L xb j.val) (cChunk d L lb tb j.val) g 128 l = resAt d lb xb tb (base L + (16 * (8 * j.val + g.val) + (l 0).val)) := by
  have hl : (l 0).val < 16 := (l 0).isLt
  have hg := g.isLt
  have hn : base L + 128 * j.val + (16 * g.val + (l 0).val) % 128 = base L + (16 * (8 * j.val + g.val) + (l 0).val) := by omega
  have hX : ∀ r k, atX r (k % 128) = atX r k := fun r k => by
    funext a
    match a with
    | ⟨0, _⟩ => rfl
    | ⟨1, _⟩ => exact Fin.ext (Nat.mod_mod k 128)
  have hT : ∀ r k, atT r (k % 128) = atT r k := fun r k => by
    funext a
    match a with
    | ⟨0, _⟩ => rfl
    | ⟨1, _⟩ => exact Fin.ext (Nat.mod_mod k 128)
  refine part_congr (fun k => ?_) (fun k => ?_) 128
  · show xb (atX (base L + 128 * j.val + (16 * g.val + (l 0).val) % 128) (k % 128)) = _
    rw [hn, hX]
  · show tb (atT (lb (at1 (base L + 128 * j.val + (16 * g.val + (l 0).val) % 128))).toNat (k % 128)) = _
    rw [hn, hT]

/-- The places of the result that the tile at `L` writes. -/
abbrev oSet : Finset S16384.Idx := (oSlice L oM).view.set

/-- The tile's results written over its places of the result's buffer leave there the result. -/
theorem write_oSlice (fo : Buf (Elt F) (oLoc d)) (w : FVec F S512 .f32) (hw : ∀ p : S512.Idx, w p = resAt d lb xb tb (base L + (p 0).val))
    (x : S16384.Idx) (hx : x ∈ oSet L) : (oSlice L oM).view.writes (Elt F) fo [⟨Rect.whole S512, w⟩] x = res d lb xb tb x := by
  obtain ⟨y, -, rfl⟩ := Finset.mem_map.mp hx
  have hwhole : ∀ z : S512.Idx, (Rect.whole S512).emb z = z := fun z => Rect.emb_whole_apply S512 z
  have hy : ((oSlice L oM).view.slice (Rect.whole S512)).emb y = (oSlice L oM).view.emb y :=
    congrArg (oSlice L oM).view.emb (hwhole y)
  have h := View.write_emb_of_mem (v := (oSlice L oM).view.slice (Rect.whole S512)) (Val := Elt F) fo w (M := Finset.univ) (x := y) (Finset.mem_univ y)
  rw [hy] at h
  refine (show _ = w y from h).trans ((hw y).trans ?_)
  have e : (((oSlice L oM).view.emb y) 0).val = base L + (y 0).val := by
    show k0_off6 L 0 + 1 * (y 0).val = _
    rw [k0_off6_eq]
    show 1024 * (L 1).val + 512 * (L 0).val + 1 * (y 0).val = _
    unfold base; omega
  exact congrArg (resAt d lb xb tb) e.symm

end Cert.Proof.Vals

end
-- ==== Proof.Move.lean ====
/- The tile's transfers at a symbolic chunk: the labels' fetch, the two blocks brought in, the results written out. -/
module

public import proofs.«01_k».proof.Proof.Vals

@[expose] public section

noncomputable section

namespace Cert.Proof.Move

open Cert.KernelIdeal Cert.KernelIdeal.Gen Cert.Proof.Setup Cert.Proof.Body Cert.Proof.Step Cert.Proof.Vals

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords) (lb : Buf (Elt F) (lLoc d)) (xb : Buf (Elt F) (xLoc d)) (tb : Buf (Elt F) (tLoc d))

variable (O : CellTallies nD τ sig (HIx 1)) (W : Waits sig (HIx 1))

set_option maxHeartbeats 1000000 in
/-- Chunk `j`'s labels fetched into row `j` of the scratch. -/
theorem fetch_wp (sem : DmaSems sig S_) (j : Fin 4) (q : PosShare TreeShare) {α : Type} (k : PUnit → TP L α) (Q : α → sProp 𝕄) :
    iprop(Transfers.MayWaits (thr d L) (default : HIx 1) O ∗ owesOk d L O W ∗ idle d L sem ∗ hold d L lM q lb ∗ rowsIn d L lb j.val
        ∗ (owesOk d L O W ∗ idle d L sem ∗ hold d L lM q lb ∗ rowsIn d L lb (j.val + 1)
            -∗ wp frame (wpE (defs₀ (F := F)) 𝒱₀ (thr d L) none) Set.univ (k ⟨⟩) Q))
      ⊢ wp frame (wpE (defs₀ (F := F)) 𝒱₀ (thr d L) none) Set.univ (fetch L lM iV sem j >>= k) Q := by
  unfold fetch
  simp only [bind_assoc, Prog.lift, Prog.bind_op, Prog.bind_ret]
  unfold owesOk rowsIn hold
  iintro ⟨#Hmw, ⟨%W', %hW', HO⟩, Hsem, Hl, ⟨%f, Hi, %hf⟩, Hk⟩
  sl_exec
  iapply Hk
  isplitl [HO]
  · iexists _
    isplitr; swap; · iexact HO
    ipureintro; intro p hp
    rcases Finset.mem_insert.mp hp with hp | hp
    · exact .inr (hp ▸ rfl)
    · exact hW' p hp
  isplitl [Hsem]; · iexact Hsem
  isplitl [Hl]; · iexact Hl
  iexists _
  isplitl [Hi]; · iexact Hi
  ipureintro
  exact write_row d L lb j f _ hf (read_lSlice d L lb j)

set_option maxHeartbeats 4000000 in
/-- Chunk `j`'s two blocks brought in. -/
theorem blocks_wp (hlb : ∀ n, (lb n).toNat < 100000) (gsem sem : DmaSems sig S_) (j : Fin 4) (qx qt : PosShare TreeShare) {α : Type} (k : PUnit → TP L α) (Q : α → sProp 𝕄) :
    iprop(Transfers.MayWaits (thr d L) (default : HIx 1) O ∗ owesOk d L O W ∗ idle d L gsem ∗ idle d L sem ∗ hold d L xM qx xb ∗ hold d L tM qt tb ∗ rowsIn d L lb 4
        ∗ (∃ fx, hold d L xV fullShare fx) ∗ (∃ fc, hold d L cV fullShare fc)
        ∗ (owesOk d L O W ∗ idle d L gsem ∗ idle d L sem ∗ hold d L xM qx xb ∗ hold d L tM qt tb ∗ rowsIn d L lb 4
            ∗ hold d L xV fullShare (xChunk d L xb j.val) ∗ hold d L cV fullShare (cChunk d L lb tb j.val)
            -∗ wp frame (wpE (defs₀ (F := F)) 𝒱₀ (thr d L) none) Set.univ (k ⟨⟩) Q))
      ⊢ wp frame (wpE (defs₀ (F := F)) 𝒱₀ (thr d L) none) Set.univ (blocks L xM tM iV cV (Memref.isWhole_whole _) xV (Memref.isWhole_whole _) gsem sem j >>= k) Q := by
  unfold blocks
  simp only [bind_assoc, Prog.lift, Prog.bind_op, Prog.bind_ret]
  unfold owesOk rowsIn hold
  iintro ⟨#Hmw, ⟨%W', %hW', HO⟩, Hgsem, Hsem, Hx, Ht, ⟨%f, Hi, %hf⟩, ⟨%fx, Hxv⟩, ⟨%fc, Hcv⟩, Hk⟩
  have hin : ∀ x, ((lRow iV j).view.read (Elt F) f x).toNat < S100000x128.size gathers_S100000x128_S128x128.axis := by
    intro x
    show (f ((lRow iV j).view.emb x)).toNat < 100000
    rw [emb_lRow, hf _ (by exact j.isLt)]
    exact hlb _
  sl_exec
  have ex : View.write (Elt F) xV.view fx (blocks_wp.sl.dma0 d L xb j) Finset.univ = xChunk d L xb j.val :=
    (View.write_whole_univ cc0_scratch2 _ _).trans (read_xSlice d L xb j)
  have eg : blocks_wp.sl.gather0 d L tb j f hin = cChunk d L lb tb j.val := gather_eq d L lb tb hlb j f hf _ hin
  rw [ex, eg, writes_all d L]
  iapply Hk
  isplitl [HO]
  · iexists _
    isplitr; swap; · iexact HO
    ipureintro; intro p hp
    rcases Finset.mem_insert.mp hp with hp | hp; · exact .inr (hp ▸ rfl)
    rcases Finset.mem_insert.mp hp with hp | hp; · exact .inr (hp ▸ rfl)
    exact hW' p hp
  isplitl [Hgsem]; · iexact Hgsem
  isplitl [Hsem]; · iexact Hsem
  isplitl [Hx]; · iexact Hx
  isplitl [Ht]; · iexact Ht
  isplitl [Hi]
  · iexists f
    isplitl [Hi]; · iexact Hi
    ipureintro; exact hf
  isplitl [Hxv] <;> iassumption

/-! ## A list of steps -/

/-- Steps run in order: what each step takes from `P j` to `P (j + 1)`, a list of consecutive ones takes from `P` at
    the first to `P` after the last. -/
theorem forM_wp {n : ℕ} (f : Fin n → TP L PUnit) (P : ℕ → sProp 𝕄) {α : Type}
    (hf : ∀ (j : Fin n) (k : PUnit → TP L α) (Q : α → sProp 𝕄),
      iprop(P j.val ∗ (P (j.val + 1) -∗ wp frame (wpE (defs₀ (F := F)) 𝒱₀ (thr d L) none) Set.univ (k ⟨⟩) Q))
        ⊢ wp frame (wpE (defs₀ (F := F)) 𝒱₀ (thr d L) none) Set.univ (f j >>= k) Q) :
    ∀ (l : List (Fin n)) (s : ℕ), l.map Fin.val = List.range' s l.length → ∀ (k : PUnit → TP L α) (Q : α → sProp 𝕄),
      iprop(P s ∗ (P (s + l.length) -∗ wp frame (wpE (defs₀ (F := F)) 𝒱₀ (thr d L) none) Set.univ (k ⟨⟩) Q))
        ⊢ wp frame (wpE (defs₀ (F := F)) 𝒱₀ (thr d L) none) Set.univ (l.forM f >>= k) Q
  | [], s, _, k, Q => by
    rw [List.forM_eq_forM, List.forM_nil, pure_bind]
    iintro ⟨HP, Hk⟩
    iapply Hk; iexact HP
  | j :: l, s, hl, k, Q => by
    rw [List.forM_eq_forM, List.forM_cons, bind_assoc]
    rw [List.map_cons, List.length_cons, List.range'_succ, List.cons.injEq] at hl
    obtain ⟨rfl, hl⟩ := hl
    iintro ⟨HP, Hk⟩
    iapply (hf j)
    isplitl [HP]; · iexact HP
    iintro HP
    have ih := forM_wp f P hf l (j.val + 1) hl k Q
    rw [List.forM_eq_forM] at ih
    iapply ih
    isplitl [HP]; · iexact HP
    rw [List.length_cons, Nat.add_assoc, Nat.add_comm 1]
    iexact Hk

/-! ## The chunks and the write-out -/

/-- The tile's results: what its place `p` of the results' scratch is to hold. -/
def val (p : ℕ) : F .f32 := resAt d lb xb tb (base L + p)

/-- The groups of chunk `j`, its blocks in place. -/
theorem groups_wp (j : Fin 4) {α : Type} (k : PUnit → TP L α) (Q : α → sProp 𝕄) :
    iprop((blk d L (xChunk d L xb j.val) (cChunk d L lb tb j.val) ∗ upTo d L (val d L lb xb tb) (8 * j.val))
        ∗ (blk d L (xChunk d L xb j.val) (cChunk d L lb tb j.val) ∗ upTo d L (val d L lb xb tb) (8 * (j.val + 1))
            -∗ wp frame (wpE (defs₀ (F := F)) 𝒱₀ (thr d L) none) Set.univ (k ⟨⟩) Q))
      ⊢ wp frame (wpE (defs₀ (F := F)) 𝒱₀ (thr d L) none) Set.univ (groups L cV xV dV j >>= k) Q :=
  forM_wp d L (fun g => group L cV xV dV j g)
    (fun g => iprop(blk d L (xChunk d L xb j.val) (cChunk d L lb tb j.val) ∗ upTo d L (val d L lb xb tb) (8 * j.val + g)))
    (fun g k Q => by
      iintro ⟨⟨Hb, Hu⟩, Hk⟩
      iapply (group_wp d L (xChunk d L xb j.val) (cChunk d L lb tb j.val) (val d L lb xb tb) j g (fun l => sums_chunk d L lb xb tb j g l))
      isplitl [Hb]; · iexact Hb
      isplitl [Hu]; · iexact Hu
      iexact Hk)
    [0, 1, 2, 3, 4, 5, 6, 7] 0 rfl k Q

/-- What the chunks keep: the inputs, the labels fetched, the scratches, the results up to chunk `j`. -/
def chunkSt (O : CellTallies nD τ sig (HIx 1)) (W : Waits sig (HIx 1)) (gsem : DmaSems sig S_) (qx qt : PosShare TreeShare) (j : ℕ) : sProp 𝕄 :=
  iprop(owesOk d L O W ∗ idle d L gsem ∗ hold d L xM qx xb ∗ hold d L tM qt tb ∗ rowsIn d L lb 4
    ∗ (∃ fx, hold d L xV fullShare fx) ∗ (∃ fc, hold d L cV fullShare fc) ∗ upTo d L (val d L lb xb tb) (8 * j))

/-- Chunk `j`: its blocks brought in, its groups summed. -/
theorem chunk_wp (hlb : ∀ n, (lb n).toNat < 100000) (gsem sem : DmaSems sig S_) (j : Fin 4) (qx qt : PosShare TreeShare) {α : Type} (k : PUnit → TP L α) (Q : α → sProp 𝕄) :
    iprop(Transfers.MayWaits (thr d L) (default : HIx 1) O ∗ (idle d L sem ∗ chunkSt d L lb xb tb O W gsem qx qt j.val)
        ∗ (idle d L sem ∗ chunkSt d L lb xb tb O W gsem qx qt (j.val + 1) -∗ wp frame (wpE (defs₀ (F := F)) 𝒱₀ (thr d L) none) Set.univ (k ⟨⟩) Q))
      ⊢ wp frame (wpE (defs₀ (F := F)) 𝒱₀ (thr d L) none) Set.univ
          (blocks L xM tM iV cV (Memref.isWhole_whole _) xV (Memref.isWhole_whole _) gsem sem j >>= fun _ => groups L cV xV dV j >>= k) Q := by
  unfold chunkSt
  iintro ⟨Hmw, ⟨Hsem, HO, Hgsem, Hx, Ht, Hi, Hxv, Hcv, Hu⟩, Hk⟩
  iapply (blocks_wp d L lb xb tb O W hlb gsem sem j qx qt)
  isplitl [Hmw]; · iexact Hmw
  isplitl [HO]; · iexact HO
  isplitl [Hgsem]; · iexact Hgsem
  isplitl [Hsem]; · iexact Hsem
  isplitl [Hx]; · iexact Hx
  isplitl [Ht]; · iexact Ht
  isplitl [Hi]; · iexact Hi
  isplitl [Hxv]; · iexact Hxv
  isplitl [Hcv]; · iexact Hcv
  iintro ⟨HO, Hgsem, Hsem, Hx, Ht, Hi, Hxv, Hcv⟩
  iapply (groups_wp d L lb xb tb j)
  isplitl [Hxv Hcv Hu]
  · isplitl [Hxv Hcv]
    · unfold blk hold
      isplitl [Hxv] <;> iassumption
    · iexact Hu
  iintro ⟨Hb, Hu⟩
  unfold blk
  icases Hb with ⟨Hxv, Hcv⟩
  iapply Hk
  isplitl [Hsem]; · iexact Hsem
  isplitl [HO]; · iexact HO
  isplitl [Hgsem]; · iexact Hgsem
  isplitl [Hx]; · iexact Hx
  isplitl [Ht]; · iexact Ht
  isplitl [Hi]; · iexact Hi
  isplitl [Hxv]; · iexists _; unfold hold; iexact Hxv
  isplitl [Hcv]; · iexists _; unfold hold; iexact Hcv
  iexact Hu

/-- The tile's places of the result's buffer, held at `f`. -/
def out (f : Buf (Elt F) (oLoc d)) : sProp 𝕄 := (oSlice L oM).view.loc (thr d L) ↦[(oSlice L oM).view.set]{fullShare} f

set_option maxHeartbeats 1000000 in
/-- The results written out: the tile's places of the result's buffer hold the result. -/
theorem flush_wp (sem : DmaSems sig S_) (fo : Buf (Elt F) (oLoc d)) {α : Type} (k : PUnit → TP L α) (Q : α → sProp 𝕄) :
    iprop(Transfers.MayWaits (thr d L) (default : HIx 1) O ∗ owesOk d L O W ∗ idle d L sem ∗ upTo d L (val d L lb xb tb) 32 ∗ out d L fo
        ∗ (owesOk d L O W ∗ idle d L sem ∗ upTo d L (val d L lb xb tb) 32 ∗ out d L (res d lb xb tb)
            -∗ wp frame (wpE (defs₀ (F := F)) 𝒱₀ (thr d L) none) Set.univ (k ⟨⟩) Q))
      ⊢ wp frame (wpE (defs₀ (F := F)) 𝒱₀ (thr d L) none) Set.univ (flush L oM dV (Memref.isWhole_whole _) sem >>= k) Q := by
  unfold flush
  simp only [bind_assoc, Prog.lift, Prog.bind_op, Prog.bind_ret]
  unfold owesOk upTo out
  iintro ⟨#Hmw, ⟨%W', %hW', HO⟩, Hsem, ⟨%f, Hd, %hf⟩, Ho, Hk⟩
  sl_exec
  have ho : ∀ x ∈ oSet L, (oSlice L oM).view.writes (Elt F) fo [⟨Rect.whole S512, flush_wp.sl.dma0 d L f⟩] x = res d lb xb tb x :=
    write_oSlice d L lb xb tb fo _ fun p => (congrFun (View.read_whole cc0_scratch3 f) p).trans (hf p (show (p 0).val < 512 from (p 0).isLt))
  ihave Ho' := (Entails.of_eq (pointsTo_congr (q := fullShare) ho)) $$ Ho
  iapply Hk
  isplitl [HO]
  · iexists _
    isplitr; swap; · iexact HO
    ipureintro; intro p hp
    rcases Finset.mem_insert.mp hp with hp | hp
    · exact .inr (hp ▸ rfl)
    · exact hW' p hp
  isplitl [Hsem]; · iexact Hsem
  isplitl [Hd]
  · iexists f
    isplitl [Hd]; · iexact Hd
    ipureintro; exact hf
  iexact Ho'

end Cert.Proof.Move

end
-- ==== Proof.Tile.lean ====
/- The tile's task: the body at a symbolic SparseCore and tile, from the tile's buffers and semaphores back to them. -/
module

public import proofs.«01_k».proof.Proof.Move

@[expose] public section

noncomputable section

namespace Cert.Proof.Tile

open Cert.KernelIdeal Cert.KernelIdeal.Gen Cert.Proof.Setup Cert.Proof.Body Cert.Proof.Step Cert.Proof.Vals Cert.Proof.Move

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-! ## The tile's semaphores -/

/-- The semaphores of the labels' fetches and of the chunks' copies of `x`. -/
def ls : Fin 4 → DmaSems sig S_ := fun | 0 => cc0_scoped0 | 1 => cc0_scoped1 | 2 => cc0_scoped2 | 3 => cc0_scoped3
/-- The semaphores of the copies of points. -/
def xs : Fin 4 → DmaSems sig S_ := fun | 0 => cc0_scoped4 | 1 => cc0_scoped5 | 2 => cc0_scoped6 | 3 => cc0_scoped7

/-- All the transfer semaphores the task uses. -/
def sems : Fin 2 ⊕ (Fin 4 ⊕ Fin 4) → SemLoc sig
  | .inl 0 => .dma cc0_scratch4.sem
  | .inl 1 => .dma cc0_scoped8.sem
  | .inr (.inl j) => .dma (ls j).sem
  | .inr (.inr j) => .dma (xs j).sem

/-- The semaphores of a tile are distinct. -/
theorem sems_inj : Function.Injective sems := by decide
/-- Each is the tile's own. -/
theorem sems_scoped : ∀ i, (sems i).isScoped .scVector = true := by decide

/-- The tile's cells of those semaphores. -/
def cells : Finset (GSem nD τ sig) := Finset.univ.image fun i => (thr d L, sems i)

/-- Their cells are among the tile's own. -/
theorem cells_sub : cells d L ⊆ ownCells (thr d L) := fun g hg => by
  obtain ⟨i, -, rfl⟩ := Finset.mem_image.mp hg
  exact mem_ownCells.mpr ⟨rfl, sems_scoped i⟩

omit [FloatOps F] in
/-- The tile's own semaphores at zero: the task's, and the rest. -/
theorem ownSems0_V :
    (ownSems0 (thr d L) : sProp 𝕄)
      = iprop(((idle d L cc0_scratch4 ∗ idle d L cc0_scoped8)
          ∗ (bigSep Finset.univ fun j => idle d L (ls j)) ∗ bigSep Finset.univ fun j => idle d L (xs j))
        ∗ bigSep (ownCells (thr d L) \ cells d L) fun g => semVal g 0) := by
  have hinj : Set.InjOn (fun i => ((thr d L, sems i) : GSem nD τ sig)) (Finset.univ : Finset (Fin 2 ⊕ (Fin 4 ⊕ Fin 4))) :=
    fun i _ j _ h => sems_inj (Prod.ext_iff.mp h).2
  have hsplit : ∀ Φ : Fin 2 ⊕ (Fin 4 ⊕ Fin 4) → sProp 𝕄, bigSep Finset.univ Φ
      = iprop((Φ (.inl 0) ∗ Φ (.inl 1)) ∗ (bigSep Finset.univ fun j => Φ (.inr (.inl j))) ∗ bigSep Finset.univ fun j => Φ (.inr (.inr j))) := fun Φ => by
    rw [BI.bigSep_univ_sum, BI.bigSep_univ_sum, BI.bigSep_fin_two]; rfl
  refine (SparseCore.bigSep_sdiff_split' (cells_sub d L)).trans ?_
  exact congrArg (fun A : sProp 𝕄 => iprop(A ∗ bigSep (ownCells (thr d L) \ cells d L) fun g => semVal g 0))
    ((SparseCore.bigSep_image_of_injOn hinj _).trans (hsplit _))

omit [FloatOps F] in
/-- The tile's own buffers: the four scratches at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cT L) (jT L))).erase ((Proc.scVector (cT L) (jT L)).devRef cc0_scratch0)).erase
              ((Proc.scVector (cT L) (jT L)).devRef cc0_scratch1)).erase ((Proc.scVector (cT L) (jT L)).devRef cc0_scratch2)).erase
              ((Proc.scVector (cT L) (jT L)).devRef cc0_scratch3))
              fun b => iprop(∃ f, ((d, b) : Loc nD τ sig) ↦{fullShare} f)) := by
  have hne : ∀ b b' : Ref sig .scVector, b ≠ b' → (Proc.scVector (τ := τ) (cT L) (jT L)).devRef b ≠ (Proc.scVector (cT L) (jT L)).devRef b' :=
    fun b b' h e => h (Proc.devRef_injective _ e)
  have hm : ∀ b : Ref sig .scVector, ((Proc.scVector (cT L) (jT L)).devRef b).owner = .proc (.scVector (cT L) (jT L)) →
      (Proc.scVector (cT L) (jT L)).devRef b ∈ ownRefs (τ := τ) (.scVector (cT L) (jT L)) :=
    fun b h => SparseCore.Cfg.mem_ownRefs_of_owner (p := Proc.scVector (cT L) (jT L)) (b := (Proc.scVector (cT L) (jT L)).devRef b) h
  unfold SparseCore.Cfg.ownBufs
  refine (SparseCore.bigSep_erase' (hm cc0_scratch0 rfl)).trans ?_
  rw [SparseCore.bigSep_erase' (Finset.mem_erase.mpr ⟨hne cc0_scratch1 cc0_scratch0 (by decide), hm cc0_scratch1 rfl⟩),
    SparseCore.bigSep_erase' (Finset.mem_erase.mpr ⟨hne cc0_scratch2 cc0_scratch1 (by decide), Finset.mem_erase.mpr ⟨hne cc0_scratch2 cc0_scratch0 (by decide), hm cc0_scratch2 rfl⟩⟩),
    SparseCore.bigSep_erase' (Finset.mem_erase.mpr ⟨hne cc0_scratch3 cc0_scratch2 (by decide), Finset.mem_erase.mpr ⟨hne cc0_scratch3 cc0_scratch1 (by decide),
      Finset.mem_erase.mpr ⟨hne cc0_scratch3 cc0_scratch0 (by decide), hm cc0_scratch3 rfl⟩⟩⟩)]

/-! ## The two loops, over the family of their semaphores -/

variable (O : CellTallies nD τ sig (HIx 1)) (W : Waits sig (HIx 1))
variable (lb : Buf (Elt F) (lLoc d)) (xb : Buf (Elt F) (xLoc d)) (tb : Buf (Elt F) (tLoc d))

/-- The four fetches. -/
theorem fetches_wp (q : PosShare TreeShare) {α : Type} (k : PUnit → TP L α) (Q : α → sProp 𝕄) :
    iprop((Transfers.MayWaits (thr d L) (default : HIx 1) O ∗ owesOk d L O W ∗ (bigSep Finset.univ fun j => idle d L (ls j)) ∗ hold d L lM q lb ∗ rowsIn d L lb 0)
        ∗ ((Transfers.MayWaits (thr d L) (default : HIx 1) O ∗ owesOk d L O W ∗ (bigSep Finset.univ fun j => idle d L (ls j)) ∗ hold d L lM q lb ∗ rowsIn d L lb 4)
            -∗ wp frame (wpE (defs₀ (F := F)) 𝒱₀ (thr d L) none) Set.univ (k ⟨⟩) Q))
      ⊢ wp frame (wpE (defs₀ (F := F)) 𝒱₀ (thr d L) none) Set.univ (([0, 1, 2, 3].forM fun j => fetch L lM iV (ls j) j) >>= k) Q :=
  forM_wp d L (fun j => fetch L lM iV (ls j) j)
    (fun j => iprop(Transfers.MayWaits (thr d L) (default : HIx 1) O ∗ owesOk d L O W ∗ (bigSep Finset.univ fun j => idle d L (ls j)) ∗ hold d L lM q lb ∗ rowsIn d L lb j))
    (fun j k Q => by
      rw [SparseCore.bigSep_erase' (Finset.mem_univ j)]
      iintro ⟨⟨#Hmw, HO, ⟨Hs, Hss⟩, Hl, Hr⟩, Hk⟩
      iapply (fetch_wp d L lb O W (ls j) j q)
      isplitr; · iexact Hmw
      isplitl [HO]; · iexact HO
      isplitl [Hs]; · iexact Hs
      isplitl [Hl]; · iexact Hl
      isplitl [Hr]; · iexact Hr
      iintro ⟨HO, Hs, Hl, Hr⟩
      iapply Hk
      isplitr; · iexact Hmw
      isplitl [HO]; · iexact HO
      isplitl [Hs Hss]; · isplitl [Hs] <;> iassumption
      isplitl [Hl] <;> iassumption)
    [0, 1, 2, 3] 0 rfl k Q

/-- The four chunks. -/
theorem chunks_wp (hlb : ∀ n, (lb n).toNat < 100000) (gsem : DmaSems sig S_) (qx qt : PosShare TreeShare) {α : Type} (k : PUnit → TP L α) (Q : α → sProp 𝕄) :
    iprop((Transfers.MayWaits (thr d L) (default : HIx 1) O ∗ (bigSep Finset.univ fun j => idle d L (xs j)) ∗ chunkSt d L lb xb tb O W gsem qx qt 0)
        ∗ ((Transfers.MayWaits (thr d L) (default : HIx 1) O ∗ (bigSep Finset.univ fun j => idle d L (xs j)) ∗ chunkSt d L lb xb tb O W gsem qx qt 4)
            -∗ wp frame (wpE (defs₀ (F := F)) 𝒱₀ (thr d L) none) Set.univ (k ⟨⟩) Q))
      ⊢ wp frame (wpE (defs₀ (F := F)) 𝒱₀ (thr d L) none) Set.univ
          (([0, 1, 2, 3].forM fun j => do
            blocks L xM tM iV cV (Memref.isWhole_whole _) xV (Memref.isWhole_whole _) gsem (xs j) j
            groups L cV xV dV j) >>= k) Q :=
  forM_wp d L (fun j => do
      blocks L xM tM iV cV (Memref.isWhole_whole _) xV (Memref.isWhole_whole _) gsem (xs j) j
      groups L cV xV dV j)
    (fun j => iprop(Transfers.MayWaits (thr d L) (default : HIx 1) O ∗ (bigSep Finset.univ fun j => idle d L (xs j)) ∗ chunkSt d L lb xb tb O W gsem qx qt j))
    (fun j k Q => by
      rw [SparseCore.bigSep_erase' (Finset.mem_univ j), bind_assoc]
      iintro ⟨⟨#Hmw, ⟨Hs, Hss⟩, Hc⟩, Hk⟩
      iapply (chunk_wp d L lb xb tb O W hlb gsem (xs j) j qx qt)
      isplitr; · iexact Hmw
      isplitl [Hs Hc]; · isplitl [Hs] <;> iassumption
      iintro ⟨Hs, Hc⟩
      iapply Hk
      isplitr; · iexact Hmw
      isplitl [Hs Hss]; · isplitl [Hs] <;> iassumption
      iexact Hc)
    [0, 1, 2, 3] 0 rfl k Q

/-! ## The task -/

/-- What a task is handed of the arrays: shares of `x`, of the labels and of the table, and its places of the result at `fo`. -/
abbrev arr (qx ql qt : PosShare TreeShare) (fo : Buf (Elt F) (oLoc d)) : sProp 𝕄 :=
  iprop((xLoc d ↦{qx} xb) ∗ (lLoc d ↦{ql} lb) ∗ (tLoc d ↦{qt} tb) ∗ (oLoc d ↦[oSet L]{fullShare} fo))

/-- The task on vector subcore `(L 0, L 1)` of device `d`: its places of the result hold the result at the end. -/
theorem tile_body (hF : (K (F := F)).Facts) (hlb : ∀ n, (lb n).toNat < 100000) (hO : ∀ g, O g none = 0)
    (qx ql qt : PosShare TreeShare) (fo : Buf (Elt F) (oLoc d)) :
    iprop(levAts (K (F := F)).L (K (F := F)).lev ∗ emp ∗ arr d L lb xb tb qx ql qt fo
        ∗ scopedBufs (thr d L) ∗ scopedSems0 (thr d L) ∗ owes (thr d L) O W)
      ⊢ wp frame (wpE (defs₀ (F := F)) 𝒱₀ (thr d L) none) Set.univ
          (cc0__sc_body L xM (Memref.isWhole_whole _) lM (Memref.isWhole_whole _) tM (Memref.isWhole_whole _) oM (Memref.isWhole_whole _)
            iV (Memref.isWhole_whole _) cV (Memref.isWhole_whole _) xV (Memref.isWhole_whole _) dV (Memref.isWhole_whole _)
            cc0_scratch4 cc0_scoped0 cc0_scoped1 cc0_scoped2 cc0_scoped3 cc0_scoped4 cc0_scoped5 cc0_scoped6 cc0_scoped7 cc0_scoped8)
          fun _ => iprop(arr d L lb xb tb qx ql qt (res d lb xb tb)
            ∗ scopedBufs (thr d L) ∗ scopedSems0 (thr d L)
            ∗ ∃ W', ⌜∀ p ∈ W', p ∈ W ∨ p.2 = none⌝ ∗ owes (thr d L) O W') := by
  rw [body_eq]
  show _ ⊢ wp _ _ _ (([0, 1, 2, 3].forM fun j => fetch L lM iV (ls j) j) >>= fun _ =>
    ([0, 1, 2, 3].forM fun j => do
      blocks L xM tM iV cV (Memref.isWhole_whole _) xV (Memref.isWhole_whole _) cc0_scratch4 (xs j) j
      groups L cV xV dV j) >>= fun _ => flush L oM dV (Memref.isWhole_whole _) cc0_scoped8) _
  rw [(K (F := F)).scopedBufs_V hF d (cT L) (jT L), SparseCore.Cfg.scopedSems0_V (Val := Elt F) d (cT L) (jT L), ownSems0_V, ownBufs_V]
  iintro ⟨#Hlv, -, ⟨Hx, Hl, Ht, Ho⟩, ⟨⟨%fi, Hi⟩, Hcv, Hxv, ⟨%fd, Hd⟩, Hbufs⟩, ⟨⟨⟨Hg, Hos⟩, Hls, Hxs⟩, Hsems⟩, HO⟩
  ihave #Hmw := (show levAts (K (F := F)).L (K (F := F)).lev ⊢ Transfers.MayWaits (thr d L) (default : HIx 1) O from
    (K (F := F)).mayWaits_none (thr := thr d L) hO) $$ Hlv
  iapply (fetches_wp d L O W lb ql)
  isplitl [HO Hls Hl Hi]
  · isplitr; · iexact Hmw
    isplitl [HO]
    · unfold owesOk; iexists W
      isplitr; · ipureintro; exact fun p hp => .inl hp
      iexact HO
    isplitl [Hls]; · iexact Hls
    isplitl [Hl]; · unfold hold; iexact Hl
    unfold rowsIn hold; iexists fi
    isplitl [Hi]; · iexact Hi
    ipureintro; exact fun p hp => absurd hp (Nat.not_lt_zero _)
  iintro ⟨-, HO, Hls, Hl, Hi⟩
  iapply (chunks_wp d L O W lb xb tb hlb cc0_scratch4 qx qt)
  isplitl [HO Hxs Hg Hx Ht Hi Hxv Hcv Hd]
  · isplitr; · iexact Hmw
    isplitl [Hxs]; · iexact Hxs
    unfold chunkSt
    isplitl [HO]; · iexact HO
    isplitl [Hg]; · iexact Hg
    isplitl [Hx]; · unfold hold; iexact Hx
    isplitl [Ht]; · unfold hold; iexact Ht
    isplitl [Hi]; · iexact Hi
    isplitl [Hxv]; · unfold hold; iexact Hxv
    isplitl [Hcv]; · unfold hold; iexact Hcv
    unfold upTo; iexists fd
    isplitl [Hd]; · iexact Hd
    ipureintro; exact fun p hp => absurd hp (Nat.not_lt_zero _)
  unfold chunkSt
  iintro ⟨-, Hxs, HO, Hg, Hx, Ht, Hi, Hxv, Hcv, Hd⟩
  rw [← bind_pure (flush L oM dV (Memref.isWhole_whole _) cc0_scoped8)]
  iapply (flush_wp d L lb xb tb O W cc0_scoped8 fo)
  isplitr; · iexact Hmw
  isplitl [HO]; · iexact HO
  isplitl [Hos]; · iexact Hos
  isplitl [Hd]; · iexact Hd
  isplitl [Ho]; · unfold out; iexact Ho
  iintro ⟨HO, Hos, Hd, Ho⟩
  rw [wp_pure]
  imodintro
  unfold hold rowsIn upTo out owesOk
  isplitl [Hx Hl Ht Ho]
  · isplitl [Hx]; · iexact Hx
    isplitl [Hl]; · iexact Hl
    isplitl [Ht] <;> iassumption
  isplitl [Hi Hcv Hxv Hd Hbufs]
  · icases Hi with ⟨%f, Hi, -⟩
    icases Hd with ⟨%f', Hd, -⟩
    isplitl [Hi]; · iexists f; unfold hold; iexact Hi
    isplitl [Hcv]; · iexact Hcv
    isplitl [Hxv]; · iexact Hxv
    isplitl [Hd]; · iexists f'; iexact Hd
    iexact Hbufs
  isplitl [Hg Hos Hls Hxs Hsems]
  · isplitr [Hsems]; swap; · iexact Hsems
    isplitl [Hg Hos]; · isplitl [Hg] <;> iassumption
    isplitl [Hls] <;> iassumption
  iexact HO

end Cert.Proof.Tile

end
-- ==== Proof.Split.lean ====
/- The call's resources: what the cores and the tasks are handed, how the arrays split among them and join. -/
module

public import proofs.«01_k».proof.Proof.Tile

@[expose] public section

noncomputable section

namespace Cert.Proof.Split

open Cert.KernelIdeal Cert.KernelIdeal.Gen Cert.Proof.Setup Cert.Proof.Body Cert.Proof.Step Cert.Proof.Vals Cert.Proof.Move Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## The grid's points -/

/-- The grid point of core `c` and tile `i`. -/
def pt (c : Fin 2) (i : Fin 16) : grid0.Coords := fun | 0 => c | 1 => i | ⟨_ + 2, h⟩ => absurd h (Nat.not_lt.2 (Nat.le_add_left _ _))

/-- Where a tile's part of the result begins. -/
theorem base_pt (c : Fin 2) (i : Fin 16) : base (pt c i) = 1024 * i.val + 512 * c.val := rfl

/-- A tile's places of the result: 512 from its first row. -/
theorem mem_oSet (L : grid0.Coords) (x : S16384.Idx) : x ∈ oSet L ↔ base L ≤ (x 0).val ∧ (x 0).val < base L + 512 := by
  have hv : ∀ y : S512.Idx, (((oSlice L oM).view.emb y) 0).val = base L + (y 0).val := fun y => by
    show k0_off6 L 0 + 1 * (y 0).val = _
    rw [k0_off6_eq]
    show 1024 * (L 1).val + 512 * (L 0).val + 1 * (y 0).val = _
    unfold base; omega
  constructor
  · intro hx
    obtain ⟨y, -, rfl⟩ := Finset.mem_map.mp hx
    have hy : (y 0).val < 512 := (y 0).isLt
    rw [hv]; omega
  · rintro ⟨h1, h2⟩
    let y : S512.Idx := fun | ⟨0, _⟩ => ⟨(x 0).val - base L, by show _ < 512; omega⟩
    refine Finset.mem_map.mpr ⟨y, Finset.mem_univ y, ?_⟩
    funext a
    match a with
    | ⟨0, _⟩ =>
      apply Fin.ext
      refine (hv y).trans ?_
      show base L + ((x 0).val - base L) = (x 0).val
      omega

/-- A core's places of the result: its tiles'. -/
def cSet (c : Fin 2) : Finset S16384.Idx := Finset.univ.biUnion fun i => oSet (pt c i)

/-- The tiles of a SparseCore write apart. -/
theorem tiles_disjoint (c : Fin 2) : ∀ i ∈ (Finset.univ : Finset (Fin 16)), ∀ j ∈ (Finset.univ : Finset (Fin 16)), i ≠ j → Disjoint (oSet (pt c i)) (oSet (pt c j)) :=
  fun i _ j _ h => Finset.disjoint_left.mpr fun x hi hj => by
    have h1 := (mem_oSet _ x).mp hi
    have h2 := (mem_oSet _ x).mp hj
    rw [base_pt] at h1 h2
    exact h (Fin.ext (by omega))

/-- The two SparseCores write apart. -/
theorem cores_disjoint : ∀ c ∈ (Finset.univ : Finset (Fin 2)), ∀ c' ∈ (Finset.univ : Finset (Fin 2)), c ≠ c' → Disjoint (cSet c) (cSet c') :=
  fun c _ c' _ h => Finset.disjoint_left.mpr fun x hc hc' => by
    obtain ⟨i, -, hi⟩ := Finset.mem_biUnion.mp hc
    obtain ⟨j, -, hj⟩ := Finset.mem_biUnion.mp hc'
    have h1 := (mem_oSet _ x).mp hi
    have h2 := (mem_oSet _ x).mp hj
    rw [base_pt] at h1 h2
    have hc := c.isLt
    have hc' := c'.isLt
    exact h (Fin.ext (by omega))

/-- Together they write the whole result. -/
theorem cores_cover : (Finset.univ : Finset (Fin 2)).biUnion cSet = Finset.univ :=
  Finset.eq_univ_iff_forall.mpr fun x => by
    have hx : (x 0).val < 16384 := (x 0).isLt
    refine Finset.mem_biUnion.mpr ⟨⟨(x 0).val / 512 % 2, by omega⟩, Finset.mem_univ _, Finset.mem_biUnion.mpr ⟨⟨(x 0).val / 1024, by omega⟩, Finset.mem_univ _, ?_⟩⟩
    rw [mem_oSet, base_pt]
    show 1024 * ((x 0).val / 1024) + 512 * ((x 0).val / 512 % 2) ≤ _ ∧ _ < 1024 * ((x 0).val / 1024) + 512 * ((x 0).val / 512 % 2) + 512
    omega

/-! ## The shares of the arrays read -/

/-- A core's share of an array all the tasks read, and a task's. -/
def cq (c : Fin 2) : PosShare TreeShare := pieceOf fullShare 2 (by decide) c
/-- A tile's share of an array that all read. -/
def tq (c : Fin 2) (i : Fin 16) : PosShare TreeShare := pieceOf (cq c) 16 (by decide) i

/-- A whole array, as the two SparseCores' shares. -/
theorem whole_cores {ℓ : Loc nD τ sig} (f : Buf (Elt F) ℓ) : (ℓ ↦{fullShare} f : sProp 𝕄) = bigSep Finset.univ fun c => ℓ ↦{cq c} f :=
  pointsTo_piecesOf Finset.univ f (by decide) fullShare
/-- A SparseCore's share, as its tiles' shares. -/
theorem core_tiles {ℓ : Loc nD τ sig} (f : Buf (Elt F) ℓ) (c : Fin 2) : (ℓ ↦{cq c} f : sProp 𝕄) = bigSep Finset.univ fun i => ℓ ↦{tq c i} f :=
  pointsTo_piecesOf Finset.univ f (by decide) (cq c)

/-- The result, as the two SparseCores' parts. -/
theorem out_cores (d : Dev nD) (f : Buf (Elt F) (oLoc d)) : (oLoc d ↦{fullShare} f : sProp 𝕄) = bigSep Finset.univ fun c => oLoc d ↦[cSet c]{fullShare} f := by
  rw [← pointsTo_biUnion Finset.univ (ℓ := oLoc d) cSet cores_disjoint, cores_cover]
/-- A SparseCore's part of the result, as its tiles' parts. -/
theorem out_tiles (d : Dev nD) (f : Buf (Elt F) (oLoc d)) (c : Fin 2) :
    (oLoc d ↦[cSet c]{fullShare} f : sProp 𝕄) = bigSep Finset.univ fun i => oLoc d ↦[oSet (pt c i)]{fullShare} f :=
  pointsTo_biUnion Finset.univ (ℓ := oLoc d) _ (tiles_disjoint c)

/-! ## What the call carries -/

variable [FloatOps F] (m : (ℓ : Loc nD τ sig) → Buf (Elt F) ℓ)

/-- The result of device `d`, of the launch's memory. -/
abbrev resM (d : Dev nD) : Buf (Elt F) (oLoc d) := res d (m (lLoc d)) (m (xLoc d)) (m (tLoc d))

/-- The arrays of a call, of a core and of a task, the result at `f`. -/
abbrev callArr (d : Dev nD) (f : Buf (Elt F) (oLoc d)) : sProp 𝕄 :=
  iprop((xLoc d ↦{fullShare} m (xLoc d)) ∗ (lLoc d ↦{fullShare} m (lLoc d)) ∗ (tLoc d ↦{fullShare} m (tLoc d)) ∗ (oLoc d ↦{fullShare} f))
/-- What a SparseCore is handed: its shares of the arguments and its part of the result. -/
abbrev coreArr (d : Dev nD) (f : Buf (Elt F) (oLoc d)) (c : Fin 2) : sProp 𝕄 :=
  iprop((xLoc d ↦{cq c} m (xLoc d)) ∗ (lLoc d ↦{cq c} m (lLoc d)) ∗ (tLoc d ↦{cq c} m (tLoc d)) ∗ (oLoc d ↦[cSet c]{fullShare} f))
/-- What a tile is handed: its shares of the arguments and its part of the result. -/
abbrev taskArr (d : Dev nD) (f : Buf (Elt F) (oLoc d)) (c : Fin 2) (i : Fin 16) : sProp 𝕄 :=
  arr d (pt c i) (m (lLoc d)) (m (xLoc d)) (m (tLoc d)) (tq c i) (tq c i) (tq c i) f

omit [FloatOps F] in
/-- The call's arrays are its cores', and a core's its tasks'. -/
theorem call_cores (d : Dev nD) (f : Buf (Elt F) (oLoc d)) : callArr m d f = bigSep Finset.univ fun c => coreArr m d f c := by
  unfold callArr coreArr
  rw [whole_cores (m (xLoc d)), whole_cores (m (lLoc d)), whole_cores (m (tLoc d)), out_cores, bigSep_sep', bigSep_sep', bigSep_sep']

omit [FloatOps F] in
/-- What a SparseCore is handed is what its tiles are handed. -/
theorem core_tasks (d : Dev nD) (f : Buf (Elt F) (oLoc d)) (c : Fin 2) : coreArr m d f c = bigSep Finset.univ fun i => taskArr m d f c i := by
  unfold coreArr taskArr arr
  rw [core_tiles (m (xLoc d)), core_tiles (m (lLoc d)), core_tiles (m (tLoc d)), out_tiles, bigSep_sep', bigSep_sep', bigSep_sep']

/-- What the handshakes of the call carry: a core its arrays, a task its own; at the end the result's places at the result. -/
def P : (K (F := F)).Pay (nD := nD) (Val := Elt F) (Name := ℕ) (U := UU) where
  st := fun q d c => match q with | 0 => coreArr m d (m (oLoc d)) (Fin.cast nCore_zero c)
  dn := fun q d c => match q with | 0 => coreArr m d (resM m d) (Fin.cast nCore_zero c)
  go := fun q d c i => match q with | 0 => taskArr m d (m (oLoc d)) (Fin.cast nCore_zero c) (Fin.cast nSub_zero i)
  td := fun q d c i => match q with | 0 => taskArr m d (resM m d) (Fin.cast nCore_zero c) (Fin.cast nSub_zero i)
  x := fun _ _ => iprop(emp)

/-- What the launches hand over can be kept in the launches' invariant. -/
instance P_storable : (P (F := F) m).IsStorable where
  st q d c := match q with
    | 0 => (inferInstance : BI.Storable (upEmb : UEmb _ 𝕄) (coreArr m d (m (oLoc d)) (Fin.cast nCore_zero c)))
  dn q d c := match q with
    | 0 => (inferInstance : BI.Storable (upEmb : UEmb _ 𝕄) (coreArr m d (resM m d) (Fin.cast nCore_zero c)))
  go q d c i := match q with
    | 0 => (inferInstance : BI.Storable (upEmb : UEmb _ 𝕄) (taskArr m d (m (oLoc d)) (Fin.cast nCore_zero c) (Fin.cast nSub_zero i)))
  td q d c i := match q with
    | 0 => (inferInstance : BI.Storable (upEmb : UEmb _ 𝕄) (taskArr m d (resM m d) (Fin.cast nCore_zero c) (Fin.cast nSub_zero i)))

/-- What the launch's memory is asked: every label names a row of the table. -/
def PreOK : Prop := ∀ (d : Dev nD) n, (m (lLoc d) n).toNat < 100000

/-- The body a tile runs. -/
theorem defs₀_vector (c : Fin τ.nSC) (s : Fin τ.nSub) :
    defs₀ (F := F) (.scVector c s) 0 ()
      = SparseCore.onTile hcore0 hsub0 (fun c s => cc0__sc_body (pt c s)
          xM (Memref.isWhole_whole _) lM (Memref.isWhole_whole _) tM (Memref.isWhole_whole _) oM (Memref.isWhole_whole _)
          iV (Memref.isWhole_whole _) cV (Memref.isWhole_whole _) xV (Memref.isWhole_whole _) dV (Memref.isWhole_whole _)
          cc0_scratch4 cc0_scoped0 cc0_scoped1 cc0_scoped2 cc0_scoped3 cc0_scoped4 cc0_scoped5 cc0_scoped6 cc0_scoped7 cc0_scoped8) ⟨⟩ c s := rfl

omit [FloatOps F] in
/-- A task's waits are its transfers' own, hence within what the launch lets it record. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task meets its obligation. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (pt ⟨_, hci.1⟩ ⟨_, hci.2⟩) O W (m (lLoc d)) (m (xLoc d)) (m (tLoc d)) facts (hpre d) hO _ _ _ (m (oLoc d))).trans
    (wp_mono frame _ _ fun _ => obl_post)

/-- The tiles of the call are sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- The SparseCores of the call are two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's arrays split among its tasks and join. -/
theorem vecSplit : (K (F := F)).VecSplit' (P m) 0 := by
  intro d c
  show coreArr m d (m (oLoc d)) (Fin.cast nCore_zero c) ⊢ |={Set.univ}=> iprop(
      ((bigSep Finset.univ fun i : Fin ((K (F := F)).nSub 0) => taskArr m d (m (oLoc d)) (Fin.cast nCore_zero c) (Fin.cast nSub_zero i)) : sProp 𝕄)
      ∗ ((bigSep Finset.univ fun i : Fin ((K (F := F)).nSub 0) => taskArr m d (resM m d) (Fin.cast nCore_zero c) (Fin.cast nSub_zero i))
          -∗ coreArr m d (resM m d) (Fin.cast nCore_zero c)))
  rw [bigSep_tasks (F := F) (fun i => taskArr m d (m (oLoc d)) (Fin.cast nCore_zero c) i),
    bigSep_tasks (F := F) (fun i => taskArr m d (resM m d) (Fin.cast nCore_zero c) i), ← core_tasks, ← core_tasks]
  iintro H; imodintro
  isplitl [H]; · iexact H
  iintro H; iexact H

/-- What the call takes and what it gives back: the arrays, the result at the result. -/
theorem st0_eq (d : Dev nD) : (bigSep Finset.univ fun c : Fin ((K (F := F)).nCore 0) => (P m).st 0 d c) = callArr m d (m (oLoc d)) :=
  (bigSep_cores (F := F) fun c => coreArr m d (m (oLoc d)) c).trans (call_cores m d _).symm
/-- What the SparseCores give back together. -/
theorem dn0_eq (d : Dev nD) : (bigSep Finset.univ fun c : Fin ((K (F := F)).nCore 0) => (P m).dn 0 d c) = callArr m d (resM m d) :=
  (bigSep_cores (F := F) fun c => coreArr m d (resM m d) c).trans (call_cores m d _).symm

end Cert.Proof.Split

end
-- ==== Proof.Finish.lean ====
/- The TensorCore kernel that follows the call: it reads the 128 by 128 squared distances and writes the one mean. -/
module

public import proofs.«01_k».proof.Proof.Split
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Regions

@[expose] public section

noncomputable section

namespace Cert.Proof.Finish

open Cert.KernelIdeal Cert.KernelIdeal.Gen Cert.Proof.Setup

open Idealize.ShloMosaic Idealize.ShloMosaic.TcCoe Idealize.ShloMosaic.Tactic

open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The kernel's operand and its result. -/
abbrev aLoc (d : Dev nD) : Loc nD τ sig := (SparseCore.T d).loc main_v1
/-- The finishing body's result, on device `d`. -/
abbrev bLoc (d : Dev nD) : Loc nD τ sig := (SparseCore.T d).loc main_v2

variable (a : (d : Dev nD) → Buf (Elt F) (aLoc d)) (b : (d : Dev nD) → Buf (Elt F) (bLoc d))

/-- What the kernel leaves in its result. -/
def mean (d : Dev nD) : Buf (Elt F) (bLoc d) := k1_pay1 (a d)

/-- The waits the core may have recorded when it comes here: at or below the call's last level. -/
def seen (d : Dev nD) : Set (SemLoc sig × HIx 1) := {p | (K (F := F)).lev (SparseCore.T d, p.1) p.2 ≤ 8}

/-- The kernel's run: from its two windows' contents to the result's at the mean. -/
def dat (d : Dev nD) : Dat τ (Elt F) (HIx 1) ℕ UU ℕ cfg1 d where
  A w := match w with
    | ⟨0, _⟩ => a d
    | ⟨1, _⟩ => b d
  after w _ := match w with
    | ⟨0, _⟩ => a d
    | ⟨1, _⟩ => mean a d
  Φ _ := iprop(emp)
  q _ := fullShare
  owed _ := 0
  recorded _ := seen (F := F) d

/-- The pipeline is admissible. -/
abbrev adm : (p : Fin 1) → (pcfgs (F := F) p).Adm := fun p => (cfgs p).toPCfg_adm
/-- What the pipeline's run is stated with: the array it reads, the array it leaves, and its one step. -/
def pdats : (p : Fin 1) → (d : Dev nD) → Dat τ (Elt F) (HIx 1) ℕ UU ℕ (Pipeline.pin (pcfgs (F := F)) adm p) d
  | 0 => dat a b

/-- Each window's block is its whole array. -/
theorem read_in (f : main_v1.ty.Contents (Elt F)) : ((cfg1.win 0).blk t1_0).view.read (Elt F) f = f :=
  funext fun i => congrArg f (funext fun k => by
    apply Fin.ext
    match k with
    | ⟨0, _⟩ => show 0 * 128 + 1 * (i 0).val = (i 0).val; omega
    | ⟨1, _⟩ => show 0 * 128 + 1 * (i 1).val = (i 1).val; omega)
/-- The one window of the result is the whole of it. -/
theorem read_out (f : main_v2.ty.Contents (Elt F)) : ((cfg1.win 1).blk t1_0).view.read (Elt F) f = f :=
  funext fun i => congrArg f (funext fun k => by
    apply Fin.ext
    match k with
    | ⟨0, _⟩ => show 0 * 1 + 1 * (i 0).val = (i 0).val; omega
    | ⟨1, _⟩ => show 0 * 1 + 1 * (i 1).val = (i 1).val; omega)

/-- The operand's window holds the operand when the kernel runs. -/
theorem before_in (d : Dev nD) (f : (cfg1.win 0).block.Idx → Elt F (cfg1.win 0).elt) : (dat a b d).before 0 t1_0 f = a d := by
  unfold Dat.before; rw [if_pos (fetch1_0 _)]
  exact read_in (a d)

/-- The kernel, from its two windows' contents. -/
theorem finish_wp (d : Dev nD) (x : Buf (Elt F) ((SparseCore.T d).loc cc1_stg0_0)) (y : Buf (Elt F) ((SparseCore.T d).loc cc1_stg1_0)) (Q : PUnit → sProp 𝕄) :
    iprop(((SparseCore.T d).loc cc1_stg0_0 ↦{fullShare} x) ∗ ((SparseCore.T d).loc cc1_stg1_0 ↦{fullShare} y)
        ∗ (iprop(((SparseCore.T d).loc cc1_stg0_0 ↦{fullShare} x) ∗ ((SparseCore.T d).loc cc1_stg1_0 ↦{fullShare} (k1_pay1 x : FVec F S1x1 .f32))) -∗ Q ⟨⟩))
      ⊢ wp frame (wpE (defs₀ (F := F)) 𝒱₀ (SparseCore.T d) none) Set.univ (cc1__tc_finish (stage1_0 0) (hstage1_0 0) (stage1_1 0) (hstage1_1 0)) Q := by
  have hz : (![0, 0] : Fin 2 → Nat) = fun _ => 0 := funext fun a => by fin_cases a <;> rfl
  have hr0 : (Memref.whole cc1_stg0_0 : Memref sig .tc _ _ _).view.readAt (Elt F) (Rect.unit (s := S128x128) ![0, 0] S128x128.size
      inb_S128x128_S128x128_0_0).toLoadRect = id := funext (Memref.readAt_unit_zero (Elt F) cc1_stg0_0 hz _)
  have hw1 : ∀ f w, (((Memref.whole cc1_stg1_0).access (Rect.unit (s := S1x1) ![0, 0] S1x1.size inb_S1x1_S1x1_0_0)) :
      View sig .tc _ _ _).write (Elt F) f w Finset.univ = w := Memref.write_access_unit_zero_univ (Elt F) cc1_stg1_0 hz _
  rw [cc1__tc_finish_eq_skeleton]; unfold cc1__tc_finish_skel
  simp only [Prog.lift, Prog.bind_op, Prog.bind_ret]
  iintro ⟨H0, H1, Hk⟩
  sl_steps
  iapply Hk
  rw [hr0, hw1]
  isplitl [H0]; · iexact H0
  iexact H1

/-- The kernel meets its obligation. -/
theorem body_obligation (d : Dev nD) : BodyObligation (dat a b d) (defs₀ (F := F)) 𝒱₀ (none : HIx 1) Set.univ := fun t => by
  obtain rfl := fin_N1 t
  rw [bigSep_W1, bigSep_W1]
  simp only [owns_whole_eq]
  rw [show (dat a b d).Φ t1_0.castSucc = iprop(emp) from rfl, show (dat a b d).Φ t1_0.succ = iprop(emp) from rfl,
    show (dat a b d).owesAt none t1_0.succ = (dat a b d).owesAt none t1_0.castSucc from rfl]
  iintro ⟨-, Howes, ⟨%d0, %f0, %hf0, H0⟩, ⟨%d1, %f1, -, H1⟩⟩
  rw [before_in] at hf0
  subst hf0
  iapply (finish_wp d (a d) f1)
  isplitl [H0]; · iexact H0
  isplitl [H1]; · iexact H1
  iintro ⟨H0, H1⟩
  isplitr; · iempintro
  isplitl [Howes]; · iexact Howes
  isplitl [H0]; · iexists _; isplitr; swap; (· iexact H0); ipureintro; dsimp only [dat]
  iexists _; isplitr; swap; (· iexact H1); ipureintro; dsimp only [dat, mean]

/-- The arrays of the kernel are its operand and its result. -/
theorem arrays_eq (d : Dev nD) (f) : ((pdats (F := F) a b 0 d).arrays f : sProp 𝕄) = iprop((aLoc d ↦{fullShare} f 0) ∗ (bLoc d ↦{fullShare} f 1)) := by
  rw [Pipeline.arrays_eq (Pipeline.pin (pcfgs (F := F)) adm) (pdats a b) 0 d launch1.arr_whole ((pdats a b 0 d).share_full fun _ => rfl) f, bigSep_W1]
/-- No table is read ahead of the pipeline: nothing is held for one. -/
theorem prefHeld_eq (d : Dev nD) (q) (pf) :
    (Pipeline.prefHeld (Ix := HIx 1) (Name := ℕ) (U := UU) (Lvl := ℕ) (Val := Elt F) (pcfgs (F := F) 0).pre d q pf : sProp 𝕄) = iprop(emp) := by
  unfold Pipeline.prefHeld; rw [show (Finset.univ : Finset (Fin 0)) = ∅ from rfl]; exact BI.bigSep_empty

/-- The result's array ends at the mean. -/
theorem arr_out (d : Dev nD) : (pdats (F := F) a b 0 d).arrAt 1 (Pipeline.pin (pcfgs (F := F)) adm 0).N = mean a d := by
  show (dat a b d).arrAt 1 cfg1.N = mean a d
  rw [show cfg1.N = t1_0.val + 1 from rfl, (dat a b d).arrAt_succ (1 : Fin 2) t1_0, flush1_1, if_pos rfl]
  exact (read_out _).symm.trans (View.read_write_univ ..)
/-- The operand the pipeline ends with is the one it starts with. -/
theorem arr_in (d : Dev nD) : (pdats (F := F) a b 0 d).arrAt 0 (Pipeline.pin (pcfgs (F := F)) adm 0).N = a d :=
  (dat a b d).arrAt_in 0 rfl _

/-- What the core owes here: nothing, its waits among those it may have recorded. -/
def due (d : Dev nD) : sProp 𝕄 := iprop(∃ W, ⌜∀ p ∈ W, p ∈ seen (F := F) d⌝ ∗ owes (SparseCore.T d) (0 : CellTallies nD τ sig (HIx 1)) W)

/-- The kernel's region: from its operand and its result, to the result at the mean. -/
def reg : Pipeline.RegionSeg (pcfgs (F := F)) adm (pdats a b) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation a b c).loose
  hwaits := Pipeline.hwaits_of_owed_zero _ _ _ _ _ _ 0 fun _ _ => rfl
  pre d := iprop((aLoc d ↦{fullShare} a d) ∗ (bLoc d ↦{fullShare} b d) ∗ due d)
  post d := iprop((aLoc d ↦{fullShare} a d) ∗ (bLoc d ↦{fullShare} mean a d) ∗ due d)
  X _ := iprop(emp)
  Y _ := iprop(emp)
  Z _ := iprop(emp)
  hentry d := by
    rw [Pipeline.ownSems0_none, arrays_eq, prefHeld_eq]
    unfold due Pipeline.Dat.owesAt Pipeline.owesWithin
    iintro ⟨⟨Ha, Hb, ⟨%W, %hW, HO⟩⟩, -, -⟩
    imodintro
    isplitl [Ha Hb]
    · isplitl [Ha]; · iexact Ha
      iexact Hb
    isplitr; · iempintro
    isplitl [HO]
    · iexists W; isplitr; · ipureintro; exact fun p hp => Or.inl (hW p hp)
      iexact HO
    isplitr <;> iempintro
  hin d := by
    rw [show (pdats a b 0 d).Φ 0 = iprop(emp) from rfl]
    iintro -; iempintro
  hout d := by
    rw [Pipeline.ownSems0_none]
    refine BIBase.Entails.trans ?_ (sep_mono_right (sep_mono_right (Entails.of_eq (scopedRest1_eq d).symm)))
    iintro -
    isplitr; · iempintro
    isplitr <;> iempintro
  hexit d := by
    rw [arrays_eq, arr_in, arr_out]
    unfold due Pipeline.Dat.owesAt Pipeline.owesWithin
    iintro ⟨⟨Ha, Hb⟩, ⟨%W, %hW, HO⟩, -, -⟩
    imodintro
    isplitl [Ha]; · iexact Ha
    isplitl [Hb]; · iexact Hb
    iexists W; isplitr
    · ipureintro
      intro p hp
      rcases hW hp with h | ⟨w, s, h⟩
      · exact h
      · show (K (F := F)).lev (SparseCore.T d, p.1) p.2 ≤ _
        rw [h]; exact Nat.zero_le _
    · iexact HO

end Cert.Proof.Finish

end
-- ==== Proof.Run.lean ====
/- The program's run: the SparseCore call, the reshape, the TensorCore kernel, the reshape; what it leaves. -/
module

public import proofs.«01_k».proof.Proof.Finish
public import Idealize.ShloMosaic.Lib.SparseCore.Quiescent
public import Idealize.ShloMosaic.Lib.StableHlo.Run

@[expose] public section

noncomputable section

namespace Cert.Proof.Run

open Cert.KernelIdeal Cert.KernelIdeal.Gen Cert.Proof.Setup Cert.Proof.Vals Cert.Proof.Split Cert.Proof.Finish

open Idealize.ShloMosaic Idealize.ShloMosaic.TcCoe Idealize.ShloMosaic.Tactic
open Idealize.ShloMosaic.SparseCore.Cfg (HIx)
open Idealize.ShloMosaic.StableHlo (held wp_hlo_within)
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-! ## The values -/

/-- The program's result. -/
abbrev cLoc (d : Dev nD) : Loc nD τ sig := (SparseCore.T d).loc main_v3

/-- The call's result reshaped, and the mean reshaped: what the program leaves. -/
def square (d : Dev nD) : Buf (Elt F) (aLoc d) := shapeCast S128x128 (resM m d : Vec F S16384 .f32) shapeCasts_S16384_S128x128
/-- The value the program leaves, a scalar. -/
def final (d : Dev nD) : Buf (Elt F) (cLoc d) := shapeCast S_ (mean (square m) d : Vec F S1x1 .f32) shapeCasts_S1x1_S_

/-! ## A reshape -/

/-- Two buffers held whole, as a set held at a valuation. -/
theorem held_pair (d : Dev nD) (x y : Ref sig .tc) (hxy : x ≠ y) (V : Valuation τ sig (Elt F)) :
    (held (SparseCore.T d) {(x : DevRef τ sig), (y : DevRef τ sig)} V : sProp 𝕄)
      = iprop(((SparseCore.T d).loc x ↦{fullShare} V x) ∗ ((SparseCore.T d).loc y ↦{fullShare} V y)) := by
  unfold held
  rw [SparseCore.bigSep_insert' (by rw [Finset.mem_singleton]; exact StableHlo.devRef_ne_of_ne hxy), bigSep_singleton]

include m in
/-- A reshape: its operand kept, its result the operand's elements in order. -/
theorem reshape_wp (d : Dev nD) (x y : Ref sig .tc) (hxy : x ≠ y) (he : x.ty.elt = y.ty.elt) (hn : x.ty.shape.ShapeCasts y.ty.shape) (hx) (hy)
    (f : x.ty.Contents (Elt F)) (g : y.ty.Contents (Elt F)) (Q : PUnit → sProp 𝕄) :
    iprop(boundary (SparseCore.T d) ∗ ((SparseCore.T d).loc x ↦{fullShare} f) ∗ ((SparseCore.T d).loc y ↦{fullShare} g)
        ∗ (iprop(boundary (SparseCore.T d) ∗ ((SparseCore.T d).loc x ↦{fullShare} f)
            ∗ ((SparseCore.T d).loc y ↦{fullShare} ((fun i => he ▸ shapeCast y.ty.shape f hn i : y.ty.Contents (Elt F))))) -∗ Q ⟨⟩))
      ⊢ wp frame (wpE ((K (F := F)).defs (D (F := F))) 𝒱 (SparseCore.T d) none) Set.univ
          (hlo rfl (StableHlo.reshape x y he hn hx hy) (fun _ => .ret ⟨⟩)) Q := by
  let V : Valuation τ sig (Elt F) := Function.update (Function.update (fun b => m (d, b)) (x : DevRef τ sig) f) (y : DevRef τ sig) g
  have hVx : V x = f := (Function.update_of_ne (StableHlo.devRef_ne_of_ne hxy) _ _).trans (Function.update_self _ _ _)
  have hVy : V y = g := Function.update_self _ _ _
  iintro ⟨Hb, Hx, Hy, Hk⟩
  iapply (wp_hlo_within 𝒱 (SparseCore.T d) none Set.univ (op := StableHlo.reshape x y he hn hx hy) (S := {(x : DevRef τ sig), (y : DevRef τ sig)})
    (Finset.Subset.refl _) (V := V)) $$ [Hb Hx Hy]
  · isplitl [Hb]; · iexact Hb
    rw [held_pair d x y hxy, hVx, hVy]
    isplitl [Hx]; · iexact Hx
    iexact Hy
  iintro ⟨Hb, Hh⟩
  ihave Hh' := (Entails.of_eq (show (held (SparseCore.T d) {(x : DevRef τ sig), (y : DevRef τ sig)} ((StableHlo.reshape x y he hn hx hy).result V) : sProp 𝕄)
      = iprop(((SparseCore.T d).loc x ↦{fullShare} f) ∗ ((SparseCore.T d).loc y ↦{fullShare} (fun i => he ▸ shapeCast y.ty.shape f hn i : y.ty.Contents (Elt F)))) by
    rw [held_pair d x y hxy, StableHlo.reshape_result, StableHlo.reshape_result_ne x y he hn hx hy V hxy, hVx])) $$ Hh
  icases Hh' with ⟨Hx, Hy⟩
  rw [wp_ret]; imodintro
  iapply Hk
  isplitl [Hb]; · iexact Hb
  isplitl [Hx]; · iexact Hx
  iexact Hy

/-! ## The TensorCore kernel in the program -/

/-- The rounds the kernel's staging semaphores start with. -/
def ghost (d : Dev nD) : sProp 𝕄 :=
  iprop(Pipeline.cellsGhost (Pipeline.pin (pcfgs (F := F)) adm) EP 0 d ∗ Pipeline.toksInit (Pipeline.pin (pcfgs (F := F)) adm) EP 0 d)

/-- The finishing call: from the distances it leaves their clipped mean. -/
theorem region_wp [∀ e, Nonempty (Elt F e)] (d : Dev nD) (a : (d : Dev nD) → Buf (Elt F) (aLoc d)) (b : (d : Dev nD) → Buf (Elt F) (bLoc d)) (Q : PUnit → sProp 𝕄) :
    iprop((iprop(boundary (SparseCore.T d) ∗ (aLoc d ↦{fullShare} a d) ∗ (bLoc d ↦{fullShare} mean a d) ∗ due d) -∗ Q ⟨⟩)
        ∗ boundary (SparseCore.T d) ∗ ((aLoc d ↦{fullShare} a d) ∗ (bLoc d ↦{fullShare} b d) ∗ due d) ∗ levAts (K (F := F)).L (K (F := F)).lev ∗ ghost d)
      ⊢ wp frame (wpE ((K (F := F)).defs (D (F := F))) 𝒱 (SparseCore.T d) none) Set.univ
          (Prog.lift (.customCall (SparseCore.inner (Pipeline.entry 0)) ())) Q := by
  rw [show (Prog.lift (.customCall (SparseCore.inner (Pipeline.entry 0)) ()) : Prog (TpuEff nD τ sig (Elt F) (SparseCore.Sig ΛP 1) .tc) PUnit)
    = SparseCore.liftProg (Prog.lift (.customCall (Pipeline.entry 0) ()) : Prog (TpuEff nD τ sig (Elt F) ΛP .tc) PUnit) from rfl]
  refine BIBase.Entails.trans ?_ ((K (F := F)).wp_liftProg (D (F := F)) 𝒱 (SparseCore.T d) Set.univ none _ Q)
  refine BIBase.Entails.trans ?_ (Pipeline.RegionSeg.wp (pcfgs (F := F)) adm (pdats a b) none cellOf_inj EP defs₀ 𝒱₀ (K (F := F)).L (K (F := F)).lev (reg a b) d none
    (fun _ h => nomatch h) .ret Q)
  unfold ghost
  iintro ⟨Hk, H⟩
  isplitl [Hk]
  · iintro H
    rw [wp_ret]; imodintro
    iapply Hk; iexact H
  iexact H

/-! ## @main on the TensorCore -/

/-- The arrays a device holds from the start, one by one. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (lLoc d ↦{fullShare} W main_arg1) ∗ (tLoc d ↦{fullShare} W main_arg2)
      ∗ (oLoc d ↦{fullShare} W main_v0) ∗ (aLoc d ↦{fullShare} W main_v1) ∗ (bLoc d ↦{fullShare} W main_v2) ∗ (cLoc d ↦{fullShare} W main_v3)) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- What the program leaves: its arguments as they were, its result. -/
abbrev FIN (d : Dev nD) : sProp 𝕄 :=
  iprop((xLoc d ↦{fullShare} m (xLoc d)) ∗ (lLoc d ↦{fullShare} m (lLoc d)) ∗ (tLoc d ↦{fullShare} m (tLoc d)) ∗ (cLoc d ↦{fullShare} final m d))

/-- The core's state after the call is what the kernel asks of what it owes, and the rest. -/
theorem tcSt_due (d : Dev nD) : ∃ R : sProp 𝕄, (K (F := F)).tcSt EH d 1 = iprop(due d ∗ R) := by
  unfold SparseCore.Cfg.tcSt due
  rw [(K (F := F)).Otc_end d (le_refl 1)]
  exact ⟨_, rfl⟩

/-- The main thread's run: the call on the tiles, the reshaping, the finishing call, the reshaping to a scalar. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_due (F := F) d
  unfold SparseCore.Cfg.tcRes SparseCore.Cfg.tcEnd
  rw [unscopedBufs_eq]
  simp only [main, wp_bind, wp_pure]
  iintro ⟨#Hctx, Hst, ⟨Hb, ⟨Hx, Hl, Ht, Ho, Ha, Hm, Hc⟩, Hts, -⟩, Hg⟩
  ihave Hlev := (SparseCore.Cfg.ctx_levAts κ) $$ Hctx
  iapply ((K (F := F)).wp_run (D (F := F)) 𝒱 (EH := EH) (P := P m) κ d 0) $$ [Hst Hx Hl Ht Ho Ha Hm Hc Hb Hts Hg Hlev]
  isplitr; · iexact Hctx
  isplitl [Hst]; · iexact Hst
  isplitl [Hx Hl Ht Ho]
  · rw [st0_eq]
    isplitl [Hx]; · iexact Hx
    isplitl [Hl]; · iexact Hl
    isplitl [Ht]; · iexact Ht
    iexact Ho
  iintro ⟨Hst, Hdn⟩
  ihave Hdn' := (Entails.of_eq (dn0_eq m d)) $$ Hdn
  icases Hdn' with ⟨Hx, Hl, Ht, Ho⟩
  ihave Hst' := (Entails.of_eq (show (K (F := F)).tcSt EH d ((0 : Fin 1).val + 1) = _ from hR)) $$ Hst
  icases Hst' with ⟨Hdue, HR⟩
  iapply (reshape_wp m d main_v0 main_v1 (by decide) _ _ _ _ (resM m d) _ _)
  isplitl [Hb]; · iexact Hb
  isplitl [Ho]; · iexact Ho
  isplitl [Ha]; · iexact Ha
  iintro ⟨Hb, Ho, Ha⟩
  iapply (region_wp d (square m) (fun d => m (bLoc d)) _)
  isplitr [Hb Ha Hm Hdue Hlev Hg]
  · iintro ⟨Hb, Ha, Hm, Hdue⟩
    iapply (reshape_wp m d main_v2 main_v3 (by decide) _ _ _ _ (mean (square m) d) _ _)
    isplitl [Hb]; · iexact Hb
    isplitl [Hm]; · iexact Hm
    isplitl [Hc]; · iexact Hc
    iintro ⟨Hb, Hm, Hc⟩
    imodintro
    isplitl [Hdue HR]
    · iapply (Entails.of_eq hR.symm)
      isplitl [Hdue]; · iexact Hdue
      iexact HR
    isplitr [Hb Hts]
    · isplitl [Hx]; · iexact Hx
      isplitl [Hl]; · iexact Hl
      isplitl [Ht]; · iexact Ht
      iexact Hc
    isplitl [Hb] <;> iassumption
  isplitl [Hb]; · iexact Hb
  isplitl [Ha Hm Hdue]
  · isplitl [Ha]; · iexact Ha
    isplitl [Hm]; · iexact Hm
    iexact Hdue
  isplitl [Hlev]; · iexact Hlev
  iexact Hg

/-! ## The ghost state at launch -/

/-- The pipeline's part of the initial state. -/
def uP : UP := initOf (Pipeline.cells (Pipeline.pin (pcfgs (F := F)) adm) cellOf_inj) (Pipeline.launchToks (Pipeline.pin (pcfgs (F := F)) adm) cellOf_inj)
/-- The initial ghost state: the launches', the pipeline's, no counters. -/
def u₀ : UU := (initOf (K (F := F)).hsCells (K (F := F)).hsToks, (uP (F := F), 1))

/-- What the launch deals for the kernels' rounds, device by device. -/
theorem ghost_all : iprop((bigSep Finset.univ fun d : Dev nD => bigSep Finset.univ fun p : Fin 1 => Pipeline.cellsGhost (Pipeline.pin (pcfgs (F := F)) adm) EP p d)
      ∗ (bigSep Finset.univ fun d : Dev nD => bigSep Finset.univ fun p : Fin 1 => Pipeline.toksInit (Pipeline.pin (pcfgs (F := F)) adm) EP p d))
    = (bigSep Finset.univ (fun d : Dev nD => ghost d) : sProp 𝕄) := by
  unfold ghost
  rw [bigSep_sep', bigSep_congr fun _ _ => bigSep_univ_of_subsingleton (0 : Fin 1), bigSep_congr fun _ _ => bigSep_univ_of_subsingleton (0 : Fin 1)]

/-- The initial ghost state, dealt to the launches and the pipeline. -/
theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb embR _ _) $$ HR
  icases H with ⟨HP, -⟩
  ihave HP := (Entails.of_eq (show (BI.own (((Emb.inl : Emb UP (UP × Counters)).trans embR) (uP (F := F))) : sProp 𝕄) = BI.own (EP (initOf (Pipeline.cells (Pipeline.pin (pcfgs (F := F)) adm) cellOf_inj) (Pipeline.launchToks (Pipeline.pin (pcfgs (F := F)) adm) cellOf_inj))) from rfl)) $$ HP
  imod (Pipeline.fund_ghost (Pipeline.pin (pcfgs (F := F)) adm) EP cellOf_inj) $$ HP with ⟨Hg, Ht⟩
  imodintro
  isplitl [HH]; · iexact HH
  isplitl [Hg Ht]
  · iapply (Entails.of_eq ghost_all)
    isplitl [Hg] <;> iassumption
  rw [show (bigSep Finset.univ fun thr : Thread nD τ => bigSep Finset.univ fun q : Fin 1 => (P m).x q thr)
      = (bigSep Finset.univ fun _ : Thread nD τ => (BI.emp : sProp 𝕄)) from bigSep_congr fun _ _ => bigSep_univ_of_subsingleton (0 : Fin 1)]
  iapply (show (BI.emp : sProp 𝕄) ⊢ bigSep Finset.univ (fun _ : Thread nD τ => (BI.emp : sProp 𝕄)) from by rw [BI.bigSep_emp_const])
  iempintro

/-! ## The end -/

/-- What is read off a device's memory at the end. -/
def fq (d : Dev nD) (s' : Phys nD τ sig (Elt F)) : Prop :=
  s'.mem.mem (xLoc d) = m (xLoc d) ∧ s'.mem.mem (lLoc d) = m (lLoc d) ∧ s'.mem.mem (tLoc d) = m (tLoc d) ∧ s'.mem.mem (cLoc d) = final m d

/-- A buffer held whole is what the memory holds. -/
theorem mem_of_held {s' : Phys nD τ sig (Elt F)} {ℓ : Loc nD τ sig} {f : Buf (Elt F) ℓ} {R : sProp 𝕄} :
    iprop(((ℓ ↦{fullShare} f) ∗ R) ∗ SI s') ⊢ iprop(⌜s'.mem.mem ℓ = f⌝ ∗ R ∗ SI s') := by
  iintro ⟨⟨H, HR⟩, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr; · ipureintro; exact funext fun i => h i (Finset.mem_univ i)
  isplitl [HR]; · iexact HR
  iexact HSI

/-- What the main thread holds at its end says what the memory holds. -/
theorem hfin (d : Dev nD) (s' : Phys nD τ sig (Elt F)) : iprop(FIN m d ∗ SI s') ⊢ (⌜fq m d s'⌝ : sProp 𝕄) := by
  iintro H
  ihave H := mem_of_held $$ H
  icases H with ⟨%h1, H⟩
  ihave H := mem_of_held $$ H
  icases H with ⟨%h2, H⟩
  ihave H := mem_of_held $$ H
  icases H with ⟨%h3, H, HSI⟩
  ihave H := (mem_of_held (R := iprop(emp))) $$ [H HSI]
  · isplitl [H]
    · isplitl [H]; · iexact H
      iempintro
    · iexact HSI
  icases H with ⟨%h4, -⟩
  ipureintro; exact ⟨h1, h2, h3, h4⟩

/-- What every run ends in: the arguments as they were, the result, the semaphores at zero. -/
def QC : PUnit × MemSt nD τ sig (Elt F) → Prop := fun r =>
  (∀ d : Dev nD, r.2.mem (xLoc d) = m (xLoc d) ∧ r.2.mem (lLoc d) = m (lLoc d) ∧ r.2.mem (tLoc d) = m (tLoc d) ∧ r.2.mem (cLoc d) = final m d)
    ∧ r.2.sem = fun _ => 0

/-- The program's run, for either reading of the floats: the arguments end unchanged, the result is `final`, the counters are zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun d => ghost d) (FIN m) (u₀ (F := F)) (sep_elim_left.trans (hu₀ m)) (hmain m ρ) (fq m) (hfin m) (QC m) (fun _ h hz => ⟨h, hz⟩)

end Cert.Proof.Run

end
-- ==== Proof.Ref.lean ====
/- The reference's value, index by index: the rows named by labels in range, the squared distances, their clipped sum. -/
module

public import proofs.«01_k».proof.Proof.Vals
public import proofs.«01_k».proof.Proof.Gen.ReferenceIdeal
public import Idealize.ShloMosaic.Lib.ReduceAll
public import Idealize.ShloMosaic.Lib.Routing.Ops
public import Idealize.ShloMosaic.Lib.IdealHost

@[expose] public section

noncomputable section

namespace Cert.Proof.Ref

open Cert.ReferenceIdeal Cert.ReferenceIdeal.Gen Cert.Proof.Step Cert.Proof.Vals
open Idealize.ShloMosaic

variable (x : FVec Ideal S16384x128 .f32) (l : IVec S16384 32) (t : FVec Ideal S100000x128 .f32)

/-- The labels, a negative one counted from the end. -/
def words : IVec S16384 32 :=
  select (cmpi .slt l (broadcastInDim S16384 ![] bcast_S_S16384 (constantI S_ 32 0#32)))
    (addi l (broadcastInDim S16384 ![] bcast_S_S16384 (constantI S_ 32 100000#32))) l

/-- The labels as a column. -/
def cols : IVec S16384x1 32 := broadcastInDim S16384x1 ![0] bcast_S16384_S16384x1_0 (words l)

/-- Whether a row's label names a row of the table. -/
def mask : IVec S16384 1 :=
  Host.reduce IntOp.andi (andi (cmpi .sge (cols l) (broadcastInDim S16384x1 ![] bcast_S_S16384x1 (constantI S_ 32 0#32)))
    (cmpi .sle (cols l) (broadcastInDim S16384x1 ![0, 1] bcast_S1x1_S16384x1_0_1 (broadcastInDim S1x1 ![1] bcast_S1_S1x1_1 (constantI S1 32 99999#32)))))
    (constantI S_ 1 1#1) reducesTo_S16384x1_S16384_d1 h_S_

/-- The table's rows at the labels. -/
def taken : FVec Ideal S16384x128 .f32 :=
  select (broadcastInDim S16384x128 ![0] bcast_S16384_S16384x128_0 (mask l))
    (Host.gather gather_S100000x128_S16384x1_S16384x128_1_0_n_n_0_1_1128 t (cols l))
    (broadcastInDim S16384x128 ![] bcast_S_S16384x128 (constant S_ .f32 0x7FC00000#32))

/-- The squared distances of the rows. -/
def dist : FVec Ideal S16384 .f32 :=
  Host.reduceAdd (mulf (subf x (taken l t)) (subf x (taken l t))) (constant S_ .f32 0x00000000#32) reducesTo_S16384x128_S16384_d1 h_S_

/-- The reference's result. -/
def out : FVec Ideal S_ .f32 :=
  Host.divf (Host.reduceAdd (minimumf (broadcastInDim S16384 ![] bcast_S_S16384 (id (constant S_ .f32 0x5368D4A5#32)))
    (maximumf (broadcastInDim S16384 ![] bcast_S_S16384 (id (constant S_ .f32 0x2B8CBCCC#32))) (dist x l t)))
    (constant S_ .f32 0x00000000#32) reducesTo_S16384_S_d0 h_S_) (constant S_ .f32 0x46800000#32)

/-! ## The labels -/

/-- A word below 100000 is not negative and not above 99999. -/
theorem cmp_word {w : BitVec 32} (h : w.toNat < 100000) :
    IntOp.cmpi .slt w 0#32 = 0#1 ∧ IntOp.cmpi .sge w 0#32 = 1#1 ∧ IntOp.cmpi .sle w 99999#32 = 1#1 := by
  have hw : w.toInt = w.toNat := by rw [BitVec.toInt_eq_toNat_cond]; omega
  have h0 : (0#32 : BitVec 32).toInt = 0 := by decide
  have h9 : (99999#32 : BitVec 32).toInt = 99999 := by decide
  refine ⟨?_, ?_, ?_⟩
  · show BitVec.ofBool (w.slt 0#32) = _
    rw [BitVec.slt_eq_decide, decide_eq_false (by omega)]; rfl
  · show BitVec.ofBool ((0#32 : BitVec 32).sle w) = _
    rw [BitVec.sle_eq_decide, decide_eq_true (by omega)]; rfl
  · show BitVec.ofBool (w.sle 99999#32) = _
    rw [BitVec.sle_eq_decide, decide_eq_true (by omega)]; rfl

variable (hl : ∀ n, (l n).toNat < 100000)

include hl in
/-- Labels within the table are not wrapped around. -/
theorem words_eq : words l = l := by
  funext n
  show Scalar.select (IntOp.cmpi .slt (l n) 0#32) _ (l n) = l n
  rw [(cmp_word (hl n)).1]
  rfl

include hl in
/-- The column of row numbers holds the labels. -/
theorem cols_apply (p : S16384x1.Idx) : cols l p = l (at1 (p 0).val) := by
  unfold cols
  rw [words_eq l hl]
  refine congrArg l (funext fun a => ?_)
  have hp : (p 0).val < 16384 := (p 0).isLt
  match a with
  | ⟨0, _⟩ => exact Fin.ext (show (p 0).val = (p 0).val % 16384 by omega)

include hl in
/-- Labels within the table pass the check on rows. -/
theorem mask_eq (n : S16384.Idx) : mask l n = 1#1 := by
  refine Host.reduce_andi_one _ _ _ _ _ rfl fun p => ?_
  show IntOp.andi (IntOp.cmpi .sge (cols l p) 0#32) (IntOp.cmpi .sle (cols l p) 99999#32) = 1#1
  rw [cols_apply l hl, (cmp_word (hl _)).2.1, (cmp_word (hl _)).2.2]
  rfl

/-- A choice where its mask is set. -/
theorem select_one {α : Type} {s : Shape} (c : IVec s 1) (a b : s.Idx → α) (i : s.Idx) (h : c i = 1#1) : select c a b i = a i := if_pos h

include hl in
/-- The mask along the rows is set. -/
theorem mask_row (p : S16384x128.Idx) : broadcastInDim S16384x128 ![0] bcast_S16384_S16384x128_0 (mask l) p = 1#1 := mask_eq l hl _

include hl in
/-- With the labels in range, the rows taken are the table's at the labels. -/
theorem taken_apply (r : Fin 16384) (k : Fin 128) : taken l t (ix2 r k) = t (atT (l (at1 r.val)).toNat k.val) := by
  have hb : cols l (ix2 r (0 : Fin 1)) = BitVec.ofNat 32 (l (at1 r.val)).toNat := by
    rw [cols_apply l hl]
    exact (BitVec.eq_of_toNat_eq (by rw [BitVec.toNat_ofNat]; exact Nat.mod_eq_of_lt (l (at1 r.val)).isLt)).symm
  unfold taken
  rw [select_one _ _ _ _ (mask_row l hl (ix2 r k))]
  refine (Routing.gather_row gather_S100000x128_S16384x1_S16384x128_1_0_n_n_0_1_1128 rfl rfl rfl rfl rfl t (cols l) r k
    ⟨(l (at1 r.val)).toNat, hl _⟩ hb (by norm_num)).trans ?_
  refine congrArg t (funext fun a => ?_)
  match a with
  | ⟨0, _⟩ => exact Fin.ext (Nat.mod_eq_of_lt (hl _)).symm
  | ⟨1, _⟩ => exact Fin.ext (Nat.mod_eq_of_lt k.isLt).symm

/-! ## The sums -/

/-- Squares added in order from zero are their sum. -/
theorem part_eq_sum (a b : ℕ → Ideal .f32) (n : ℕ) : part a b n = ∑ k : Fin n, ((a k - b k) * (a k - b k) : EReal) := by
  induction n with
  | zero => exact (Ideal.ofBits_zero_f32).trans (Finset.sum_empty).symm
  | succ n ih =>
    rw [Fin.sum_univ_castSucc]
    show (part a b n + (a n - b n) * (a n - b n) : EReal) = _
    rw [ih]
    rfl

include hl in
/-- The distance of a row: the squares of its differences added in order. -/
theorem dist_apply (r : S16384.Idx) :
    dist x l t r = part (fun k => x (atX (r 0).val k)) (fun k => t (atT (l (at1 (r 0).val)).toNat k)) 128 := by
  have hR : S16384x128.Reduces [1] S16384 := by decide
  refine (Ideal.hostReduceAdd_single reducesTo_S16384x128_S16384_d1 hR _ _ r).trans ?_
  rw [part_eq_sum]
  show (Ideal.ofBits .f32 0x00000000#32 : EReal) + _ = _
  rw [Ideal.ofBits_zero_f32, zero_add]
  refine Finset.sum_congr rfl fun k _ => ?_
  have e : hR.lift r k = atX (r 0).val k.val := by
    have hr : (r 0).val < 16384 := (r 0).isLt
    funext a
    match a with
    | ⟨0, _⟩ => exact Fin.ext (Nat.mod_eq_of_lt hr).symm
    | ⟨1, _⟩ => exact Fin.ext (Nat.mod_eq_of_lt k.isLt).symm
  have e' : (ix2 (show Fin 16384 from r 0) (show Fin 128 from k) : S16384x128.Idx) = atX (r 0).val k.val := by
    have hr : (r 0).val < 16384 := (r 0).isLt
    funext a
    match a with
    | ⟨0, _⟩ => exact Fin.ext (Nat.mod_eq_of_lt hr).symm
    | ⟨1, _⟩ => exact Fin.ext (Nat.mod_eq_of_lt k.isLt).symm
  have ht : taken l t (atX (r 0).val k.val) = t (atT (l (at1 (r 0).val)).toNat k.val) :=
    (congrArg (taken l t) e'.symm).trans (taken_apply l t hl (r 0) k)
  rw [e]
  show (x (atX (r 0).val k.val) - taken l t (atX (r 0).val k.val)) * (x (atX (r 0).val k.val) - taken l t (atX (r 0).val k.val)) = _
  rw [ht]

/-- A value clipped. -/
def clip (v : EReal) : EReal := min (Ideal.ofBits .f32 0x5368D4A5#32) (max (Ideal.ofBits .f32 0x2B8CBCCC#32) v)

/-- A sixteen thousand three hundred and eighty-fourth: dividing by `16384` is multiplying by its reciprocal's pattern. -/
theorem div_eq (v : EReal) : Ideal.div v (Ideal.ofBits .f32 0x46800000#32) = v * Ideal.ofBits .f32 0x38800000#32 := by
  have h1 : Ideal.ofBits .f32 0x46800000#32 = ((16384 : ℝ) : EReal) := by
    simp [Ideal.ofBits, Ideal.ieee, -EReal.coe_mul]; norm_num
  have h2 : Ideal.ofBits .f32 0x38800000#32 = (((1 : ℝ) / 16384 : ℝ) : EReal) := by
    simp [Ideal.ofBits, Ideal.ieee, -EReal.coe_mul]; norm_num
  rw [h1, h2, Ideal.div_coe (by norm_num)]

/-- The reference's result: the clipped distances' sum over `16384`. -/
theorem out_apply (i : S_.Idx) : out x l t i = (∑ r : S16384.Idx, clip (dist x l t r)) * Ideal.ofBits .f32 0x38800000#32 := by
  refine Eq.trans ?_ (div_eq _)
  show Ideal.div (Ideal.hostReduceAdd reducesTo_S16384_S_d0 _ _ i) _ = _
  rw [Ideal.hostReduceAdd_total reducesTo_S16384_S_d0 (fun b => b.elim0)]
  refine congrArg (fun v => Ideal.div v (Ideal.ofBits .f32 0x46800000#32)) ?_
  show (Ideal.ofBits .f32 0x00000000#32 : EReal) + _ = _
  rw [Ideal.ofBits_zero_f32, zero_add]
  rfl

end Cert.Proof.Ref

end
-- ==== Proof.Value.lean ====
/- The program's value is the reference's. -/
module

public import proofs.«01_k».proof.Proof.Run
public import proofs.«01_k».proof.Proof.Ref

@[expose] public section

noncomputable section

namespace Cert.Proof.Value

open Cert.KernelIdeal Cert.KernelIdeal.Gen Cert.Proof.Setup Cert.Proof.Vals Cert.Proof.Split Cert.Proof.Finish Cert.Proof.Run
open Idealize.ShloMosaic

/-- The TensorCore kernel's result: its operand's elements clipped, added and scaled. -/
theorem pay_apply (a : FVec Ideal S128x128 .f32) (i : S1x1.Idx) :
    k1_pay1 (F := Ideal) a i = (∑ p : S128x128.Idx, Ref.clip (a p)) * Ideal.ofBits .f32 0x38800000#32 := by
  have hs : ∀ (v : FVec Ideal S1x128x128 .f32) (j : S1.Idx),
      multiReduction .add [1, 2] S1 v 0x00000000#32 reduces_S1x128x128_S1 (.inl rfl) rfl j = ∑ p : S1x128x128.Idx, v p := fun v j =>
    Ideal.multiReduction_add_total v _ reduces_S1x128x128_S1 (fun b => by fin_cases b; rfl) _ _ j
  let w : FVec Ideal S128x128 .f32 := fun p => Ref.clip (shapeCast S128x128 a shapeCasts_S128x128_S128x128 p)
  show (multiReduction .add [1, 2] S1 (shapeCast S1x128x128 w shapeCasts_S128x128_S1x128x128) 0x00000000#32 reduces_S1x128x128_S1 (.inl rfl) rfl _ : EReal)
    * Ideal.ofBits .f32 0x38800000#32 = _
  rw [hs]
  refine congrArg (· * Ideal.ofBits .f32 0x38800000#32) ?_
  refine (Equiv.sum_comp (Shape.reshapeEquiv shapeCasts_S128x128_S1x128x128) w).trans ?_
  exact Equiv.sum_comp (Shape.reshapeEquiv shapeCasts_S128x128_S128x128) fun p => Ref.clip (a p)

variable (m : (ℓ : Loc nD τ sig) → Buf (Elt Ideal) ℓ)

/-- What the program leaves: the reference's value of its arguments, where the labels name rows of the table. -/
theorem final_eq (hpre : PreOK m) (d : Dev nD) :
    (final m d : FVec Ideal S_ .f32) = Ref.out (m (xLoc d)) (m (lLoc d)) (m (tLoc d)) := by
  funext i
  rw [Ref.out_apply]
  refine (pay_apply (square m d) _).trans (congrArg (· * Ideal.ofBits .f32 0x38800000#32) ?_)
  refine (Equiv.sum_comp (Shape.reshapeEquiv shapeCasts_S16384_S128x128) fun p => Ref.clip (resM m d p)).trans ?_
  refine Finset.sum_congr rfl fun r _ => congrArg Ref.clip ?_
  exact (Ref.dist_apply _ _ _ (hpre d) r).symm

end Cert.Proof.Value

end
-- ==== Proof.lean ====
/- The claims: the kernel's frames, the reference's, and that both end with one value. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Value
public import Idealize.ShloMosaic.Lib.Quiescent

@[expose] public section

noncomputable section

namespace Cert.Proof

open Idealize.ShloMosaic Idealize.ShloMosaic.TcCoe Idealize.SL.Sem

/-- Labels that meet the precondition name rows of the table. -/
theorem labels_lt {F : FTy → Type} [FloatOps F] (x : FVec F Cert.Pre_in_range.S16384x128 .f32) (l : IVec Cert.Pre_in_range.S16384 32)
    (t : FVec F Cert.Pre_in_range.S100000x128 .f32) (h : Cert.Pre_in_range.fn (F := F) x l t = fun _ => 1#1) (n : Cert.Pre_in_range.S16384.Idx) :
    (l n).toNat < 100000 := by
  have : Subsingleton Cert.Pre_in_range.S_.Idx := ⟨fun a b => funext fun i => i.elim0⟩
  obtain ⟨h1, h2⟩ := IntOp.andi_eq_one.1 (congrFun h (fun i => i.elim0))
  have e1 : BitVec.ofBool ((0#32 : BitVec 32).sle (l n)) = 1#1 := Host.reduce_andi_all _ _ _ _ _ h1 n
  have e2 : BitVec.ofBool ((l n).slt 100000#32) = 1#1 := Host.reduce_andi_all _ _ _ _ _ h2 n
  have ob : ∀ b : Bool, BitVec.ofBool b = 1#1 → b = true := by decide
  have b1 := ob _ e1
  have b2 := ob _ e2
  simp only [BitVec.sle_eq_decide, BitVec.slt_eq_decide, decide_eq_true_eq, BitVec.toInt_eq_toNat_cond, BitVec.toNat_ofNat, Nat.reducePow, Nat.reduceMod] at b1 b2
  omega

section Tables

variable {F : FTy → Type} [FloatOps F] [Cert.Kernel.Facts] [Cert.KernelIdeal.Facts]

/-- The finishing body of the kernel, printed for either reading of its floats, is one program. -/
theorem finish_eq (a0 h0 a1 h1) : Cert.Kernel.cc1__tc_finish (F := F) a0 h0 a1 h1 = Cert.KernelIdeal.cc1__tc_finish (F := F) a0 h0 a1 h1 := by
  unfold Cert.Kernel.cc1__tc_finish Cert.KernelIdeal.cc1__tc_finish
  refine congrArg₂ _ rfl ?_
  funext v0
  exact congrArg₂ _ rfl rfl

/-- So are the two tables of bodies: the tiles' bodies are one text, the finishing bodies by `finish_eq`. -/
theorem bodies_eq : Cert.Kernel.defs₀ (F := F) = Cert.KernelIdeal.defs₀ (F := F) := by
  funext p ℓ a
  unfold Cert.Kernel.defs₀ Cert.KernelIdeal.defs₀
  match p, ℓ, a with
  | .tc, 0, a => rfl
  | .tc, 1, (t, s) => exact finish_eq _ _ _ _
  | .scScalar _, 0, a => rfl
  | .scScalar _, 1, a => rfl
  | .scVector _ _, 0, a => rfl
  | .scVector _ _, 1, a => rfl

/-- And the tables with the launches around the bodies. -/
theorem defs_eq : Cert.Kernel.defs (F := F) = Cert.KernelIdeal.defs (F := F) :=
  congrArg (fun d => Cert.KernelIdeal.sc.defs (Pipeline.defs Cert.KernelIdeal.pcfgs d)) bodies_eq

end Tables

/-- The kernel's frame: it runs, its arguments end unchanged, the counters at zero. -/
theorem frame_kernel : Cert.quiescent_Kernel := by
  intro m ρ h
  rw [defs_eq]
  exact (θ_run Cert.KernelIdeal.defs _ _).mono (fun _ h => ⟨fun c => ⟨(h.1 c).1, (h.1 c).2.1, (h.1 c).2.2.1⟩, h.2⟩)
    (Run.run_main (F := Bits) m ρ fun d n => labels_lt _ _ _ (h d) n)

/-- The same at the ideal values. -/
theorem frame_kernelIdeal : Cert.quiescent_KernelIdeal := fun m ρ h =>
  (θ_run Cert.KernelIdeal.defs _ _).mono (fun _ h => ⟨fun c => ⟨(h.1 c).1, (h.1 c).2.1, (h.1 c).2.2.1⟩, h.2⟩)
    (Run.run_main (F := Ideal) m ρ fun d n => labels_lt _ _ _ (h d) n)

/-- The reference's frame; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with one value, the clipped squared distances' mean. -/
theorem algebraic : Cert.algebraic_KernelIdeal_ReferenceIdeal := by
  intro m ρ m' ρ' h hagree
  have hpre : Split.PreOK m := fun d n => labels_lt _ _ _ (h d) n
  refine ⟨fun c => Run.final m c,
    (θ_run Cert.KernelIdeal.defs _ _).mono (fun _ h c => ⟨(h.1 c).2.2.2, (h.1 c).1, (h.1 c).2.1, (h.1 c).2.2.1⟩) (Run.run_main (F := Ideal) m ρ hpre), ?_⟩
  refine (θ_run Cert.ReferenceIdeal.defs _ _).mono (fun _ h c => ⟨?_, (h c).2⟩) (Cert.ReferenceIdeal.Value.run (F := Ideal) m' ρ')
  refine (h c).1.trans ?_
  obtain ⟨hx, hl, ht⟩ := hagree c
  rw [hx, hl, ht]
  exact (Value.final_eq m hpre c).symm

/-- The claims. -/
theorem claim : Cert.Claim :=
  ⟨Cert.Kernel.Gen.facts, Cert.KernelIdeal.Gen.facts, Cert.ReferenceIdeal.Gen.facts, Cert.Pre_in_range.Gen.facts,
    frame_kernel, frame_kernelIdeal, frame_reference, trivial, algebraic⟩

end Cert.Proof

end
